-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Dec [hPre_slots_in_range : Cert.Pre_slots_in_range.Facts] (m : (ℓ : Loc Cert.Dec.nD Cert.Dec.τ Cert.Dec.sig) → Buf (Elt Bits) ℓ) : Prop :=
  ∀ c : Dev Cert.Dec.nD,
    (Cert.Pre_slots_in_range.fn (F := Bits) (m ((c.tc : Thread Cert.Dec.nD Cert.Dec.τ).loc Cert.Dec.main_arg0)) (m ((c.tc : Thread Cert.Dec.nD Cert.Dec.τ).loc Cert.Dec.main_arg1)) (m ((c.tc : Thread Cert.Dec.nD Cert.Dec.τ).loc Cert.Dec.main_arg2)) (m ((c.tc : Thread Cert.Dec.nD Cert.Dec.τ).loc Cert.Dec.main_arg3)) (m ((c.tc : Thread Cert.Dec.nD Cert.Dec.τ).loc Cert.Dec.main_arg4)) (m ((c.tc : Thread Cert.Dec.nD Cert.Dec.τ).loc Cert.Dec.main_arg5)) (m ((c.tc : Thread Cert.Dec.nD Cert.Dec.τ).loc Cert.Dec.main_arg6)) (m ((c.tc : Thread Cert.Dec.nD Cert.Dec.τ).loc Cert.Dec.main_arg7)) (m ((c.tc : Thread Cert.Dec.nD Cert.Dec.τ).loc Cert.Dec.main_arg8)) (m ((c.tc : Thread Cert.Dec.nD Cert.Dec.τ).loc Cert.Dec.main_arg9))) = (fun _ => 1#1)

def Pre_DecIdeal [hPre_slots_in_range : Cert.Pre_slots_in_range.Facts] (m : (ℓ : Loc Cert.DecIdeal.nD Cert.DecIdeal.τ Cert.DecIdeal.sig) → Buf (Elt Ideal) ℓ) : Prop :=
  ∀ c : Dev Cert.DecIdeal.nD,
    (Cert.Pre_slots_in_range.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4)) (m ((c.tc : Thread Cert.DecIdeal.nD Cert.DecIdeal.τ).loc Cert.DecIdeal.main_arg5)) (m ((c.tc : Thread Cert.DecIdeal.nD Cert.DecIdeal.τ).loc Cert.DecIdeal.main_arg6)) (m ((c.tc : Thread Cert.DecIdeal.nD Cert.DecIdeal.τ).loc Cert.DecIdeal.main_arg7)) (m ((c.tc : Thread Cert.DecIdeal.nD Cert.DecIdeal.τ).loc Cert.DecIdeal.main_arg8)) (m ((c.tc : Thread Cert.DecIdeal.nD Cert.DecIdeal.τ).loc Cert.DecIdeal.main_arg9))) = (fun _ => 1#1)

def Pre_DecRefIdeal (m : (ℓ : Loc Cert.DecRefIdeal.nD Cert.DecRefIdeal.τ Cert.DecRefIdeal.sig) → Buf (Elt Ideal) ℓ) : Prop :=
  True

def Pre_DecRefIdeal_slots_in_range [hPre_slots_in_range : Cert.Pre_slots_in_range.Facts] (m : (ℓ : Loc Cert.DecRefIdeal.nD Cert.DecRefIdeal.τ Cert.DecRefIdeal.sig) → Buf (Elt Ideal) ℓ) : Prop :=
  ∀ c : Dev Cert.DecRefIdeal.nD,
    (Cert.Pre_slots_in_range.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4)) (m ((c.tc : Thread Cert.DecRefIdeal.nD Cert.DecRefIdeal.τ).loc Cert.DecRefIdeal.main_arg5)) (m ((c.tc : Thread Cert.DecRefIdeal.nD Cert.DecRefIdeal.τ).loc Cert.DecRefIdeal.main_arg6)) (m ((c.tc : Thread Cert.DecRefIdeal.nD Cert.DecRefIdeal.τ).loc Cert.DecRefIdeal.main_arg7)) (m ((c.tc : Thread Cert.DecRefIdeal.nD Cert.DecRefIdeal.τ).loc Cert.DecRefIdeal.main_arg8)) (m ((c.tc : Thread Cert.DecRefIdeal.nD Cert.DecRefIdeal.τ).loc Cert.DecRefIdeal.main_arg9))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Dec [hDec : Cert.Dec.Facts] [hPre_slots_in_range : Cert.Pre_slots_in_range.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5)
      ∧ r.2.mem ((c.tc : Thread Cert.Dec.nD Cert.Dec.τ).loc Cert.Dec.main_arg6) = m ((c.tc : Thread Cert.Dec.nD Cert.Dec.τ).loc Cert.Dec.main_arg6)
      ∧ r.2.mem ((c.tc : Thread Cert.Dec.nD Cert.Dec.τ).loc Cert.Dec.main_arg7) = m ((c.tc : Thread Cert.Dec.nD Cert.Dec.τ).loc Cert.Dec.main_arg7)
      ∧ r.2.mem ((c.tc : Thread Cert.Dec.nD Cert.Dec.τ).loc Cert.Dec.main_arg8) = m ((c.tc : Thread Cert.Dec.nD Cert.Dec.τ).loc Cert.Dec.main_arg8)
      ∧ r.2.mem ((c.tc : Thread Cert.Dec.nD Cert.Dec.τ).loc Cert.Dec.main_arg9) = m ((c.tc : Thread Cert.Dec.nD Cert.Dec.τ).loc Cert.Dec.main_arg9))
      ∧ r.2.sem = fun _ => 0)

def quiescent_DecIdeal [hDecIdeal : Cert.DecIdeal.Facts] [hPre_slots_in_range : Cert.Pre_slots_in_range.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
      ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
      ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
      ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
      ∧ r.2.mem ((c.tc : Thread Cert.DecIdeal.nD Cert.DecIdeal.τ).loc Cert.DecIdeal.main_arg9) = m ((c.tc : Thread Cert.DecIdeal.nD Cert.DecIdeal.τ).loc Cert.DecIdeal.main_arg9))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m ((c.tc : Thread Cert.DecRefIdeal.nD Cert.DecRefIdeal.τ).loc Cert.DecRefIdeal.main_arg8)
      ∧ r.2.mem ((c.tc : Thread Cert.DecRefIdeal.nD Cert.DecRefIdeal.τ).loc Cert.DecRefIdeal.main_arg9) = m ((c.tc : Thread Cert.DecRefIdeal.nD Cert.DecRefIdeal.τ).loc Cert.DecRefIdeal.main_arg9))
      ∧ r.2.sem = fun _ => 0)

def quiescent_DecRefIdeal_pre_slots_in_range [hDecRefIdeal : Cert.DecRefIdeal.Facts] [hPre_slots_in_range : Cert.Pre_slots_in_range.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal_slots_in_range m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m ((c.tc : Thread Cert.DecRefIdeal.nD Cert.DecRefIdeal.τ).loc Cert.DecRefIdeal.main_arg8)
      ∧ r.2.mem ((c.tc : Thread Cert.DecRefIdeal.nD Cert.DecRefIdeal.τ).loc Cert.DecRefIdeal.main_arg9) = m ((c.tc : Thread Cert.DecRefIdeal.nD Cert.DecRefIdeal.τ).loc Cert.DecRefIdeal.main_arg9))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v2_0) = v0 c
          ∧ r.2.mem ((c.tc : Thread Cert.FfnRefIdeal.nD Cert.FfnRefIdeal.τ).loc Cert.FfnRefIdeal.main_v2_1) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)) (v3 : (c : Dev Cert.OutProjIdeal.nD) → Buf (Elt Ideal) ((c.tc : Thread Cert.OutProjIdeal.nD Cert.OutProjIdeal.τ).loc Cert.OutProjIdeal.main_v3_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_v3_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3_0) = v0 c
          ∧ r.2.mem ((c.tc : Thread Cert.OutProjRefIdeal.nD Cert.OutProjRefIdeal.τ).loc Cert.OutProjRefIdeal.main_v3_1) = v1 c
          ∧ r.2.mem ((c.tc : Thread Cert.OutProjRefIdeal.nD Cert.OutProjRefIdeal.τ).loc Cert.OutProjRefIdeal.main_v3_2) = v2 c
          ∧ r.2.mem ((c.tc : Thread Cert.OutProjRefIdeal.nD Cert.OutProjRefIdeal.τ).loc Cert.OutProjRefIdeal.main_v3_3) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Dec_DecIdeal : Prop :=
  True

def algebraic_DecIdeal_DecRefIdeal [hDecIdeal : Cert.DecIdeal.Facts] [hDecRefIdeal : Cert.DecRefIdeal.Facts] [hPre_slots_in_range : Cert.Pre_slots_in_range.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)
      ∧ m' ((c.tc : Thread Cert.DecRefIdeal.nD Cert.DecRefIdeal.τ).loc Cert.DecRefIdeal.main_arg4) = m ((c.tc : Thread Cert.DecIdeal.nD Cert.DecIdeal.τ).loc Cert.DecIdeal.main_arg4)
      ∧ m' ((c.tc : Thread Cert.DecRefIdeal.nD Cert.DecRefIdeal.τ).loc Cert.DecRefIdeal.main_arg5) = m ((c.tc : Thread Cert.DecIdeal.nD Cert.DecIdeal.τ).loc Cert.DecIdeal.main_arg5)
      ∧ m' ((c.tc : Thread Cert.DecRefIdeal.nD Cert.DecRefIdeal.τ).loc Cert.DecRefIdeal.main_arg6) = m ((c.tc : Thread Cert.DecIdeal.nD Cert.DecIdeal.τ).loc Cert.DecIdeal.main_arg6)
      ∧ m' ((c.tc : Thread Cert.DecRefIdeal.nD Cert.DecRefIdeal.τ).loc Cert.DecRefIdeal.main_arg7) = m ((c.tc : Thread Cert.DecIdeal.nD Cert.DecIdeal.τ).loc Cert.DecIdeal.main_arg7)
      ∧ m' ((c.tc : Thread Cert.DecRefIdeal.nD Cert.DecRefIdeal.τ).loc Cert.DecRefIdeal.main_arg8) = m ((c.tc : Thread Cert.DecIdeal.nD Cert.DecIdeal.τ).loc Cert.DecIdeal.main_arg8)
      ∧ m' ((c.tc : Thread Cert.DecRefIdeal.nD Cert.DecRefIdeal.τ).loc Cert.DecRefIdeal.main_arg9) = m ((c.tc : Thread Cert.DecIdeal.nD Cert.DecIdeal.τ).loc Cert.DecIdeal.main_arg9)) →
    ∃ (v0 : (c : Dev Cert.DecIdeal.nD) → Buf (Elt Ideal) ((c.tc : Thread Cert.DecIdeal.nD Cert.DecIdeal.τ).loc Cert.DecIdeal.main_v0_3)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v0_3) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
          ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
          ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
          ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
          ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
          ∧ r.2.mem ((c.tc : Thread Cert.DecIdeal.nD Cert.DecIdeal.τ).loc Cert.DecIdeal.main_arg9) = m ((c.tc : Thread Cert.DecIdeal.nD Cert.DecIdeal.τ).loc Cert.DecIdeal.main_arg9))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v8) = v0 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
          ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4)
          ∧ r.2.mem ((c.tc : Thread Cert.DecRefIdeal.nD Cert.DecRefIdeal.τ).loc Cert.DecRefIdeal.main_arg5) = m' ((c.tc : Thread Cert.DecRefIdeal.nD Cert.DecRefIdeal.τ).loc Cert.DecRefIdeal.main_arg5)
          ∧ r.2.mem ((c.tc : Thread Cert.DecRefIdeal.nD Cert.DecRefIdeal.τ).loc Cert.DecRefIdeal.main_arg6) = m' ((c.tc : Thread Cert.DecRefIdeal.nD Cert.DecRefIdeal.τ).loc Cert.DecRefIdeal.main_arg6)
          ∧ r.2.mem ((c.tc : Thread Cert.DecRefIdeal.nD Cert.DecRefIdeal.τ).loc Cert.DecRefIdeal.main_arg7) = m' ((c.tc : Thread Cert.DecRefIdeal.nD Cert.DecRefIdeal.τ).loc Cert.DecRefIdeal.main_arg7)
          ∧ r.2.mem ((c.tc : Thread Cert.DecRefIdeal.nD Cert.DecRefIdeal.τ).loc Cert.DecRefIdeal.main_arg8) = m' ((c.tc : Thread Cert.DecRefIdeal.nD Cert.DecRefIdeal.τ).loc Cert.DecRefIdeal.main_arg8)
          ∧ r.2.mem ((c.tc : Thread Cert.DecRefIdeal.nD Cert.DecRefIdeal.τ).loc Cert.DecRefIdeal.main_arg9) = m' ((c.tc : Thread Cert.DecRefIdeal.nD Cert.DecRefIdeal.τ).loc Cert.DecRefIdeal.main_arg9))

def Claim : Prop :=
  ∃ (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hDec : Cert.Dec.Facts) (hDecIdeal : Cert.DecIdeal.Facts) (hDecRefIdeal : Cert.DecRefIdeal.Facts) (hPre_slots_in_range : Cert.Pre_slots_in_range.Facts),
    quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Dec (hDec := hDec) (hPre_slots_in_range := hPre_slots_in_range)
    ∧ quiescent_DecIdeal (hDecIdeal := hDecIdeal) (hPre_slots_in_range := hPre_slots_in_range)
    ∧ quiescent_DecRefIdeal (hDecRefIdeal := hDecRefIdeal)
    ∧ quiescent_DecRefIdeal_pre_slots_in_range (hDecRefIdeal := hDecRefIdeal) (hPre_slots_in_range := hPre_slots_in_range)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_Dec_DecIdeal
    ∧ algebraic_DecIdeal_DecRefIdeal (hDecIdeal := hDecIdeal) (hDecRefIdeal := hDecRefIdeal) (hPre_slots_in_range := hPre_slots_in_range)
-- ==== Pre_slots_in_range.lean ====
abbrev S67 : Shape := ⟨1, ![67]⟩
abbrev S86x2048x128 : Shape := ⟨3, ![86, 2048, 128]⟩
abbrev S86x1x2048 : Shape := ⟨3, ![86, 1, 2048]⟩
abbrev S86x3x2560 : Shape := ⟨3, ![86, 3, 2560]⟩
abbrev S20x2176x128 : Shape := ⟨3, ![20, 2176, 128]⟩
abbrev S2176x128 : Shape := ⟨2, ![2176, 128]⟩
abbrev S4x2560 : Shape := ⟨2, ![4, 2560]⟩
abbrev S1x2560 : Shape := ⟨2, ![1, 2560]⟩
abbrev S1x128 : Shape := ⟨2, ![1, 128]⟩
abbrev S1x2048 : Shape := ⟨2, ![1, 2048]⟩
abbrev S_ : Shape := ⟨0, ![]⟩

class Facts : Prop where
  bcast_S_S67 : S_.BroadcastsInDim S67 (![] : Fin 0 → Fin S67.rank)

variable [Facts]

def fn {F : FTy → Type} [FloatOps F] (main_arg0 : IVec S67 32) (main_arg1 : IVec S86x2048x128 8) (main_arg2 : FVec F S86x1x2048 .f32) (main_arg3 : FVec F S86x3x2560 .bf16) (main_arg4 : FVec F S20x2176x128 .f32) (main_arg5 : FVec F S2176x128 .f32) (main_arg6 : FVec F S4x2560 .f32) (main_arg7 : FVec F S1x2560 .f32) (main_arg8 : FVec F S1x128 .f32) (main_arg9 : FVec F S1x2048 .f32) : IVec S67 1 :=
  let main_c : IVec S_ 32 := constantI S_ 32 0#32
  let main_v0 : IVec S67 32 := broadcastInDim S67 ![] bcast_S_S67 main_c
  let main_v1 : IVec S67 1 := cmpi .sge main_arg0 main_v0
  let main_c_0 : IVec S_ 32 := constantI S_ 32 86#32
  let main_v2 : IVec S67 32 := broadcastInDim S67 ![] bcast_S_S67 main_c_0
  let main_v3 : IVec S67 1 := cmpi .slt main_arg0 main_v2
  let main_v4 : IVec S67 1 := andi main_v1 main_v3
  main_v4
-- ==== Ffn.lean ====
abbrev S1980x4096 : Shape := ⟨2, ![1980, 4096]⟩
abbrev S1 : Shape := ⟨1, ![1]⟩
abbrev S4096x5376 : Shape := ⟨2, ![4096, 5376]⟩
abbrev S5376 : Shape := ⟨1, ![5376]⟩
abbrev S5376x4096 : Shape := ⟨2, ![5376, 4096]⟩
abbrev S4096 : Shape := ⟨1, ![4096]⟩
abbrev S7x1x768 : Shape := ⟨3, ![7, 1, 768]⟩
abbrev S8x1x512 : Shape := ⟨3, ![8, 1, 512]⟩
abbrev S1980x5376 : Shape := ⟨2, ![1980, 5376]⟩
abbrev S4096x768 : Shape := ⟨2, ![4096, 768]⟩
abbrev S1x1x768 : Shape := ⟨3, ![1, 1, 768]⟩
abbrev S5376x512 : Shape := ⟨2, ![5376, 512]⟩
abbrev S1x1x512 : Shape := ⟨3, ![1, 1, 512]⟩
abbrev S1980x512 : Shape := ⟨2, ![1980, 512]⟩
abbrev S1980x768 : Shape := ⟨2, ![1980, 768]⟩
abbrev S7x1980x768 : Shape := ⟨3, ![7, 1980, 768]⟩
abbrev S256x4096 : Shape := ⟨2, ![256, 4096]⟩
abbrev S4096x256 : Shape := ⟨2, ![4096, 256]⟩
abbrev S256x256 : Shape := ⟨2, ![256, 256]⟩
abbrev S1x1x256 : Shape := ⟨3, ![1, 1, 256]⟩
abbrev S1x256 : Shape := ⟨2, ![1, 256]⟩
abbrev S1x256x256 : Shape := ⟨3, ![1, 256, 256]⟩
abbrev S188x4096 : Shape := ⟨2, ![188, 4096]⟩
abbrev S188x256 : Shape := ⟨2, ![188, 256]⟩
abbrev S1x188x256 : Shape := ⟨3, ![1, 188, 256]⟩
abbrev S1x256x768 : Shape := ⟨3, ![1, 256, 768]⟩
abbrev S256x768 : Shape := ⟨2, ![256, 768]⟩
abbrev S768x256 : Shape := ⟨2, ![768, 256]⟩
abbrev S1x188x768 : Shape := ⟨3, ![1, 188, 768]⟩
abbrev S188x768 : Shape := ⟨2, ![188, 768]⟩

abbrev nBuf : Space → Nat
  | .hbm => 12
  | .vmem => 16
  | .smem => 2
  | _ => 0

abbrev bufTy : (tb : Table) → Fin (tcTables nBuf tb) → BufTy
  | .hbm, ⟨0, _⟩ => ⟨S1980x4096, .fp8e4m3⟩
  | .hbm, ⟨1, _⟩ => ⟨S1980x4096, .f32⟩
  | .hbm, ⟨2, _⟩ => ⟨S1, .f32⟩
  | .hbm, ⟨3, _⟩ => ⟨S4096x5376, .fp8e4m3⟩
  | .hbm, ⟨4, _⟩ => ⟨S5376, .f32⟩
  | .hbm, ⟨5, _⟩ => ⟨S1, .f32⟩
  | .hbm, ⟨6, _⟩ => ⟨S5376x4096, .fp8e4m3⟩
  | .hbm, ⟨7, _⟩ => ⟨S4096, .f32⟩
  | .hbm, ⟨8, _⟩ => ⟨S7x1x768, .f32⟩
  | .hbm, ⟨9, _⟩ => ⟨S8x1x512, .f32⟩
  | .hbm, ⟨10, _⟩ => ⟨S1980x5376, .fp8e4m3⟩
  | .hbm, ⟨11, _⟩ => ⟨S1980x4096, .bf16⟩
  | .local _ .vmem, ⟨0, _⟩ => ⟨S1980x4096, .fp8e4m3⟩
  | .local _ .vmem, ⟨1, _⟩ => ⟨S4096x768, .fp8e4m3⟩
  | .local _ .vmem, ⟨2, _⟩ => ⟨S4096x768, .fp8e4m3⟩
  | .local _ .vmem, ⟨3, _⟩ => ⟨S1x1x768, .f32⟩
  | .local _ .vmem, ⟨4, _⟩ => ⟨S1x1x768, .f32⟩
  | .local _ .vmem, ⟨5, _⟩ => ⟨S5376x512, .fp8e4m3⟩
  | .local _ .vmem, ⟨6, _⟩ => ⟨S5376x512, .fp8e4m3⟩
  | .local _ .vmem, ⟨7, _⟩ => ⟨S1x1x512, .f32⟩
  | .local _ .vmem, ⟨8, _⟩ => ⟨S1x1x512, .f32⟩
  | .local _ .vmem, ⟨9, _⟩ => ⟨S1980x512, .f32⟩
  | .local _ .vmem, ⟨10, _⟩ => ⟨S1980x512, .f32⟩
  | .local _ .vmem, ⟨11, _⟩ => ⟨S1980x768, .fp8e4m3⟩
  | .local _ .vmem, ⟨12, _⟩ => ⟨S1980x768, .fp8e4m3⟩
  | .local _ .vmem, ⟨13, _⟩ => ⟨S1980x512, .bf16⟩
  | .local _ .vmem, ⟨14, _⟩ => ⟨S1980x512, .bf16⟩
  | .local _ .vmem, ⟨15, _⟩ => ⟨S7x1980x768, .fp8e4m3⟩
  | .local _ .smem, ⟨0, _⟩ => ⟨S1, .f32⟩
  | .local _ .smem, ⟨1, _⟩ => ⟨S1, .f32⟩
  | _, _ => ⟨S1980x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c7_i32 : BitVec 32 := 7#32
  let v2 : BitVec 1 := Scalar.cmpi .slt arg0 c7_i32
  let v3 : BitVec 32 := Scalar.extui v2
  let c0_i32 : BitVec 32 := 0#32
  let v4 : BitVec 1 := Scalar.cmpi .ne v3 c0_i32
  v4

def k0_off1 (i : grid0.Coords) : Fin 3 → Nat :=
  let arg0 : BitVec 32 := BitVec.ofNat 32 (i 0).val
  let v28 : Index := Scalar.indexCast arg0
  let c0_15 : Index := 0#32
  let c0_16 : Index := 0#32
  ![v28.toNat, 0, 0]
def k0_off2 (i : grid0.Coords) : Fin 3 → Nat :=
  let arg0 : BitVec 32 := BitVec.ofNat 32 (i 0).val
  let v51 : Index := Scalar.indexCast arg0
  let c0_27 : Index := 0#32
  let c256_28 : Index := 256#32
  ![v51.toNat, 0, 256]
def k0_off3 (i : grid0.Coords) : Fin 3 → Nat :=
  let arg0 : BitVec 32 := BitVec.ofNat 32 (i 0).val
  let v74 : Index := Scalar.indexCast arg0
  let c0_39 : Index := 0#32
  let c512_40 : Index := 512#32
  ![v74.toNat, 0, 512]
def k0_off4 (i : grid0.Coords) : Fin 3 → Nat :=
  let arg0 : BitVec 32 := BitVec.ofNat 32 (i 0).val
  let v98 : Index := Scalar.indexCast arg0
  let c256_54 : Index := 256#32
  let c0_55 : Index := 0#32
  ![v98.toNat, 256, 0]
def k0_off5 (i : grid0.Coords) : Fin 3 → Nat :=
  let arg0 : BitVec 32 := BitVec.ofNat 32 (i 0).val
  let v121 : Index := Scalar.indexCast arg0
  let c256_67 : Index := 256#32
  let c256_68 : Index := 256#32
  ![v121.toNat, 256, 256]
def k0_off6 (i : grid0.Coords) : Fin 3 → Nat :=
  let arg0 : BitVec 32 := BitVec.ofNat 32 (i 0).val
  let v144 : Index := Scalar.indexCast arg0
  let c256_80 : Index := 256#32
  let c512_81 : Index := 512#32
  ![v144.toNat, 256, 512]
def k0_off7 (i : grid0.Coords) : Fin 3 → Nat :=
  let arg0 : BitVec 32 := BitVec.ofNat 32 (i 0).val
  let v168 : Index := Scalar.indexCast arg0
  let c512_95 : Index := 512#32
  let c0_96 : Index := 0#32
  ![v168.toNat, 512, 0]
def k0_off8 (i : grid0.Coords) : Fin 3 → Nat :=
  let arg0 : BitVec 32 := BitVec.ofNat 32 (i 0).val
  let v191 : Index := Scalar.indexCast arg0
  let c512_108 : Index := 512#32
  let c256_109 : Index := 256#32
  ![v191.toNat, 512, 256]
def k0_off9 (i : grid0.Coords) : Fin 3 → Nat :=
  let arg0 : BitVec 32 := BitVec.ofNat 32 (i 0).val
  let v214 : Index := Scalar.indexCast arg0
  let c512_121 : Index := 512#32
  let c512_122 : Index := 512#32
  ![v214.toNat, 512, 512]
def k0_off10 (i : grid0.Coords) : Fin 3 → Nat :=
  let arg0 : BitVec 32 := BitVec.ofNat 32 (i 0).val
  let v238 : Index := Scalar.indexCast arg0
  let c768_135 : Index := 768#32
  let c0_136 : Index := 0#32
  ![v238.toNat, 768, 0]
def k0_off11 (i : grid0.Coords) : Fin 3 → Nat :=
  let arg0 : BitVec 32 := BitVec.ofNat 32 (i 0).val
  let v261 : Index := Scalar.indexCast arg0
  let c768_148 : Index := 768#32
  let c256_149 : Index := 256#32
  ![v261.toNat, 768, 256]
def k0_off12 (i : grid0.Coords) : Fin 3 → Nat :=
  let arg0 : BitVec 32 := BitVec.ofNat 32 (i 0).val
  let v284 : Index := Scalar.indexCast arg0
  let c768_161 : Index := 768#32
  let c512_162 : Index := 512#32
  ![v284.toNat, 768, 512]
def k0_off13 (i : grid0.Coords) : Fin 3 → Nat :=
  let arg0 : BitVec 32 := BitVec.ofNat 32 (i 0).val
  let v308 : Index := Scalar.indexCast arg0
  let c1024_175 : Index := 1024#32
  let c0_176 : Index := 0#32
  ![v308.toNat, 1024, 0]
def k0_off14 (i : grid0.Coords) : Fin 3 → Nat :=
  let arg0 : BitVec 32 := BitVec.ofNat 32 (i 0).val
  let v331 : Index := Scalar.indexCast arg0
  let c1024_188 : Index := 1024#32
  let c256_189 : Index := 256#32
  ![v331.toNat, 1024, 256]
def k0_off15 (i : grid0.Coords) : Fin 3 → Nat :=
  let arg0 : BitVec 32 := BitVec.ofNat 32 (i 0).val
  let v354 : Index := Scalar.indexCast arg0
  let c1024_201 : Index := 1024#32
  let c512_202 : Index := 512#32
  ![v354.toNat, 1024, 512]
def k0_off16 (i : grid0.Coords) : Fin 3 → Nat :=
  let arg0 : BitVec 32 := BitVec.ofNat 32 (i 0).val
  let v378 : Index := Scalar.indexCast arg0
  let c1280_215 : Index := 1280#32
  let c0_216 : Index := 0#32
  ![v378.toNat, 1280, 0]
def k0_off17 (i : grid0.Coords) : Fin 3 → Nat :=
  let arg0 : BitVec 32 := BitVec.ofNat 32 (i 0).val
  let v401 : Index := Scalar.indexCast arg0
  let c1280_228 : Index := 1280#32
  let c256_229 : Index := 256#32
  ![v401.toNat, 1280, 256]
def k0_off18 (i : grid0.Coords) : Fin 3 → Nat :=
  let arg0 : BitVec 32 := BitVec.ofNat 32 (i 0).val
  let v424 : Index := Scalar.indexCast arg0
  let c1280_241 : Index := 1280#32
  let c512_242 : Index := 512#32
  ![v424.toNat, 1280, 512]
def k0_off19 (i : grid0.Coords) : Fin 3 → Nat :=
  let arg0 : BitVec 32 := BitVec.ofNat 32 (i 0).val
  let v448 : Index := Scalar.indexCast arg0
  let c1536_255 : Index := 1536#32
  let c0_256 : Index := 0#32
  ![v448.toNat, 1536, 0]
def k0_off20 (i : grid0.Coords) : Fin 3 → Nat :=
  let arg0 : BitVec 32 := BitVec.ofNat 32 (i 0).val
  let v471 : Index := Scalar.indexCast arg0
  let c1536_268 : Index := 1536#32
  let c256_269 : Index := 256#32
  ![v471.toNat, 1536, 256]
def k0_off21 (i : grid0.Coords) : Fin 3 → Nat :=
  let arg0 : BitVec 32 := BitVec.ofNat 32 (i 0).val
  let v494 : Index := Scalar.indexCast arg0
  let c1536_281 : Index := 1536#32
  let c512_282 : Index := 512#32
  ![v494.toNat, 1536, 512]
def k0_off22 (i : grid0.Coords) : Fin 3 → Nat :=
  let arg0 : BitVec 32 := BitVec.ofNat 32 (i 0).val
  let v518 : Index := Scalar.indexCast arg0
  let c1792_295 : Index := 1792#32
  let c0_296 : Index := 0#32
  ![v518.toNat, 1792, 0]
def k0_off23 (i : grid0.Coords) : Fin 3 → Nat :=
  let arg0 : BitVec 32 := BitVec.ofNat 32 (i 0).val
  let v541 : Index := Scalar.indexCast arg0
  let c1792_308 : Index := 1792#32
  let c256_309 : Index := 256#32
  ![v541.toNat, 1792, 256]
def k0_off24 (i : grid0.Coords) : Fin 3 → Nat :=
  let arg0 : BitVec 32 := BitVec.ofNat 32 (i 0).val
  let v564 : Index := Scalar.indexCast arg0
  let c1792_321 : Index := 1792#32
  let c512_322 : Index := 512#32
  ![v564.toNat, 1792, 512]
def k0_cond2 (i : grid0.Coords) : BitVec 1 :=
  let arg0 : BitVec 32 := BitVec.ofNat 32 (i 0).val
  let c7_i32_1 : BitVec 32 := 7#32
  let v5 : BitVec 1 := Scalar.cmpi .sge arg0 c7_i32_1
  let v6 : BitVec 32 := Scalar.extui v5
  let c0_i32_2 : BitVec 32 := 0#32
  let v7 : BitVec 1 := Scalar.cmpi .ne v6 c0_i32_2
  v7

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 3 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1980x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5376x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1980x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1980x768 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1980x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S1980x4096 : Shape := ⟨2, ![1980, 4096]⟩
abbrev S1 : Shape := ⟨1, ![1]⟩
abbrev S4096x5376 : Shape := ⟨2, ![4096, 5376]⟩
abbrev S5376 : Shape := ⟨1, ![5376]⟩
abbrev S5376x4096 : Shape := ⟨2, ![5376, 4096]⟩
abbrev S4096 : Shape := ⟨1, ![4096]⟩
abbrev S1x5376 : Shape := ⟨2, ![1, 5376]⟩
abbrev S1x4096 : Shape := ⟨2, ![1, 4096]⟩
abbrev S1980x5376 : Shape := ⟨2, ![1980, 5376]⟩

abbrev nBuf : Space → Nat
  | .hbm => 12
  | .vmem => 8
  | .smem => 2
  | _ => 0

abbrev bufTy : (tb : Table) → Fin (tcTables nBuf tb) → BufTy
  | .hbm, ⟨0, _⟩ => ⟨S1980x4096, .fp8e4m3⟩
  | .hbm, ⟨1, _⟩ => ⟨S1980x4096, .f32⟩
  | .hbm, ⟨2, _⟩ => ⟨S1, .f32⟩
  | .hbm, ⟨3, _⟩ => ⟨S4096x5376, .fp8e4m3⟩
  | .hbm, ⟨4, _⟩ => ⟨S5376, .f32⟩
  | .hbm, ⟨5, _⟩ => ⟨S1, .f32⟩
  | .hbm, ⟨6, _⟩ => ⟨S5376x4096, .fp8e4m3⟩
  | .hbm, ⟨7, _⟩ => ⟨S4096, .f32⟩
  | .hbm, ⟨8, _⟩ => ⟨S1x5376, .f32⟩
  | .hbm, ⟨9, _⟩ => ⟨S1x4096, .f32⟩
  | .hbm, ⟨10, _⟩ => ⟨S1980x5376, .fp8e4m3⟩
  | .hbm, ⟨11, _⟩ => ⟨S1980x4096, .bf16⟩
  | .local _ .vmem, ⟨0, _⟩ => ⟨S1980x4096, .fp8e4m3⟩
  | .local _ .vmem, ⟨1, _⟩ => ⟨S4096x5376, .fp8e4m3⟩
  | .local _ .vmem, ⟨2, _⟩ => ⟨S1x5376, .f32⟩
  | .local _ .vmem, ⟨3, _⟩ => ⟨S5376x4096, .fp8e4m3⟩
  | .local _ .vmem, ⟨4, _⟩ => ⟨S1x4096, .f32⟩
  | .local _ .vmem, ⟨5, _⟩ => ⟨S1980x4096, .f32⟩
  | .local _ .vmem, ⟨6, _⟩ => ⟨S1980x5376, .fp8e4m3⟩
  | .local _ .vmem, ⟨7, _⟩ => ⟨S1980x4096, .bf16⟩
  | .local _ .smem, ⟨0, _⟩ => ⟨S1, .f32⟩
  | .local _ .smem, ⟨1, _⟩ => ⟨S1, .f32⟩
  | _, _ => ⟨S1980x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1980x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x5376 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5376x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1980x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1980x5376 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1980x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== OutProj.lean ====
abbrev S16x2176x128 : Shape := ⟨3, ![16, 2176, 128]⟩
abbrev S1980x2048 : Shape := ⟨2, ![1980, 2048]⟩
abbrev S1980x4096 : Shape := ⟨2, ![1980, 4096]⟩
abbrev S2048 : Shape := ⟨1, ![2048]⟩
abbrev S1 : Shape := ⟨1, ![1]⟩
abbrev S2048x4096 : Shape := ⟨2, ![2048, 4096]⟩
abbrev S4096 : Shape := ⟨1, ![4096]⟩
abbrev S1x2048 : Shape := ⟨2, ![1, 2048]⟩
abbrev S1x4096 : Shape := ⟨2, ![1, 4096]⟩
abbrev S16x256x128 : Shape := ⟨3, ![16, 256, 128]⟩
abbrev S256x2048 : Shape := ⟨2, ![256, 2048]⟩
abbrev S256x4096 : Shape := ⟨2, ![256, 4096]⟩
abbrev S1x32x128 : Shape := ⟨3, ![1, 32, 128]⟩
abbrev S32x128 : Shape := ⟨2, ![32, 128]⟩
abbrev S32x1024 : Shape := ⟨2, ![32, 1024]⟩
abbrev S32 : Shape := ⟨1, ![32]⟩
abbrev S32x1 : Shape := ⟨2, ![32, 1]⟩
abbrev S1x1024 : Shape := ⟨2, ![1, 1024]⟩
abbrev S256x256 : Shape := ⟨2, ![256, 256]⟩
abbrev S2048x256 : Shape := ⟨2, ![2048, 256]⟩
abbrev S1x256 : Shape := ⟨2, ![1, 256]⟩
abbrev S32x4096 : Shape := ⟨2, ![32, 4096]⟩

abbrev nBuf : Space → Nat
  | .hbm => 16
  | .vmem => 18
  | .smem => 2
  | _ => 0

abbrev bufTy : (tb : Table) → Fin (tcTables nBuf tb) → BufTy
  | .hbm, ⟨0, _⟩ => ⟨S16x2176x128, .f32⟩
  | .hbm, ⟨1, _⟩ => ⟨S1980x2048, .f32⟩
  | .hbm, ⟨2, _⟩ => ⟨S1980x4096, .bf16⟩
  | .hbm, ⟨3, _⟩ => ⟨S2048, .f32⟩
  | .hbm, ⟨4, _⟩ => ⟨S1, .f32⟩
  | .hbm, ⟨5, _⟩ => ⟨S2048x4096, .fp8e4m3⟩
  | .hbm, ⟨6, _⟩ => ⟨S4096, .f32⟩
  | .hbm, ⟨7, _⟩ => ⟨S4096, .f32⟩
  | .hbm, ⟨8, _⟩ => ⟨S1, .f32⟩
  | .hbm, ⟨9, _⟩ => ⟨S1x2048, .f32⟩
  | .hbm, ⟨10, _⟩ => ⟨S1x4096, .f32⟩
  | .hbm, ⟨11, _⟩ => ⟨S1x4096, .f32⟩
  | .hbm, ⟨12, _⟩ => ⟨S1980x2048, .bf16⟩
  | .hbm, ⟨13, _⟩ => ⟨S1980x2048, .fp8e4m3⟩
  | .hbm, ⟨14, _⟩ => ⟨S1980x4096, .f32⟩
  | .hbm, ⟨15, _⟩ => ⟨S1980x4096, .fp8e4m3⟩
  | .local _ .vmem, ⟨0, _⟩ => ⟨S16x256x128, .f32⟩
  | .local _ .vmem, ⟨1, _⟩ => ⟨S16x256x128, .f32⟩
  | .local _ .vmem, ⟨2, _⟩ => ⟨S256x2048, .f32⟩
  | .local _ .vmem, ⟨3, _⟩ => ⟨S256x2048, .f32⟩
  | .local _ .vmem, ⟨4, _⟩ => ⟨S256x4096, .bf16⟩
  | .local _ .vmem, ⟨5, _⟩ => ⟨S256x4096, .bf16⟩
  | .local _ .vmem, ⟨6, _⟩ => ⟨S1x2048, .f32⟩
  | .local _ .vmem, ⟨7, _⟩ => ⟨S2048x4096, .fp8e4m3⟩
  | .local _ .vmem, ⟨8, _⟩ => ⟨S1x4096, .f32⟩
  | .local _ .vmem, ⟨9, _⟩ => ⟨S1x4096, .f32⟩
  | .local _ .vmem, ⟨10, _⟩ => ⟨S256x2048, .bf16⟩
  | .local _ .vmem, ⟨11, _⟩ => ⟨S256x2048, .bf16⟩
  | .local _ .vmem, ⟨12, _⟩ => ⟨S256x2048, .fp8e4m3⟩
  | .local _ .vmem, ⟨13, _⟩ => ⟨S256x2048, .fp8e4m3⟩
  | .local _ .vmem, ⟨14, _⟩ => ⟨S256x4096, .f32⟩
  | .local _ .vmem, ⟨15, _⟩ => ⟨S256x4096, .f32⟩
  | .local _ .vmem, ⟨16, _⟩ => ⟨S256x4096, .fp8e4m3⟩
  | .local _ .vmem, ⟨17, _⟩ => ⟨S256x4096, .fp8e4m3⟩
  | .local _ .smem, ⟨0, _⟩ => ⟨S1, .f32⟩
  | .local _ .smem, ⟨1, _⟩ => ⟨S1, .f32⟩
  | _, _ => ⟨S16x2176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutProjRefIdeal.lean ====
abbrev S16x2176x128 : Shape := ⟨3, ![16, 2176, 128]⟩
abbrev S1980x2048 : Shape := ⟨2, ![1980, 2048]⟩
abbrev S1980x4096 : Shape := ⟨2, ![1980, 4096]⟩
abbrev S2048 : Shape := ⟨1, ![2048]⟩
abbrev S1 : Shape := ⟨1, ![1]⟩
abbrev S2048x4096 : Shape := ⟨2, ![2048, 4096]⟩
abbrev S4096 : Shape := ⟨1, ![4096]⟩
abbrev S1x2048 : Shape := ⟨2, ![1, 2048]⟩
abbrev S1x4096 : Shape := ⟨2, ![1, 4096]⟩
abbrev S1x1980x128 : Shape := ⟨3, ![1, 1980, 128]⟩
abbrev S1980x128 : Shape := ⟨2, ![1980, 128]⟩
abbrev S1980x1024 : Shape := ⟨2, ![1980, 1024]⟩
abbrev S1980 : Shape := ⟨1, ![1980]⟩
abbrev S1980x1 : Shape := ⟨2, ![1980, 1]⟩

abbrev nBuf : Space → Nat
  | .hbm => 16
  | .vmem => 11
  | .smem => 2
  | _ => 0

abbrev bufTy : (tb : Table) → Fin (tcTables nBuf tb) → BufTy
  | .hbm, ⟨0, _⟩ => ⟨S16x2176x128, .f32⟩
  | .hbm, ⟨1, _⟩ => ⟨S1980x2048, .f32⟩
  | .hbm, ⟨2, _⟩ => ⟨S1980x4096, .bf16⟩
  | .hbm, ⟨3, _⟩ => ⟨S2048, .f32⟩
  | .hbm, ⟨4, _⟩ => ⟨S1, .f32⟩
  | .hbm, ⟨5, _⟩ => ⟨S2048x4096, .fp8e4m3⟩
  | .hbm, ⟨6, _⟩ => ⟨S4096, .f32⟩
  | .hbm, ⟨7, _⟩ => ⟨S4096, .f32⟩
  | .hbm, ⟨8, _⟩ => ⟨S1, .f32⟩
  | .hbm, ⟨9, _⟩ => ⟨S1x2048, .f32⟩
  | .hbm, ⟨10, _⟩ => ⟨S1x4096, .f32⟩
  | .hbm, ⟨11, _⟩ => ⟨S1x4096, .f32⟩
  | .hbm, ⟨12, _⟩ => ⟨S1980x2048, .bf16⟩
  | .hbm, ⟨13, _⟩ => ⟨S1980x2048, .fp8e4m3⟩
  | .hbm, ⟨14, _⟩ => ⟨S1980x4096, .f32⟩
  | .hbm, ⟨15, _⟩ => ⟨S1980x4096, .fp8e4m3⟩
  | .local _ .vmem, ⟨0, _⟩ => ⟨S16x2176x128, .f32⟩
  | .local _ .vmem, ⟨1, _⟩ => ⟨S1980x2048, .f32⟩
  | .local _ .vmem, ⟨2, _⟩ => ⟨S1980x4096, .bf16⟩
  | .local _ .vmem, ⟨3, _⟩ => ⟨S1x2048, .f32⟩
  | .local _ .vmem, ⟨4, _⟩ => ⟨S2048x4096, .fp8e4m3⟩
  | .local _ .vmem, ⟨5, _⟩ => ⟨S1x4096, .f32⟩
  | .local _ .vmem, ⟨6, _⟩ => ⟨S1x4096, .f32⟩
  | .local _ .vmem, ⟨7, _⟩ => ⟨S1980x2048, .bf16⟩
  | .local _ .vmem, ⟨8, _⟩ => ⟨S1980x2048, .fp8e4m3⟩
  | .local _ .vmem, ⟨9, _⟩ => ⟨S1980x4096, .f32⟩
  | .local _ .vmem, ⟨10, _⟩ => ⟨S1980x4096, .fp8e4m3⟩
  | .local _ .smem, ⟨0, _⟩ => ⟨S1, .f32⟩
  | .local _ .smem, ⟨1, _⟩ => ⟨S1, .f32⟩
  | _, _ => ⟨S16x2176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1980x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1980x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1980x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1980x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1980x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1980x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Dec.lean ====
abbrev S67 : Shape := ⟨1, ![67]⟩
abbrev S86x2048x128 : Shape := ⟨3, ![86, 2048, 128]⟩
abbrev S86x1x2048 : Shape := ⟨3, ![86, 1, 2048]⟩
abbrev S86x3x2560 : Shape := ⟨3, ![86, 3, 2560]⟩
abbrev S20x2176x128 : Shape := ⟨3, ![20, 2176, 128]⟩
abbrev S2176x128 : Shape := ⟨2, ![2176, 128]⟩
abbrev S4x2560 : Shape := ⟨2, ![4, 2560]⟩
abbrev S1x2560 : Shape := ⟨2, ![1, 2560]⟩
abbrev S1x128 : Shape := ⟨2, ![1, 128]⟩
abbrev S1x2048 : Shape := ⟨2, ![1, 2048]⟩
abbrev S60x2048x128 : Shape := ⟨3, ![60, 2048, 128]⟩
abbrev S60x1x2048 : Shape := ⟨3, ![60, 1, 2048]⟩
abbrev S60x3x2560 : Shape := ⟨3, ![60, 3, 2560]⟩
abbrev S1x2048x128 : Shape := ⟨3, ![1, 2048, 128]⟩
abbrev S1 : Shape := ⟨1, ![1]⟩
abbrev S1x1x2048 : Shape := ⟨3, ![1, 1, 2048]⟩
abbrev S1x3x2560 : Shape := ⟨3, ![1, 3, 2560]⟩
abbrev S20x64x128 : Shape := ⟨3, ![20, 64, 128]⟩
abbrev S64x128 : Shape := ⟨2, ![64, 128]⟩
abbrev S2x2048x128 : Shape := ⟨3, ![2, 2048, 128]⟩
abbrev S2x1x2048 : Shape := ⟨3, ![2, 1, 2048]⟩
abbrev S2x3x2560 : Shape := ⟨3, ![2, 3, 2560]⟩
abbrev S16x64x128 : Shape := ⟨3, ![16, 64, 128]⟩
abbrev S64x1 : Shape := ⟨2, ![64, 1]⟩
abbrev S1x64x128 : Shape := ⟨3, ![1, 64, 128]⟩
abbrev S3x2560 : Shape := ⟨2, ![3, 2560]⟩
abbrev S1x1x128 : Shape := ⟨3, ![1, 1, 128]⟩
abbrev S2x2560 : Shape := ⟨2, ![2, 2560]⟩
abbrev S128x128 : Shape := ⟨2, ![128, 128]⟩
abbrev S1x128x128 : Shape := ⟨3, ![1, 128, 128]⟩
abbrev S128 : Shape := ⟨1, ![128]⟩

abbrev nBuf : Space → Nat
  | .hbm => 13
  | .vmem => 28
  | .smem => 1
  | _ => 0

abbrev bufTy : (tb : Table) → Fin (tcTables nBuf tb) → BufTy
  | .hbm, ⟨0, _⟩ => ⟨S86x2048x128, .i8⟩
  | .hbm, ⟨1, _⟩ => ⟨S86x1x2048, .f32⟩
  | .hbm, ⟨2, _⟩ => ⟨S86x3x2560, .bf16⟩
  | .hbm, ⟨3, _⟩ => ⟨S20x2176x128, .f32⟩
  | .hbm, ⟨4, _⟩ => ⟨S2176x128, .f32⟩
  | .hbm, ⟨5, _⟩ => ⟨S4x2560, .f32⟩
  | .hbm, ⟨6, _⟩ => ⟨S1x2560, .f32⟩
  | .hbm, ⟨7, _⟩ => ⟨S1x128, .f32⟩
  | .hbm, ⟨8, _⟩ => ⟨S1x2048, .f32⟩
  | .hbm, ⟨9, _⟩ => ⟨S60x2048x128, .i8⟩
  | .hbm, ⟨10, _⟩ => ⟨S60x1x2048, .f32⟩
  | .hbm, ⟨11, _⟩ => ⟨S60x1x2048, .f32⟩
  | .hbm, ⟨12, _⟩ => ⟨S60x3x2560, .bf16⟩
  | .local _ .vmem, ⟨0, _⟩ => ⟨S1x2048x128, .i8⟩
  | .local _ .vmem, ⟨1, _⟩ => ⟨S1x2048x128, .i8⟩
  | .local _ .vmem, ⟨2, _⟩ => ⟨S1x2048x128, .i8⟩
  | .local _ .vmem, ⟨3, _⟩ => ⟨S1x2048x128, .i8⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x3x2560, .bf16⟩
  | .local _ .vmem, ⟨9, _⟩ => ⟨S1x3x2560, .bf16⟩
  | .local _ .vmem, ⟨10, _⟩ => ⟨S1x3x2560, .bf16⟩
  | .local _ .vmem, ⟨11, _⟩ => ⟨S1x3x2560, .bf16⟩
  | .local _ .vmem, ⟨12, _⟩ => ⟨S20x64x128, .f32⟩
  | .local _ .vmem, ⟨13, _⟩ => ⟨S64x128, .f32⟩
  | .local _ .vmem, ⟨14, _⟩ => ⟨S4x2560, .f32⟩
  | .local _ .vmem, ⟨15, _⟩ => ⟨S1x2560, .f32⟩
  | .local _ .vmem, ⟨16, _⟩ => ⟨S1x128, .f32⟩
  | .local _ .vmem, ⟨17, _⟩ => ⟨S1x2048, .f32⟩
  | .local _ .vmem, ⟨18, _⟩ => ⟨S2x2048x128, .i8⟩
  | .local _ .vmem, ⟨19, _⟩ => ⟨S2x2048x128, .i8⟩
  | .local _ .vmem, ⟨20, _⟩ => ⟨S2x1x2048, .f32⟩
  | .local _ .vmem, ⟨21, _⟩ => ⟨S2x1x2048, .f32⟩
  | .local _ .vmem, ⟨22, _⟩ => ⟨S2x1x2048, .f32⟩
  | .local _ .vmem, ⟨23, _⟩ => ⟨S2x1x2048, .f32⟩
  | .local _ .vmem, ⟨24, _⟩ => ⟨S2x3x2560, .bf16⟩
  | .local _ .vmem, ⟨25, _⟩ => ⟨S2x3x2560, .bf16⟩
  | .local _ .vmem, ⟨26, _⟩ => ⟨S16x64x128, .f32⟩
  | .local _ .vmem, ⟨27, _⟩ => ⟨S16x64x128, .f32⟩
  | .local _ .smem, ⟨0, _⟩ => ⟨S67, .i32⟩
  | _, _ => ⟨S86x2048x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![30], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) (c0_i32_1 : BitVec 32) : Fin 3 → Nat :=
  let c0_6 : Index := 0#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v9 : Index := Scalar.indexCast v4
  let c0_7 : Index := 0#32
  ![0, v9.toNat, 0]
def k0_off3 (i : grid0.Coords) (c0_i32_1 : BitVec 32) : Fin 3 → Nat :=
  let c1 : Index := 1#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v12 : Index := Scalar.indexCast v4
  let c0_8 : Index := 0#32
  ![1, v12.toNat, 0]
def k0_off4 (i : grid0.Coords) (c0_i32_1 : BitVec 32) : Fin 3 → Nat :=
  let c2 : Index := 2#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v15 : Index := Scalar.indexCast v4
  let c0_9 : Index := 0#32
  ![2, v15.toNat, 0]
def k0_off5 (i : grid0.Coords) (c0_i32_1 : BitVec 32) : Fin 3 → Nat :=
  let c3 : Index := 3#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v18 : Index := Scalar.indexCast v4
  let c0_10 : Index := 0#32
  ![3, v18.toNat, 0]
def k0_off6 (i : grid0.Coords) (c0_i32_1 : BitVec 32) : Fin 3 → Nat :=
  let c4 : Index := 4#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v21 : Index := Scalar.indexCast v4
  let c0_11 : Index := 0#32
  ![4, v21.toNat, 0]
def k0_off7 (i : grid0.Coords) (c0_i32_1 : BitVec 32) : Fin 3 → Nat :=
  let c5 : Index := 5#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v24 : Index := Scalar.indexCast v4
  let c0_12 : Index := 0#32
  ![5, v24.toNat, 0]
def k0_off8 (i : grid0.Coords) (c0_i32_1 : BitVec 32) : Fin 3 → Nat :=
  let c6 : Index := 6#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v27 : Index := Scalar.indexCast v4
  let c0_13 : Index := 0#32
  ![6, v27.toNat, 0]
def k0_off9 (i : grid0.Coords) (c0_i32_1 : BitVec 32) : Fin 3 → Nat :=
  let c7 : Index := 7#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v30 : Index := Scalar.indexCast v4
  let c0_14 : Index := 0#32
  ![7, v30.toNat, 0]
def k0_off10 (i : grid0.Coords) (c0_i32_1 : BitVec 32) : Fin 3 → Nat :=
  let c8 : Index := 8#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v33 : Index := Scalar.indexCast v4
  let c0_15 : Index := 0#32
  ![8, v33.toNat, 0]
def k0_off11 (i : grid0.Coords) (c0_i32_1 : BitVec 32) : Fin 3 → Nat :=
  let c9 : Index := 9#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v36 : Index := Scalar.indexCast v4
  let c0_16 : Index := 0#32
  ![9, v36.toNat, 0]
def k0_off12 (i : grid0.Coords) (c0_i32_1 : BitVec 32) : Fin 3 → Nat :=
  let c10 : Index := 10#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v39 : Index := Scalar.indexCast v4
  let c0_17 : Index := 0#32
  ![10, v39.toNat, 0]
def k0_off13 (i : grid0.Coords) (c0_i32_1 : BitVec 32) : Fin 3 → Nat :=
  let c11 : Index := 11#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v42 : Index := Scalar.indexCast v4
  let c0_18 : Index := 0#32
  ![11, v42.toNat, 0]
def k0_off14 (i : grid0.Coords) (c0_i32_1 : BitVec 32) : Fin 3 → Nat :=
  let c12 : Index := 12#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v45 : Index := Scalar.indexCast v4
  let c0_19 : Index := 0#32
  ![12, v45.toNat, 0]
def k0_off15 (i : grid0.Coords) (c0_i32_1 : BitVec 32) : Fin 3 → Nat :=
  let c13 : Index := 13#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v48 : Index := Scalar.indexCast v4
  let c0_20 : Index := 0#32
  ![13, v48.toNat, 0]
def k0_off16 (i : grid0.Coords) (c0_i32_1 : BitVec 32) : Fin 3 → Nat :=
  let c14 : Index := 14#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v51 : Index := Scalar.indexCast v4
  let c0_21 : Index := 0#32
  ![14, v51.toNat, 0]
def k0_off17 (i : grid0.Coords) (c0_i32_1 : BitVec 32) : Fin 3 → Nat :=
  let c15 : Index := 15#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v54 : Index := Scalar.indexCast v4
  let c0_22 : Index := 0#32
  ![15, v54.toNat, 0]
def k0_off18 (i : grid0.Coords) (c0_i32_1 : BitVec 32) : Fin 3 → Nat :=
  let c16 : Index := 16#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v57 : Index := Scalar.indexCast v4
  let c0_23 : Index := 0#32
  ![16, v57.toNat, 0]
def k0_off19 (i : grid0.Coords) (c0_i32_1 : BitVec 32) : Fin 3 → Nat :=
  let c17 : Index := 17#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v60 : Index := Scalar.indexCast v4
  let c0_24 : Index := 0#32
  ![17, v60.toNat, 0]
def k0_off20 (i : grid0.Coords) (c0_i32_1 : BitVec 32) : Fin 3 → Nat :=
  let c18 : Index := 18#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v63 : Index := Scalar.indexCast v4
  let c0_25 : Index := 0#32
  ![18, v63.toNat, 0]
def k0_off21 (i : grid0.Coords) (c0_i32_1 : BitVec 32) : Fin 3 → Nat :=
  let c19 : Index := 19#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v66 : Index := Scalar.indexCast v4
  let c0_26 : Index := 0#32
  ![19, v66.toNat, 0]
def k0_off22 (i : grid0.Coords) (c0_i32_1 : BitVec 32) : Fin 3 → Nat :=
  let c0_33 : Index := 0#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v115 : Index := Scalar.indexCast v4
  let c0_34 : Index := 0#32
  ![0, v115.toNat, 0]
def k0_off23 (i : grid0.Coords) (c0_i32_1 : BitVec 32) : Fin 3 → Nat :=
  let c1_61 : Index := 1#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v169 : Index := Scalar.indexCast v4
  let c0_62 : Index := 0#32
  ![1, v169.toNat, 0]
def k0_off24 (i : grid0.Coords) (c0_i32_1 : BitVec 32) : Fin 3 → Nat :=
  let c2_88 : Index := 2#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v223 : Index := Scalar.indexCast v4
  let c0_89 : Index := 0#32
  ![2, v223.toNat, 0]
def k0_off25 (i : grid0.Coords) (c0_i32_1 : BitVec 32) : Fin 3 → Nat :=
  let c3_115 : Index := 3#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v277 : Index := Scalar.indexCast v4
  let c0_116 : Index := 0#32
  ![3, v277.toNat, 0]
def k0_off26 (i : grid0.Coords) (c0_i32_1 : BitVec 32) : Fin 3 → Nat :=
  let c4_142 : Index := 4#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v331 : Index := Scalar.indexCast v4
  let c0_143 : Index := 0#32
  ![4, v331.toNat, 0]
def k0_off27 (i : grid0.Coords) (c0_i32_1 : BitVec 32) : Fin 3 → Nat :=
  let c5_169 : Index := 5#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v385 : Index := Scalar.indexCast v4
  let c0_170 : Index := 0#32
  ![5, v385.toNat, 0]
def k0_off28 (i : grid0.Coords) (c0_i32_1 : BitVec 32) : Fin 3 → Nat :=
  let c6_196 : Index := 6#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v439 : Index := Scalar.indexCast v4
  let c0_197 : Index := 0#32
  ![6, v439.toNat, 0]
def k0_off29 (i : grid0.Coords) (c0_i32_1 : BitVec 32) : Fin 3 → Nat :=
  let c7_223 : Index := 7#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v493 : Index := Scalar.indexCast v4
  let c0_224 : Index := 0#32
  ![7, v493.toNat, 0]
def k0_off30 (i : grid0.Coords) (c0_i32_1 : BitVec 32) : Fin 3 → Nat :=
  let c8_250 : Index := 8#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v547 : Index := Scalar.indexCast v4
  let c0_251 : Index := 0#32
  ![8, v547.toNat, 0]
def k0_off31 (i : grid0.Coords) (c0_i32_1 : BitVec 32) : Fin 3 → Nat :=
  let c9_277 : Index := 9#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v601 : Index := Scalar.indexCast v4
  let c0_278 : Index := 0#32
  ![9, v601.toNat, 0]
def k0_off32 (i : grid0.Coords) (c0_i32_1 : BitVec 32) : Fin 3 → Nat :=
  let c10_304 : Index := 10#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v655 : Index := Scalar.indexCast v4
  let c0_305 : Index := 0#32
  ![10, v655.toNat, 0]
def k0_off33 (i : grid0.Coords) (c0_i32_1 : BitVec 32) : Fin 3 → Nat :=
  let c11_331 : Index := 11#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v709 : Index := Scalar.indexCast v4
  let c0_332 : Index := 0#32
  ![11, v709.toNat, 0]
def k0_off34 (i : grid0.Coords) (c0_i32_1 : BitVec 32) : Fin 3 → Nat :=
  let c12_358 : Index := 12#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v763 : Index := Scalar.indexCast v4
  let c0_359 : Index := 0#32
  ![12, v763.toNat, 0]
def k0_off35 (i : grid0.Coords) (c0_i32_1 : BitVec 32) : Fin 3 → Nat :=
  let c13_385 : Index := 13#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v817 : Index := Scalar.indexCast v4
  let c0_386 : Index := 0#32
  ![13, v817.toNat, 0]
def k0_off36 (i : grid0.Coords) (c0_i32_1 : BitVec 32) : Fin 3 → Nat :=
  let c14_412 : Index := 14#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v871 : Index := Scalar.indexCast v4
  let c0_413 : Index := 0#32
  ![14, v871.toNat, 0]
def k0_off37 (i : grid0.Coords) (c0_i32_1 : BitVec 32) : Fin 3 → Nat :=
  let c15_439 : Index := 15#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v925 : Index := Scalar.indexCast v4
  let c0_440 : Index := 0#32
  ![15, v925.toNat, 0]
def cc0_transform_0 (k0_off1_inb : ∀ i : grid0.Coords, ∀ (r : Fin 2), ∀ a, (k0_off1 i (BitVec.ofNat 32 r.val)) a + S1.size a ≤ S67.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S67) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 2), ∀ a, (k0_off1 i (BitVec.ofNat 32 r.val)) a + S1.size a ≤ S67.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S67) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 2), ∀ a, (k0_off1 i (BitVec.ofNat 32 r.val)) a + S1.size a ≤ S67.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S67) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 2), ∀ a, (k0_off1 i (BitVec.ofNat 32 r.val)) a + S1.size a ≤ S67.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S67) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 2), ∀ a, (k0_off1 i (BitVec.ofNat 32 r.val)) a + S1.size a ≤ S67.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S67) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (k0_off1_inb : ∀ i : grid0.Coords, ∀ (r : Fin 2), ∀ a, (k0_off1 i (BitVec.ofNat 32 r.val)) a + S1.size a ≤ S67.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S67) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S20x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x2048x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x3x2560 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== DecRefIdeal.lean ====
abbrev S67 : Shape := ⟨1, ![67]⟩
abbrev S86x2048x128 : Shape := ⟨3, ![86, 2048, 128]⟩
abbrev S86x1x2048 : Shape := ⟨3, ![86, 1, 2048]⟩
abbrev S86x3x2560 : Shape := ⟨3, ![86, 3, 2560]⟩
abbrev S20x2176x128 : Shape := ⟨3, ![20, 2176, 128]⟩
abbrev S2176x128 : Shape := ⟨2, ![2176, 128]⟩
abbrev S4x2560 : Shape := ⟨2, ![4, 2560]⟩
abbrev S1x2560 : Shape := ⟨2, ![1, 2560]⟩
abbrev S1x128 : Shape := ⟨2, ![1, 128]⟩
abbrev S1x2048 : Shape := ⟨2, ![1, 2048]⟩
abbrev S60 : Shape := ⟨1, ![60]⟩
abbrev S60x1 : Shape := ⟨2, ![60, 1]⟩
abbrev S60x3x2560 : Shape := ⟨3, ![60, 3, 2560]⟩
abbrev S20x60x128 : Shape := ⟨3, ![20, 60, 128]⟩
abbrev S60x20x128 : Shape := ⟨3, ![60, 20, 128]⟩
abbrev S60x1x2560 : Shape := ⟨3, ![60, 1, 2560]⟩
abbrev S60x2x2560 : Shape := ⟨3, ![60, 2, 2560]⟩

abbrev nBuf : Space → Nat
  | .hbm => 20
  | .vmem => 0
  | .smem => 0
  | _ => 0

abbrev bufTy : (tb : Table) → Fin (tcTables nBuf tb) → BufTy
  | .hbm, ⟨0, _⟩ => ⟨S67, .i32⟩
  | .hbm, ⟨1, _⟩ => ⟨S86x2048x128, .i8⟩
  | .hbm, ⟨2, _⟩ => ⟨S86x1x2048, .f32⟩
  | .hbm, ⟨3, _⟩ => ⟨S86x3x2560, .bf16⟩
  | .hbm, ⟨4, _⟩ => ⟨S20x2176x128, .f32⟩
  | .hbm, ⟨5, _⟩ => ⟨S2176x128, .f32⟩
  | .hbm, ⟨6, _⟩ => ⟨S4x2560, .f32⟩
  | .hbm, ⟨7, _⟩ => ⟨S1x2560, .f32⟩
  | .hbm, ⟨8, _⟩ => ⟨S1x128, .f32⟩
  | .hbm, ⟨9, _⟩ => ⟨S1x2048, .f32⟩
  | .hbm, ⟨10, _⟩ => ⟨S60, .i32⟩
  | .hbm, ⟨11, _⟩ => ⟨S60x1, .i32⟩
  | .hbm, ⟨12, _⟩ => ⟨S60x3x2560, .bf16⟩
  | .hbm, ⟨13, _⟩ => ⟨S60x3x2560, .f32⟩
  | .hbm, ⟨14, _⟩ => ⟨S20x60x128, .f32⟩
  | .hbm, ⟨15, _⟩ => ⟨S60x20x128, .f32⟩
  | .hbm, ⟨16, _⟩ => ⟨S60x1x2560, .f32⟩
  | .hbm, ⟨17, _⟩ => ⟨S60x2x2560, .f32⟩
  | .hbm, ⟨18, _⟩ => ⟨S60x3x2560, .f32⟩
  | .hbm, ⟨19, _⟩ => ⟨S60x3x2560, .bf16⟩
  | _, _ => ⟨S67, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Proof.Ffn.RunA.lean ====
module

public import proofs.«01_k».proof.Proof.Gen.FfnIdeal.Frame
public import proofs.«01_k».proof.Proof.Gen.FfnIdeal.Skeleton

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in its first phase (the up projection, points 0 to 6): from the two scales, the codes of the rows, a block of
    columns of the up weights and its scales, the run stores the pieces `L8` into the block of result codes and the pieces `LS`
    over whatever the scratch held. -/
noncomputable def runA (c : Dev nD) (i : grid0.Coords) (arg1 : Memref sig .tc .smem S1 .f32) (harg1 : arg1.IsWhole) (arg2 : Memref sig .tc .smem S1 .f32) (harg2 : arg2.IsWhole) (arg3 : Memref sig .tc .vmem S1980x4096 .fp8e4m3) (harg3 : arg3.IsWhole) (arg4 : Memref sig .tc .vmem S4096x768 .fp8e4m3) (harg4 : arg4.IsWhole) (arg5 : Memref sig .tc .vmem S1x1x768 .f32) (harg5 : arg5.IsWhole) (arg6 : Memref sig .tc .vmem S5376x512 .fp8e4m3) (harg6 : arg6.IsWhole) (arg7 : Memref sig .tc .vmem S1x1x512 .f32) (harg7 : arg7.IsWhole) (arg8 : Memref sig .tc .vmem S1980x512 .f32) (harg8 : arg8.IsWhole) (arg9 : Memref sig .tc .vmem S1980x768 .fp8e4m3) (harg9 : arg9.IsWhole) (arg10 : Memref sig .tc .vmem S1980x512 .bf16) (harg10 : arg10.IsWhole) (arg11 : Memref sig .tc .vmem S7x1980x768 .fp8e4m3) (harg11 : arg11.IsWhole) (hc0 : k0_cond1 i = 1#1) (hc1 : ¬k0_cond2 i = 1#1)
    (x0 : Vec F S1 .f32) (x1 : Vec F S1 .f32) (x2 : Vec F S1980x4096 .fp8e4m3) (x3 : Vec F S4096x768 .fp8e4m3) (x4 : Vec F S1x1x768 .f32) :
  Σ' (L8 : List (View.Piece (Elt F) S1980x768 .fp8e4m3)), { LS : List (View.Piece (Elt F) S7x1980x768 .fp8e4m3) //
      ∀ (ds : Vec F S7x1980x768 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d) ∗ owns (c : Thread nD τ) arg11 fullShare ds
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg9.view.loc (c : Thread nD τ) ↦[arg9.view.set]{fullShare} arg9.view.writes (Elt F) f L8) ∗ (∃ f, iprop(⌜arg11.view.read (Elt F) f = ds⌝ ∗ (arg11.view.loc (c : Thread nD τ) ↦[arg11.view.set]{fullShare} arg11.view.writes (Elt F) f LS)))) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11) K } := by
  refine ⟨?_, ?_, fun ds E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H8]; · iexists _; iexact H8
    iexists _; isplitr
    swap; · iexact HS0
    ipureintro; exact hfs0

end Cert.FfnIdeal.Gen

end
-- ==== Proof.Ffn.Tile.lean ====
module

public import proofs.«01_k».proof.Proof.Gen.FfnIdeal.Frame
public import proofs.«01_k».proof.Proof.Gen.FfnIdeal.Skeleton
public import Idealize.ShloMosaic.Lib.Pointwise
public import Idealize.ShloMosaic.Lib.ValueIdxCore
public import Idealize.ShloMosaic.Lib.WholeRead
public import Idealize.ShloMosaic.PureOps.Ideal

/-!
  What one tile of the up projection is, over the extended reals: a tile of 256 (or, the last, 188) rows and 256 columns of
  the codes that the first phase of the body stores holds, element by element, the code of `relu(f · w · s_f · ws)²`.
-/

@[expose] public section

set_option maxRecDepth 16384

noncomputable section

namespace Cert.FfnIdeal.Gen

open Idealize.ShloMosaic Idealize.ShloMosaic.TcCoe Idealize.ShloMosaic.Tactic
open scoped BigOperators

/-- The code of one element: from the dot product `d`, the scale `s` of the rows' codes, the scale `w` of the weight's column and
    the scale `su` of the result: `clip (relu (d · s · w)² / su)`. -/
def ucode (s su d w : EReal) : EReal :=
  min (Ideal.ofBits FTy.f32 1138753536#32)
    (max (Ideal.ofBits FTy.f32 3286237184#32) (Ideal.div (max (d * s * w) 0 * max (d * s * w) 0) su))

/-- A block of codes: all rows, 768 columns. -/
def ublk (x0 x1 : Vec Ideal S1 .f32) (x2 : Vec Ideal S1980x4096 .fp8e4m3) (x3 : Vec Ideal S4096x768 .fp8e4m3)
    (x4 : Vec Ideal S1x1x768 .f32) : Vec Ideal S1980x768 .fp8e4m3 :=
  fun y => ucode (x0 (ix1 0)) (x1 (ix1 0)) (∑ k : Fin 4096, x2 (ix2 (y 0) k) * x3 (ix2 k (y 1))) (x4 (ix3 0 0 (y 1)))

/-- A tile of 256 rows, from the rows, columns and scales it is computed from. -/
theorem pay3_apply (s su : Elt Ideal .f32) (a : Vec Ideal S256x4096 .fp8e4m3) (b : Vec Ideal S4096x256 .fp8e4m3)
    (w : Vec Ideal S1x1x256 .f32) (y : S256x256.Idx) :
    k0_pay3 (F := Ideal) s su a b w y
      = ucode s su (∑ k : Fin 4096, a (ix2 (y 0) k) * b (ix2 k (y 1))) (w (ix3 0 0 (y 1))) := by
  unfold k0_pay3 ucode
  pointwise

/-- The last tile, of 188 rows. -/
theorem pay1_apply (s su : Elt Ideal .f32) (a : Vec Ideal S188x4096 .fp8e4m3) (b : Vec Ideal S4096x256 .fp8e4m3)
    (w : Vec Ideal S1x1x256 .f32) (y : S188x256.Idx) :
    k0_pay1 (F := Ideal) s su a b w y
      = ucode s su (∑ k : Fin 4096, a (ix2 (y 0) k) * b (ix2 k (y 1))) (w (ix3 0 0 (y 1))) := by
  unfold k0_pay1 ucode
  pointwise

/-- The same tile with a leading axis of one, as the scratch takes it. -/
theorem pay4_apply (s su : Elt Ideal .f32) (a : Vec Ideal S256x4096 .fp8e4m3) (b : Vec Ideal S4096x256 .fp8e4m3)
    (w : Vec Ideal S1x1x256 .f32) (y : S1x256x256.Idx) :
    k0_pay4 (F := Ideal) s su a b w y
      = ucode s su (∑ k : Fin 4096, a (ix2 (y 1) k) * b (ix2 k (y 2))) (w (ix3 0 0 (y 2))) := by
  unfold k0_pay4 k0_pay3 ucode
  pointwise

theorem pay2_apply (s su : Elt Ideal .f32) (a : Vec Ideal S188x4096 .fp8e4m3) (b : Vec Ideal S4096x256 .fp8e4m3)
    (w : Vec Ideal S1x1x256 .f32) (y : S1x188x256.Idx) :
    k0_pay2 (F := Ideal) s su a b w y
      = ucode s su (∑ k : Fin 4096, a (ix2 (y 1) k) * b (ix2 k (y 2))) (w (ix3 0 0 (y 2))) := by
  unfold k0_pay2 k0_pay1 ucode
  pointwise

section Tiles

variable {arg1 : Memref sig .tc .smem S1 .f32} (harg1 : arg1.IsWhole) {arg2 : Memref sig .tc .smem S1 .f32} (harg2 : arg2.IsWhole)
  {arg3 : Memref sig .tc .vmem S1980x4096 .fp8e4m3} (harg3 : arg3.IsWhole)
  {arg4 : Memref sig .tc .vmem S4096x768 .fp8e4m3} (harg4 : arg4.IsWhole)
  {arg5 : Memref sig .tc .vmem S1x1x768 .f32} (harg5 : arg5.IsWhole)
  (x0 x1 : Vec Ideal S1 .f32) (x2 : Vec Ideal S1980x4096 .fp8e4m3) (x3 : Vec Ideal S4096x768 .fp8e4m3) (x4 : Vec Ideal S1x1x768 .f32)

/-- The word a scalar load reads. -/
abbrev word {m : Memref sig .tc .smem S1 .f32} (h : m.IsWhole) (x : Vec Ideal S1 .f32) : Elt Ideal .f32 :=
  View.readAt (Elt Ideal) m.view (Rect.unit ![0] ![1] inb_S1_S1_0).toLoadRect (h.unread x) (Shape.Idx.first (by decide))

theorem word_eq {m : Memref sig .tc .smem S1 .f32} (h : m.IsWhole) (x : Vec Ideal S1 .f32) : word h x = x (ix1 0) := by
  unfold word
  rw [h.readAt_unread]
  congr 1
  funext a
  fin_cases a
  exact Fin.ext (by simp [LoadRect.idx, Rect.unit]; rfl)

/-- A tile's formula over the loads of its rows, columns and scales is the block's at the place the tile has in it. -/
theorem up_core (n r0 c0 : ℕ) (hr : ∀ a, (![r0, 0] : Fin 2 → ℕ) a + (![n, 4096] : Fin 2 → ℕ) a ≤ S1980x4096.size a)
    (hc : ∀ a, (![0, c0] : Fin 2 → ℕ) a + S4096x256.size a ≤ S4096x768.size a)
    (hw : ∀ a, (![0, 0, c0] : Fin 3 → ℕ) a + S1x1x256.size a ≤ S1x1x768.size a) (p : Fin n) (q : Fin 256) (z : S1980x768.Idx)
    (hz0 : (z 0).val = r0 + p.val) (hz1 : (z 1).val = c0 + q.val) :
    ucode (word harg1 x0) (word harg2 x1)
        (∑ k : Fin 4096,
          View.readAt (Elt Ideal) arg3.view (Rect.unit (s := S1980x4096) ![r0, 0] ![n, 4096] hr).toLoadRect (harg3.unread x2) (ix2 p k)
          * View.readAt (Elt Ideal) arg4.view (Rect.unit (s := S4096x768) ![0, c0] S4096x256.size hc).toLoadRect (harg4.unread x3) (ix2 k q))
        (View.readAt (Elt Ideal) arg5.view (Rect.unit (s := S1x1x768) ![0, 0, c0] S1x1x256.size hw).toLoadRect (harg5.unread x4) (ix3 0 0 q))
      = ublk x0 x1 x2 x3 x4 z := by
  rw [word_eq, word_eq]
  unfold ublk
  congr 1
  · refine Finset.sum_congr rfl fun k _ => ?_
    rw [harg3.readAt_unread, harg4.readAt_unread]
    congr 2
    · funext a; fin_cases a <;> refine Fin.ext ?_ <;> simp [LoadRect.idx, Rect.unit, hz0]
    · funext a; fin_cases a <;> refine Fin.ext ?_ <;> simp [LoadRect.idx, Rect.unit, hz1]
  · rw [harg5.readAt_unread]
    congr 1
    funext a; fin_cases a <;> refine Fin.ext ?_ <;> simp [LoadRect.idx, Rect.unit, hz1]

/-- A tile of 256 rows and 256 columns at row `r0` and column `c0`. -/
theorem up_tile (r0 c0 : ℕ) (hr : ∀ a, (![r0, 0] : Fin 2 → ℕ) a + S256x4096.size a ≤ S1980x4096.size a)
    (hc : ∀ a, (![0, c0] : Fin 2 → ℕ) a + S4096x256.size a ≤ S4096x768.size a)
    (hw : ∀ a, (![0, 0, c0] : Fin 3 → ℕ) a + S1x1x256.size a ≤ S1x1x768.size a)
    (ho : ∀ a, (![r0, c0] : Fin 2 → ℕ) a + S256x256.size a ≤ S1980x768.size a) (y : S256x256.Idx) :
    k0_pay3 (F := Ideal) (word harg1 x0) (word harg2 x1)
        (View.readAt (Elt Ideal) arg3.view (Rect.unit (s := S1980x4096) ![r0, 0] S256x4096.size hr).toLoadRect (harg3.unread x2))
        (View.readAt (Elt Ideal) arg4.view (Rect.unit (s := S4096x768) ![0, c0] S4096x256.size hc).toLoadRect (harg4.unread x3))
        (View.readAt (Elt Ideal) arg5.view (Rect.unit (s := S1x1x768) ![0, 0, c0] S1x1x256.size hw).toLoadRect (harg5.unread x4)) y
      = ublk x0 x1 x2 x3 x4 ((Rect.unit (s := S1980x768) ![r0, c0] S256x256.size ho).emb y) := by
  rw [pay3_apply]
  exact up_core harg1 harg2 harg3 harg4 harg5 x0 x1 x2 x3 x4 256 r0 c0 hr hc hw (y 0) (y 1) _ (by simp [Rect.emb, LoadRect.idx, Rect.unit]) (by simp [Rect.emb, LoadRect.idx, Rect.unit])

/-- The last tile of a column of tiles, of 188 rows. -/
theorem up_tile_last (r0 c0 : ℕ) (hr : ∀ a, (![r0, 0] : Fin 2 → ℕ) a + S188x4096.size a ≤ S1980x4096.size a)
    (hc : ∀ a, (![0, c0] : Fin 2 → ℕ) a + S4096x256.size a ≤ S4096x768.size a)
    (hw : ∀ a, (![0, 0, c0] : Fin 3 → ℕ) a + S1x1x256.size a ≤ S1x1x768.size a)
    (ho : ∀ a, (![r0, c0] : Fin 2 → ℕ) a + S188x256.size a ≤ S1980x768.size a) (y : S188x256.Idx) :
    k0_pay1 (F := Ideal) (word harg1 x0) (word harg2 x1)
        (View.readAt (Elt Ideal) arg3.view (Rect.unit (s := S1980x4096) ![r0, 0] S188x4096.size hr).toLoadRect (harg3.unread x2))
        (View.readAt (Elt Ideal) arg4.view (Rect.unit (s := S4096x768) ![0, c0] S4096x256.size hc).toLoadRect (harg4.unread x3))
        (View.readAt (Elt Ideal) arg5.view (Rect.unit (s := S1x1x768) ![0, 0, c0] S1x1x256.size hw).toLoadRect (harg5.unread x4)) y
      = ublk x0 x1 x2 x3 x4 ((Rect.unit (s := S1980x768) ![r0, c0] S188x256.size ho).emb y) := by
  rw [pay1_apply]
  exact up_core harg1 harg2 harg3 harg4 harg5 x0 x1 x2 x3 x4 188 r0 c0 hr hc hw (y 0) (y 1) _ (by simp [Rect.emb, LoadRect.idx, Rect.unit]) (by simp [Rect.emb, LoadRect.idx, Rect.unit])

/-- A block of codes read under a leading axis. -/
def slab (u : Vec Ideal S1980x768 .fp8e4m3) : Vec Ideal S7x1980x768 .fp8e4m3 := fun y => u (ix2 (y 1) (y 2))

/-- The same as the scratch takes it, into slab `i`. -/
theorem up_tile_scr (r0 c0 : ℕ) (hr : ∀ a, (![r0, 0] : Fin 2 → ℕ) a + S256x4096.size a ≤ S1980x4096.size a)
    (hc : ∀ a, (![0, c0] : Fin 2 → ℕ) a + S4096x256.size a ≤ S4096x768.size a)
    (hw : ∀ a, (![0, 0, c0] : Fin 3 → ℕ) a + S1x1x256.size a ≤ S1x1x768.size a)
    (i : ℕ) (off : Fin 3 → ℕ) (hoff : off = ![i, r0, c0]) (ho : ∀ a, off a + S1x256x256.size a ≤ S7x1980x768.size a) (y : S1x256x256.Idx) :
    k0_pay4 (F := Ideal) (word harg1 x0) (word harg2 x1)
        (View.readAt (Elt Ideal) arg3.view (Rect.unit (s := S1980x4096) ![r0, 0] S256x4096.size hr).toLoadRect (harg3.unread x2))
        (View.readAt (Elt Ideal) arg4.view (Rect.unit (s := S4096x768) ![0, c0] S4096x256.size hc).toLoadRect (harg4.unread x3))
        (View.readAt (Elt Ideal) arg5.view (Rect.unit (s := S1x1x768) ![0, 0, c0] S1x1x256.size hw).toLoadRect (harg5.unread x4)) y
      = slab (ublk x0 x1 x2 x3 x4) ((Rect.unit (s := S7x1980x768) off S1x256x256.size ho).emb y) := by
  rw [pay4_apply]
  exact up_core harg1 harg2 harg3 harg4 harg5 x0 x1 x2 x3 x4 256 r0 c0 hr hc hw (y 1) (y 2) _ (by subst hoff; simp [Rect.emb, LoadRect.idx, Rect.unit]) (by subst hoff; simp [Rect.emb, LoadRect.idx, Rect.unit])

/-- The last tile as the scratch takes it. -/
theorem up_tile_scr_last (r0 c0 : ℕ) (hr : ∀ a, (![r0, 0] : Fin 2 → ℕ) a + S188x4096.size a ≤ S1980x4096.size a)
    (hc : ∀ a, (![0, c0] : Fin 2 → ℕ) a + S4096x256.size a ≤ S4096x768.size a)
    (hw : ∀ a, (![0, 0, c0] : Fin 3 → ℕ) a + S1x1x256.size a ≤ S1x1x768.size a)
    (i : ℕ) (off : Fin 3 → ℕ) (hoff : off = ![i, r0, c0]) (ho : ∀ a, off a + S1x188x256.size a ≤ S7x1980x768.size a) (y : S1x188x256.Idx) :
    k0_pay2 (F := Ideal) (word harg1 x0) (word harg2 x1)
        (View.readAt (Elt Ideal) arg3.view (Rect.unit (s := S1980x4096) ![r0, 0] S188x4096.size hr).toLoadRect (harg3.unread x2))
        (View.readAt (Elt Ideal) arg4.view (Rect.unit (s := S4096x768) ![0, c0] S4096x256.size hc).toLoadRect (harg4.unread x3))
        (View.readAt (Elt Ideal) arg5.view (Rect.unit (s := S1x1x768) ![0, 0, c0] S1x1x256.size hw).toLoadRect (harg5.unread x4)) y
      = slab (ublk x0 x1 x2 x3 x4) ((Rect.unit (s := S7x1980x768) off S1x188x256.size ho).emb y) := by
  rw [pay2_apply]
  exact up_core harg1 harg2 harg3 harg4 harg5 x0 x1 x2 x3 x4 188 r0 c0 hr hc hw (y 1) (y 2) _ (by subst hoff; simp [Rect.emb, LoadRect.idx, Rect.unit]) (by subst hoff; simp [Rect.emb, LoadRect.idx, Rect.unit])

end Tiles

end Cert.FfnIdeal.Gen
-- ==== Proof.Ffn.PiecesA.lean ====
module

public import proofs.«01_k».proof.Proof.Ffn.RunA
public import proofs.«01_k».proof.Proof.Ffn.Tile
public import Idealize.ShloMosaic.Lib.Pipeline.ReadBack
public import Idealize.ShloMosaic.Lib.Ring
public import Idealize.ShloMosaic.Lib.Writes

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the first phase of the body leaves: the block of codes, and the same block in slab `i` of the scratch. -/

section Pieces

variable (c : Dev nD) (i : grid0.Coords) (arg1 : Memref sig .tc .smem S1 .f32) (harg1 : arg1.IsWhole) (arg2 : Memref sig .tc .smem S1 .f32) (harg2 : arg2.IsWhole) (arg3 : Memref sig .tc .vmem S1980x4096 .fp8e4m3) (harg3 : arg3.IsWhole) (arg4 : Memref sig .tc .vmem S4096x768 .fp8e4m3) (harg4 : arg4.IsWhole) (arg5 : Memref sig .tc .vmem S1x1x768 .f32) (harg5 : arg5.IsWhole) (arg6 : Memref sig .tc .vmem S5376x512 .fp8e4m3) (harg6 : arg6.IsWhole) (arg7 : Memref sig .tc .vmem S1x1x512 .f32) (harg7 : arg7.IsWhole) (arg8 : Memref sig .tc .vmem S1980x512 .f32) (harg8 : arg8.IsWhole) (arg9 : Memref sig .tc .vmem S1980x768 .fp8e4m3) (harg9 : arg9.IsWhole) (arg10 : Memref sig .tc .vmem S1980x512 .bf16) (harg10 : arg10.IsWhole) (arg11 : Memref sig .tc .vmem S7x1980x768 .fp8e4m3) (harg11 : arg11.IsWhole) (hc0 : k0_cond1 i = 1#1) (hc1 : ¬k0_cond2 i = 1#1)
  (x0 : Vec Ideal S1 .f32) (x1 : Vec Ideal S1 .f32) (x2 : Vec Ideal S1980x4096 .fp8e4m3) (x3 : Vec Ideal S4096x768 .fp8e4m3) (x4 : Vec Ideal S1x1x768 .f32)

/-- Every piece stored into the block of codes is that block's at its own place. -/
theorem runA_pieces : View.PiecesOf (ublk x0 x1 x2 x3 x4) (runA (F := Ideal) c i arg1 harg1 arg2 harg2 arg3 harg3 arg4 harg4 arg5 harg5 arg6 harg6 arg7 harg7 arg8 harg8 arg9 harg9 arg10 harg10 arg11 harg11 hc0 hc1 x0 x1 x2 x3 x4).1 := by
  refine ⟨fun y => up_tile_last harg1 harg2 harg3 harg4 harg5 x0 x1 x2 x3 x4 1792 512 _ _ _ inb_S1980x768_S188x256_1792_512 y,
    fun y => up_tile_last harg1 harg2 harg3 harg4 harg5 x0 x1 x2 x3 x4 1792 256 _ _ _ inb_S1980x768_S188x256_1792_256 y,
    fun y => up_tile_last harg1 harg2 harg3 harg4 harg5 x0 x1 x2 x3 x4 1792 0 _ _ _ inb_S1980x768_S188x256_1792_0 y,
    fun y => up_tile harg1 harg2 harg3 harg4 harg5 x0 x1 x2 x3 x4 1536 512 _ _ _ inb_S1980x768_S256x256_1536_512 y,
    fun y => up_tile harg1 harg2 harg3 harg4 harg5 x0 x1 x2 x3 x4 1536 256 _ _ _ inb_S1980x768_S256x256_1536_256 y,
    fun y => up_tile harg1 harg2 harg3 harg4 harg5 x0 x1 x2 x3 x4 1536 0 _ _ _ inb_S1980x768_S256x256_1536_0 y,
    fun y => up_tile harg1 harg2 harg3 harg4 harg5 x0 x1 x2 x3 x4 1280 512 _ _ _ inb_S1980x768_S256x256_1280_512 y,
    fun y => up_tile harg1 harg2 harg3 harg4 harg5 x0 x1 x2 x3 x4 1280 256 _ _ _ inb_S1980x768_S256x256_1280_256 y,
    fun y => up_tile harg1 harg2 harg3 harg4 harg5 x0 x1 x2 x3 x4 1280 0 _ _ _ inb_S1980x768_S256x256_1280_0 y,
    fun y => up_tile harg1 harg2 harg3 harg4 harg5 x0 x1 x2 x3 x4 1024 512 _ _ _ inb_S1980x768_S256x256_1024_512 y,
    fun y => up_tile harg1 harg2 harg3 harg4 harg5 x0 x1 x2 x3 x4 1024 256 _ _ _ inb_S1980x768_S256x256_1024_256 y,
    fun y => up_tile harg1 harg2 harg3 harg4 harg5 x0 x1 x2 x3 x4 1024 0 _ _ _ inb_S1980x768_S256x256_1024_0 y,
    fun y => up_tile harg1 harg2 harg3 harg4 harg5 x0 x1 x2 x3 x4 768 512 _ _ _ inb_S1980x768_S256x256_768_512 y,
    fun y => up_tile harg1 harg2 harg3 harg4 harg5 x0 x1 x2 x3 x4 768 256 _ _ _ inb_S1980x768_S256x256_768_256 y,
    fun y => up_tile harg1 harg2 harg3 harg4 harg5 x0 x1 x2 x3 x4 768 0 _ _ _ inb_S1980x768_S256x256_768_0 y,
    fun y => up_tile harg1 harg2 harg3 harg4 harg5 x0 x1 x2 x3 x4 512 512 _ _ _ inb_S1980x768_S256x256_512_512 y,
    fun y => up_tile harg1 harg2 harg3 harg4 harg5 x0 x1 x2 x3 x4 512 256 _ _ _ inb_S1980x768_S256x256_512_256 y,
    fun y => up_tile harg1 harg2 harg3 harg4 harg5 x0 x1 x2 x3 x4 512 0 _ _ _ inb_S1980x768_S256x256_512_0 y,
    fun y => up_tile harg1 harg2 harg3 harg4 harg5 x0 x1 x2 x3 x4 256 512 _ _ _ inb_S1980x768_S256x256_256_512 y,
    fun y => up_tile harg1 harg2 harg3 harg4 harg5 x0 x1 x2 x3 x4 256 256 _ _ _ inb_S1980x768_S256x256_256_256 y,
    fun y => up_tile harg1 harg2 harg3 harg4 harg5 x0 x1 x2 x3 x4 256 0 _ _ _ inb_S1980x768_S256x256_256_0 y,
    fun y => up_tile harg1 harg2 harg3 harg4 harg5 x0 x1 x2 x3 x4 0 512 _ _ _ inb_S1980x768_S256x256_0_512 y,
    fun y => up_tile harg1 harg2 harg3 harg4 harg5 x0 x1 x2 x3 x4 0 256 _ _ _ inb_S1980x768_S256x256_0_256 y,
    fun y => up_tile harg1 harg2 harg3 harg4 harg5 x0 x1 x2 x3 x4 0 0 _ _ _ inb_S1980x768_S256x256_0_0 y, trivial⟩

/-- … and they cover it. -/
theorem runA_cover (y : S1980x768.Idx) : ∃ p ∈ (runA (F := Ideal) c i arg1 harg1 arg2 harg2 arg3 harg3 arg4 harg4 arg5 harg5 arg6 harg6 arg7 harg7 arg8 harg8 arg9 harg9 arg10 harg10 arg11 harg11 hc0 hc1 x0 x1 x2 x3 x4).1, y ∈ p.1.set :=
  View.cover_of_tiledBy _ ![4, 256] (by sl_kernel_rfl) y

/-- Every piece stored into the scratch is the block of codes' at its own place. -/
theorem runA_slab_pieces : View.PiecesOf (slab (ublk x0 x1 x2 x3 x4)) (runA (F := Ideal) c i arg1 harg1 arg2 harg2 arg3 harg3 arg4 harg4 arg5 harg5 arg6 harg6 arg7 harg7 arg8 harg8 arg9 harg9 arg10 harg10 arg11 harg11 hc0 hc1 x0 x1 x2 x3 x4).2.1 := by
  refine ⟨fun y => up_tile_scr_last harg1 harg2 harg3 harg4 harg5 x0 x1 x2 x3 x4 1792 512 _ _ _ (i 0).val _ (k0_off24_eq i) (k0_off24_inb i hc0) y,
    fun y => up_tile_scr_last harg1 harg2 harg3 harg4 harg5 x0 x1 x2 x3 x4 1792 256 _ _ _ (i 0).val _ (k0_off23_eq i) (k0_off23_inb i hc0) y,
    fun y => up_tile_scr_last harg1 harg2 harg3 harg4 harg5 x0 x1 x2 x3 x4 1792 0 _ _ _ (i 0).val _ (k0_off22_eq i) (k0_off22_inb i hc0) y,
    fun y => up_tile_scr harg1 harg2 harg3 harg4 harg5 x0 x1 x2 x3 x4 1536 512 _ _ _ (i 0).val _ (k0_off21_eq i) (k0_off21_inb i hc0) y,
    fun y => up_tile_scr harg1 harg2 harg3 harg4 harg5 x0 x1 x2 x3 x4 1536 256 _ _ _ (i 0).val _ (k0_off20_eq i) (k0_off20_inb i hc0) y,
    fun y => up_tile_scr harg1 harg2 harg3 harg4 harg5 x0 x1 x2 x3 x4 1536 0 _ _ _ (i 0).val _ (k0_off19_eq i) (k0_off19_inb i hc0) y,
    fun y => up_tile_scr harg1 harg2 harg3 harg4 harg5 x0 x1 x2 x3 x4 1280 512 _ _ _ (i 0).val _ (k0_off18_eq i) (k0_off18_inb i hc0) y,
    fun y => up_tile_scr harg1 harg2 harg3 harg4 harg5 x0 x1 x2 x3 x4 1280 256 _ _ _ (i 0).val _ (k0_off17_eq i) (k0_off17_inb i hc0) y,
    fun y => up_tile_scr harg1 harg2 harg3 harg4 harg5 x0 x1 x2 x3 x4 1280 0 _ _ _ (i 0).val _ (k0_off16_eq i) (k0_off16_inb i hc0) y,
    fun y => up_tile_scr harg1 harg2 harg3 harg4 harg5 x0 x1 x2 x3 x4 1024 512 _ _ _ (i 0).val _ (k0_off15_eq i) (k0_off15_inb i hc0) y,
    fun y => up_tile_scr harg1 harg2 harg3 harg4 harg5 x0 x1 x2 x3 x4 1024 256 _ _ _ (i 0).val _ (k0_off14_eq i) (k0_off14_inb i hc0) y,
    fun y => up_tile_scr harg1 harg2 harg3 harg4 harg5 x0 x1 x2 x3 x4 1024 0 _ _ _ (i 0).val _ (k0_off13_eq i) (k0_off13_inb i hc0) y,
    fun y => up_tile_scr harg1 harg2 harg3 harg4 harg5 x0 x1 x2 x3 x4 768 512 _ _ _ (i 0).val _ (k0_off12_eq i) (k0_off12_inb i hc0) y,
    fun y => up_tile_scr harg1 harg2 harg3 harg4 harg5 x0 x1 x2 x3 x4 768 256 _ _ _ (i 0).val _ (k0_off11_eq i) (k0_off11_inb i hc0) y,
    fun y => up_tile_scr harg1 harg2 harg3 harg4 harg5 x0 x1 x2 x3 x4 768 0 _ _ _ (i 0).val _ (k0_off10_eq i) (k0_off10_inb i hc0) y,
    fun y => up_tile_scr harg1 harg2 harg3 harg4 harg5 x0 x1 x2 x3 x4 512 512 _ _ _ (i 0).val _ (k0_off9_eq i) (k0_off9_inb i hc0) y,
    fun y => up_tile_scr harg1 harg2 harg3 harg4 harg5 x0 x1 x2 x3 x4 512 256 _ _ _ (i 0).val _ (k0_off8_eq i) (k0_off8_inb i hc0) y,
    fun y => up_tile_scr harg1 harg2 harg3 harg4 harg5 x0 x1 x2 x3 x4 512 0 _ _ _ (i 0).val _ (k0_off7_eq i) (k0_off7_inb i hc0) y,
    fun y => up_tile_scr harg1 harg2 harg3 harg4 harg5 x0 x1 x2 x3 x4 256 512 _ _ _ (i 0).val _ (k0_off6_eq i) (k0_off6_inb i hc0) y,
    fun y => up_tile_scr harg1 harg2 harg3 harg4 harg5 x0 x1 x2 x3 x4 256 256 _ _ _ (i 0).val _ (k0_off5_eq i) (k0_off5_inb i hc0) y,
    fun y => up_tile_scr harg1 harg2 harg3 harg4 harg5 x0 x1 x2 x3 x4 256 0 _ _ _ (i 0).val _ (k0_off4_eq i) (k0_off4_inb i hc0) y,
    fun y => up_tile_scr harg1 harg2 harg3 harg4 harg5 x0 x1 x2 x3 x4 0 512 _ _ _ (i 0).val _ (k0_off3_eq i) (k0_off3_inb i hc0) y,
    fun y => up_tile_scr harg1 harg2 harg3 harg4 harg5 x0 x1 x2 x3 x4 0 256 _ _ _ (i 0).val _ (k0_off2_eq i) (k0_off2_inb i hc0) y,
    fun y => up_tile_scr harg1 harg2 harg3 harg4 harg5 x0 x1 x2 x3 x4 0 0 _ _ _ (i 0).val _ (k0_off1_eq i) (k0_off1_inb i hc0) y, trivial⟩

/-- A rectangle of the block and the rectangle at the same place of slab `i`. -/
def SameTile (i : ℕ) (p : View.Piece (Elt Ideal) S1980x768 .fp8e4m3) (q : View.Piece (Elt Ideal) S7x1980x768 .fp8e4m3) : Prop :=
  (∀ y : S7x1980x768.Idx, (y 0).val = i → (ix2 (y 1) (y 2) : S1980x768.Idx) ∈ p.1.set → y ∈ q.1.set) ∧
  (∀ y : S7x1980x768.Idx, y ∈ q.1.set → (y 0).val = i)

theorem sameTile (i n r0 c0 : ℕ) (off : Fin 3 → ℕ) (hoff : off = ![i, r0, c0])
    (hp : ∀ a, (![r0, c0] : Fin 2 → ℕ) a + (![n, 256] : Fin 2 → ℕ) a ≤ S1980x768.size a)
    (hq : ∀ a, off a + (![1, n, 256] : Fin 3 → ℕ) a ≤ S7x1980x768.size a) (v w) :
    SameTile i ⟨Rect.unit (s := S1980x768) ![r0, c0] ![n, 256] hp, v⟩ ⟨Rect.unit (s := S7x1980x768) off ![1, n, 256] hq, w⟩ := by
  subst hoff
  constructor
  · intro y hy h
    rw [Rect.mem_set_unit] at h ⊢
    have h0 := h 0; have h1 := h 1
    simp at h0 h1
    intro a
    fin_cases a <;> simp <;> omega
  · intro y h
    rw [Rect.mem_set_unit] at h
    have h0 := h 0
    simp at h0
    omega

theorem runA_sameTile : List.Forall₂ (SameTile (i 0).val) (runA (F := Ideal) c i arg1 harg1 arg2 harg2 arg3 harg3 arg4 harg4 arg5 harg5 arg6 harg6 arg7 harg7 arg8 harg8 arg9 harg9 arg10 harg10 arg11 harg11 hc0 hc1 x0 x1 x2 x3 x4).1 (runA (F := Ideal) c i arg1 harg1 arg2 harg2 arg3 harg3 arg4 harg4 arg5 harg5 arg6 harg6 arg7 harg7 arg8 harg8 arg9 harg9 arg10 harg10 arg11 harg11 hc0 hc1 x0 x1 x2 x3 x4).2.1 := by
  refine .cons (sameTile (i 0).val 188 1792 512 _ (k0_off24_eq i) _ _ _ _) ?_
  refine .cons (sameTile (i 0).val 188 1792 256 _ (k0_off23_eq i) _ _ _ _) ?_
  refine .cons (sameTile (i 0).val 188 1792 0 _ (k0_off22_eq i) _ _ _ _) ?_
  refine .cons (sameTile (i 0).val 256 1536 512 _ (k0_off21_eq i) _ _ _ _) ?_
  refine .cons (sameTile (i 0).val 256 1536 256 _ (k0_off20_eq i) _ _ _ _) ?_
  refine .cons (sameTile (i 0).val 256 1536 0 _ (k0_off19_eq i) _ _ _ _) ?_
  refine .cons (sameTile (i 0).val 256 1280 512 _ (k0_off18_eq i) _ _ _ _) ?_
  refine .cons (sameTile (i 0).val 256 1280 256 _ (k0_off17_eq i) _ _ _ _) ?_
  refine .cons (sameTile (i 0).val 256 1280 0 _ (k0_off16_eq i) _ _ _ _) ?_
  refine .cons (sameTile (i 0).val 256 1024 512 _ (k0_off15_eq i) _ _ _ _) ?_
  refine .cons (sameTile (i 0).val 256 1024 256 _ (k0_off14_eq i) _ _ _ _) ?_
  refine .cons (sameTile (i 0).val 256 1024 0 _ (k0_off13_eq i) _ _ _ _) ?_
  refine .cons (sameTile (i 0).val 256 768 512 _ (k0_off12_eq i) _ _ _ _) ?_
  refine .cons (sameTile (i 0).val 256 768 256 _ (k0_off11_eq i) _ _ _ _) ?_
  refine .cons (sameTile (i 0).val 256 768 0 _ (k0_off10_eq i) _ _ _ _) ?_
  refine .cons (sameTile (i 0).val 256 512 512 _ (k0_off9_eq i) _ _ _ _) ?_
  refine .cons (sameTile (i 0).val 256 512 256 _ (k0_off8_eq i) _ _ _ _) ?_
  refine .cons (sameTile (i 0).val 256 512 0 _ (k0_off7_eq i) _ _ _ _) ?_
  refine .cons (sameTile (i 0).val 256 256 512 _ (k0_off6_eq i) _ _ _ _) ?_
  refine .cons (sameTile (i 0).val 256 256 256 _ (k0_off5_eq i) _ _ _ _) ?_
  refine .cons (sameTile (i 0).val 256 256 0 _ (k0_off4_eq i) _ _ _ _) ?_
  refine .cons (sameTile (i 0).val 256 0 512 _ (k0_off3_eq i) _ _ _ _) ?_
  refine .cons (sameTile (i 0).val 256 0 256 _ (k0_off2_eq i) _ _ _ _) ?_
  refine .cons (sameTile (i 0).val 256 0 0 _ (k0_off1_eq i) _ _ _ _) ?_
  exact .nil

end Pieces

end Cert.FfnIdeal.Gen
-- ==== Proof.Ffn.RunB.lean ====
module

public import proofs.«01_k».proof.Proof.Ffn.RunA

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body in its second phase (the down projection, points 7 to 14): from the scale of the codes, a block of columns of the
    down weights and its scales, a block of columns of the residual and the codes the scratch holds, the run stores the
    pieces `L9` into the block of the output and leaves the scratch as it was. -/
noncomputable def runB (c : Dev nD) (i : grid0.Coords) (arg1 : Memref sig .tc .smem S1 .f32) (harg1 : arg1.IsWhole) (arg2 : Memref sig .tc .smem S1 .f32) (harg2 : arg2.IsWhole) (arg3 : Memref sig .tc .vmem S1980x4096 .fp8e4m3) (harg3 : arg3.IsWhole) (arg4 : Memref sig .tc .vmem S4096x768 .fp8e4m3) (harg4 : arg4.IsWhole) (arg5 : Memref sig .tc .vmem S1x1x768 .f32) (harg5 : arg5.IsWhole) (arg6 : Memref sig .tc .vmem S5376x512 .fp8e4m3) (harg6 : arg6.IsWhole) (arg7 : Memref sig .tc .vmem S1x1x512 .f32) (harg7 : arg7.IsWhole) (arg8 : Memref sig .tc .vmem S1980x512 .f32) (harg8 : arg8.IsWhole) (arg9 : Memref sig .tc .vmem S1980x768 .fp8e4m3) (harg9 : arg9.IsWhole) (arg10 : Memref sig .tc .vmem S1980x512 .bf16) (harg10 : arg10.IsWhole) (arg11 : Memref sig .tc .vmem S7x1980x768 .fp8e4m3) (harg11 : arg11.IsWhole) (hc0 : ¬k0_cond1 i = 1#1) (hc1 : k0_cond2 i = 1#1)
    (x0 : Vec F S1 .f32) (x1 : Vec F S1 .f32) (x5 : Vec F S5376x512 .fp8e4m3) (x6 : Vec F S1x1x512 .f32) (x7 : Vec F S1980x512 .f32) (xs : Vec F S7x1980x768 .fp8e4m3) :
  { L9 : List (View.Piece (Elt F) S1980x512 .bf16) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7 ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_ffn_eq_skeleton]; unfold cc0_ffn_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f5, %hf5, H5⟩, ⟨%f6, %hf6, H6⟩, ⟨%f7, %hf7, H7⟩, ⟨%d9, %f9, -, H9⟩, ⟨%fs0, %hfs0, HS0⟩, Hk⟩
    obtain rfl := harg1.eq_unread hf0; obtain rfl := harg2.eq_unread hf1; obtain rfl := harg6.eq_unread hf5; obtain rfl := harg7.eq_unread hf6; obtain rfl := harg8.eq_unread hf7; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H9]; · iexists _; iexact H9
    iexists _; isplitr; · ipureintro; exact harg11.read_unread _
    iexact HS0

end Cert.FfnIdeal.Gen

end
-- ==== Proof.Ffn.Down.lean ====
module

public import proofs.«01_k».proof.Proof.Ffn.Tile
public import Idealize.ShloMosaic.Lib.Pointwise
public import Idealize.ShloMosaic.Lib.ValueIdxCore
public import Idealize.ShloMosaic.Lib.WholeRead
public import Idealize.ShloMosaic.PureOps.Ideal

/-!
  What one tile of the down projection is, over the extended reals: the residual plus the product of the tile's rows of the seven
  slabs of codes with the matching rows of the down weights, scaled.
-/

@[expose] public section

set_option maxRecDepth 16384

noncomputable section

namespace Cert.FfnIdeal.Gen

open Idealize.ShloMosaic Idealize.ShloMosaic.TcCoe Idealize.ShloMosaic.Tactic
open scoped BigOperators

/-- One slab's share of a dot product. -/
def slabDot (x5 : Vec Ideal S5376x512 .fp8e4m3) (xs : Vec Ideal S7x1980x768 .fp8e4m3) (r : Fin 1980) (q : Fin 512) (j : Fin 7) : EReal :=
  ∑ k : Fin 768, xs (ix3 j r k) * x5 (ix2 (⟨768 * j.val + k.val, by omega⟩ : Fin 5376) q)

/-- A block of the output: all rows, 512 columns. -/
def oblk (x1 : Vec Ideal S1 .f32) (x5 : Vec Ideal S5376x512 .fp8e4m3) (x6 : Vec Ideal S1x1x512 .f32) (x7 : Vec Ideal S1980x512 .f32)
    (xs : Vec Ideal S7x1980x768 .fp8e4m3) : Vec Ideal S1980x512 .bf16 :=
  fun y => x7 y + (∑ j : Fin 7, slabDot x5 xs (y 0) (y 1) j) * x1 (ix1 0) * x6 (ix3 0 0 (y 1))

/-- A tile of 256 rows of the output, from the loads it is computed from. -/
def dtile256 (s : Elt Ideal .f32) (l0 : Vec Ideal S1x256x768 .fp8e4m3) (w0 : Vec Ideal S768x256 .fp8e4m3) (l1 : Vec Ideal S1x256x768 .fp8e4m3) (w1 : Vec Ideal S768x256 .fp8e4m3) (l2 : Vec Ideal S1x256x768 .fp8e4m3) (w2 : Vec Ideal S768x256 .fp8e4m3) (l3 : Vec Ideal S1x256x768 .fp8e4m3) (w3 : Vec Ideal S768x256 .fp8e4m3) (l4 : Vec Ideal S1x256x768 .fp8e4m3) (w4 : Vec Ideal S768x256 .fp8e4m3) (l5 : Vec Ideal S1x256x768 .fp8e4m3) (w5 : Vec Ideal S768x256 .fp8e4m3) (l6 : Vec Ideal S1x256x768 .fp8e4m3) (w6 : Vec Ideal S768x256 .fp8e4m3) (h : Vec Ideal S256x256 .f32) (ws : Vec Ideal S1x1x256 .f32) : Vec Ideal S256x256 .bf16 :=
  k0_pay63 s (k0_pay61 l0 w0 l1 w1 l2 w2 l3 w3 l4 w4) (k0_pay62 l5) w5 l6 w6 h ws

theorem dtile256_apply (s : Elt Ideal .f32) (l0 : Vec Ideal S1x256x768 .fp8e4m3) (w0 : Vec Ideal S768x256 .fp8e4m3) (l1 : Vec Ideal S1x256x768 .fp8e4m3) (w1 : Vec Ideal S768x256 .fp8e4m3) (l2 : Vec Ideal S1x256x768 .fp8e4m3) (w2 : Vec Ideal S768x256 .fp8e4m3) (l3 : Vec Ideal S1x256x768 .fp8e4m3) (w3 : Vec Ideal S768x256 .fp8e4m3) (l4 : Vec Ideal S1x256x768 .fp8e4m3) (w4 : Vec Ideal S768x256 .fp8e4m3) (l5 : Vec Ideal S1x256x768 .fp8e4m3) (w5 : Vec Ideal S768x256 .fp8e4m3) (l6 : Vec Ideal S1x256x768 .fp8e4m3) (w6 : Vec Ideal S768x256 .fp8e4m3) (h : Vec Ideal S256x256 .f32) (ws : Vec Ideal S1x1x256 .f32) (y : S256x256.Idx) :
    dtile256 s l0 w0 l1 w1 l2 w2 l3 w3 l4 w4 l5 w5 l6 w6 h ws y = h y + ((∑ k : Fin 768, l0 (ix3 0 (y 0) k) * w0 (ix2 k (y 1))) + (∑ k : Fin 768, l1 (ix3 0 (y 0) k) * w1 (ix2 k (y 1))) + (∑ k : Fin 768, l2 (ix3 0 (y 0) k) * w2 (ix2 k (y 1))) + (∑ k : Fin 768, l3 (ix3 0 (y 0) k) * w3 (ix2 k (y 1))) + (∑ k : Fin 768, l4 (ix3 0 (y 0) k) * w4 (ix2 k (y 1))) + (∑ k : Fin 768, l5 (ix3 0 (y 0) k) * w5 (ix2 k (y 1))) + (∑ k : Fin 768, l6 (ix3 0 (y 0) k) * w6 (ix2 k (y 1)))) * s * ws (ix3 0 0 (y 1)) := by
  unfold dtile256 k0_pay63 k0_pay62 k0_pay61
  pointwise

/-- A tile of 188 rows of the output, from the loads it is computed from. -/
def dtile188 (s : Elt Ideal .f32) (l0 : Vec Ideal S1x188x768 .fp8e4m3) (w0 : Vec Ideal S768x256 .fp8e4m3) (l1 : Vec Ideal S1x188x768 .fp8e4m3) (w1 : Vec Ideal S768x256 .fp8e4m3) (l2 : Vec Ideal S1x188x768 .fp8e4m3) (w2 : Vec Ideal S768x256 .fp8e4m3) (l3 : Vec Ideal S1x188x768 .fp8e4m3) (w3 : Vec Ideal S768x256 .fp8e4m3) (l4 : Vec Ideal S1x188x768 .fp8e4m3) (w4 : Vec Ideal S768x256 .fp8e4m3) (l5 : Vec Ideal S1x188x768 .fp8e4m3) (w5 : Vec Ideal S768x256 .fp8e4m3) (l6 : Vec Ideal S1x188x768 .fp8e4m3) (w6 : Vec Ideal S768x256 .fp8e4m3) (h : Vec Ideal S188x256 .f32) (ws : Vec Ideal S1x1x256 .f32) : Vec Ideal S188x256 .bf16 :=
  k0_pay109 s (k0_pay107 l0 w0 l1 w1 l2 w2 l3 w3 l4 w4) (k0_pay108 l5 w5) l6 w6 h ws

theorem dtile188_apply (s : Elt Ideal .f32) (l0 : Vec Ideal S1x188x768 .fp8e4m3) (w0 : Vec Ideal S768x256 .fp8e4m3) (l1 : Vec Ideal S1x188x768 .fp8e4m3) (w1 : Vec Ideal S768x256 .fp8e4m3) (l2 : Vec Ideal S1x188x768 .fp8e4m3) (w2 : Vec Ideal S768x256 .fp8e4m3) (l3 : Vec Ideal S1x188x768 .fp8e4m3) (w3 : Vec Ideal S768x256 .fp8e4m3) (l4 : Vec Ideal S1x188x768 .fp8e4m3) (w4 : Vec Ideal S768x256 .fp8e4m3) (l5 : Vec Ideal S1x188x768 .fp8e4m3) (w5 : Vec Ideal S768x256 .fp8e4m3) (l6 : Vec Ideal S1x188x768 .fp8e4m3) (w6 : Vec Ideal S768x256 .fp8e4m3) (h : Vec Ideal S188x256 .f32) (ws : Vec Ideal S1x1x256 .f32) (y : S188x256.Idx) :
    dtile188 s l0 w0 l1 w1 l2 w2 l3 w3 l4 w4 l5 w5 l6 w6 h ws y = h y + ((∑ k : Fin 768, l0 (ix3 0 (y 0) k) * w0 (ix2 k (y 1))) + (∑ k : Fin 768, l1 (ix3 0 (y 0) k) * w1 (ix2 k (y 1))) + (∑ k : Fin 768, l2 (ix3 0 (y 0) k) * w2 (ix2 k (y 1))) + (∑ k : Fin 768, l3 (ix3 0 (y 0) k) * w3 (ix2 k (y 1))) + (∑ k : Fin 768, l4 (ix3 0 (y 0) k) * w4 (ix2 k (y 1))) + (∑ k : Fin 768, l5 (ix3 0 (y 0) k) * w5 (ix2 k (y 1))) + (∑ k : Fin 768, l6 (ix3 0 (y 0) k) * w6 (ix2 k (y 1)))) * s * ws (ix3 0 0 (y 1)) := by
  unfold dtile188 k0_pay109 k0_pay108 k0_pay107
  pointwise

section Tiles

variable {arg2 : Memref sig .tc .smem S1 .f32} (harg2 : arg2.IsWhole)
  {arg6 : Memref sig .tc .vmem S5376x512 .fp8e4m3} (harg6 : arg6.IsWhole)
  {arg7 : Memref sig .tc .vmem S1x1x512 .f32} (harg7 : arg7.IsWhole)
  {arg8 : Memref sig .tc .vmem S1980x512 .f32} (harg8 : arg8.IsWhole)
  {arg11 : Memref sig .tc .vmem S7x1980x768 .fp8e4m3} (harg11 : arg11.IsWhole)
  (x1 : Vec Ideal S1 .f32) (x5 : Vec Ideal S5376x512 .fp8e4m3) (x6 : Vec Ideal S1x1x512 .f32) (x7 : Vec Ideal S1980x512 .f32)
  (xs : Vec Ideal S7x1980x768 .fp8e4m3)

/-- The load of `n` rows of slab `j` from row `r0`. -/
abbrev slabRows (n j r0 : ℕ) (h : ∀ a, (![j, r0, 0] : Fin 3 → ℕ) a + (![1, n, 768] : Fin 3 → ℕ) a ≤ S7x1980x768.size a) :
    Vec Ideal ⟨3, ![1, n, 768]⟩ .fp8e4m3 :=
  View.readAt (Elt Ideal) arg11.view (Rect.unit (s := S7x1980x768) ![j, r0, 0] ![1, n, 768] h).toLoadRect (harg11.unread xs)

/-- The load of slab `j`'s rows of the weights, 256 columns from column `c0`. -/
abbrev wtRows (j c0 : ℕ) (h : ∀ a, (![768 * j, c0] : Fin 2 → ℕ) a + S768x256.size a ≤ S5376x512.size a) : Vec Ideal S768x256 .fp8e4m3 :=
  View.readAt (Elt Ideal) arg6.view (Rect.unit (s := S5376x512) ![768 * j, c0] S768x256.size h).toLoadRect (harg6.unread x5)

/-- The product of the two loads is that slab's share. -/
theorem slab_dot (n j r0 c0 : ℕ) (hj : j < 7) (h h') (p : Fin n) (q : Fin 256) (r : Fin 1980) (c : Fin 512) (hr : r.val = r0 + p.val)
    (hc : c.val = c0 + q.val) :
    (∑ k : Fin 768, slabRows harg11 xs n j r0 h (ix3 0 p k) * wtRows harg6 x5 j c0 h' (ix2 k q)) = slabDot x5 xs r c ⟨j, hj⟩ := by
  unfold slabDot
  refine Finset.sum_congr rfl fun k _ => ?_
  unfold slabRows wtRows
  rw [harg11.readAt_unread, harg6.readAt_unread]
  congr 2
  · funext a; fin_cases a <;> refine Fin.ext ?_ <;> simp [LoadRect.idx, Rect.unit, hr]
  · funext a; fin_cases a <;> refine Fin.ext ?_ <;> simp [LoadRect.idx, Rect.unit, hc]

/-- A tile of 256 rows and 256 columns at row `r0` and column `c0`. -/
theorem down_tile (r0 c0 : ℕ)
    (g0 : ∀ a, (![0, r0, 0] : Fin 3 → ℕ) a + S1x256x768.size a ≤ S7x1980x768.size a) (v0 : ∀ a, (![0, c0] : Fin 2 → ℕ) a + S768x256.size a ≤ S5376x512.size a)
    (g1 : ∀ a, (![1, r0, 0] : Fin 3 → ℕ) a + S1x256x768.size a ≤ S7x1980x768.size a) (v1 : ∀ a, (![768, c0] : Fin 2 → ℕ) a + S768x256.size a ≤ S5376x512.size a)
    (g2 : ∀ a, (![2, r0, 0] : Fin 3 → ℕ) a + S1x256x768.size a ≤ S7x1980x768.size a) (v2 : ∀ a, (![1536, c0] : Fin 2 → ℕ) a + S768x256.size a ≤ S5376x512.size a)
    (g3 : ∀ a, (![3, r0, 0] : Fin 3 → ℕ) a + S1x256x768.size a ≤ S7x1980x768.size a) (v3 : ∀ a, (![2304, c0] : Fin 2 → ℕ) a + S768x256.size a ≤ S5376x512.size a)
    (g4 : ∀ a, (![4, r0, 0] : Fin 3 → ℕ) a + S1x256x768.size a ≤ S7x1980x768.size a) (v4 : ∀ a, (![3072, c0] : Fin 2 → ℕ) a + S768x256.size a ≤ S5376x512.size a)
    (g5 : ∀ a, (![5, r0, 0] : Fin 3 → ℕ) a + S1x256x768.size a ≤ S7x1980x768.size a) (v5 : ∀ a, (![3840, c0] : Fin 2 → ℕ) a + S768x256.size a ≤ S5376x512.size a)
    (g6 : ∀ a, (![6, r0, 0] : Fin 3 → ℕ) a + S1x256x768.size a ≤ S7x1980x768.size a) (v6 : ∀ a, (![4608, c0] : Fin 2 → ℕ) a + S768x256.size a ≤ S5376x512.size a)
    (hh : ∀ a, (![r0, c0] : Fin 2 → ℕ) a + S256x256.size a ≤ S1980x512.size a)
    (hw : ∀ a, (![0, 0, c0] : Fin 3 → ℕ) a + S1x1x256.size a ≤ S1x1x512.size a)
    (ho : ∀ a, (![r0, c0] : Fin 2 → ℕ) a + S256x256.size a ≤ S1980x512.size a) (y : S256x256.Idx) :
    dtile256 (word harg2 x1)
        (slabRows harg11 xs 256 0 r0 g0) (wtRows harg6 x5 0 c0 v0)
        (slabRows harg11 xs 256 1 r0 g1) (wtRows harg6 x5 1 c0 v1)
        (slabRows harg11 xs 256 2 r0 g2) (wtRows harg6 x5 2 c0 v2)
        (slabRows harg11 xs 256 3 r0 g3) (wtRows harg6 x5 3 c0 v3)
        (slabRows harg11 xs 256 4 r0 g4) (wtRows harg6 x5 4 c0 v4)
        (slabRows harg11 xs 256 5 r0 g5) (wtRows harg6 x5 5 c0 v5)
        (slabRows harg11 xs 256 6 r0 g6) (wtRows harg6 x5 6 c0 v6)
        (View.readAt (Elt Ideal) arg8.view (Rect.unit (s := S1980x512) ![r0, c0] S256x256.size hh).toLoadRect (harg8.unread x7))
        (View.readAt (Elt Ideal) arg7.view (Rect.unit (s := S1x1x512) ![0, 0, c0] S1x1x256.size hw).toLoadRect (harg7.unread x6)) y
      = oblk x1 x5 x6 x7 xs ((Rect.unit (s := S1980x512) ![r0, c0] S256x256.size ho).emb y) := by
  have h0 : ((((Rect.unit (s := S1980x512) ![r0, c0] S256x256.size ho).emb y) 0 : Fin 1980) : ℕ) = r0 + (y 0).val := by
    simp [Rect.emb, LoadRect.idx, Rect.unit]
  have h1 : ((((Rect.unit (s := S1980x512) ![r0, c0] S256x256.size ho).emb y) 1 : Fin 512) : ℕ) = c0 + (y 1).val := by
    simp [Rect.emb, LoadRect.idx, Rect.unit]
  rw [dtile256_apply, word_eq]
  unfold oblk
  congr 1
  · rw [harg8.readAt_unread]; rfl
  congr 1
  · congr 1
    rw [Fin.sum_univ_seven]
    exact congrArg₂ _ (congrArg₂ _ (congrArg₂ _ (congrArg₂ _ (congrArg₂ _ (congrArg₂ _
      (slab_dot harg6 harg11 x5 xs 256 0 r0 c0 (by decide) g0 v0 (y 0) (y 1) (((Rect.unit (s := S1980x512) ![r0, c0] S256x256.size ho).emb y) 0) (((Rect.unit (s := S1980x512) ![r0, c0] S256x256.size ho).emb y) 1) h0 h1) (slab_dot harg6 harg11 x5 xs 256 1 r0 c0 (by decide) g1 v1 (y 0) (y 1) (((Rect.unit (s := S1980x512) ![r0, c0] S256x256.size ho).emb y) 0) (((Rect.unit (s := S1980x512) ![r0, c0] S256x256.size ho).emb y) 1) h0 h1) ) (slab_dot harg6 harg11 x5 xs 256 2 r0 c0 (by decide) g2 v2 (y 0) (y 1) (((Rect.unit (s := S1980x512) ![r0, c0] S256x256.size ho).emb y) 0) (((Rect.unit (s := S1980x512) ![r0, c0] S256x256.size ho).emb y) 1) h0 h1) ) (slab_dot harg6 harg11 x5 xs 256 3 r0 c0 (by decide) g3 v3 (y 0) (y 1) (((Rect.unit (s := S1980x512) ![r0, c0] S256x256.size ho).emb y) 0) (((Rect.unit (s := S1980x512) ![r0, c0] S256x256.size ho).emb y) 1) h0 h1) ) (slab_dot harg6 harg11 x5 xs 256 4 r0 c0 (by decide) g4 v4 (y 0) (y 1) (((Rect.unit (s := S1980x512) ![r0, c0] S256x256.size ho).emb y) 0) (((Rect.unit (s := S1980x512) ![r0, c0] S256x256.size ho).emb y) 1) h0 h1) ) (slab_dot harg6 harg11 x5 xs 256 5 r0 c0 (by decide) g5 v5 (y 0) (y 1) (((Rect.unit (s := S1980x512) ![r0, c0] S256x256.size ho).emb y) 0) (((Rect.unit (s := S1980x512) ![r0, c0] S256x256.size ho).emb y) 1) h0 h1) ) (slab_dot harg6 harg11 x5 xs 256 6 r0 c0 (by decide) g6 v6 (y 0) (y 1) (((Rect.unit (s := S1980x512) ![r0, c0] S256x256.size ho).emb y) 0) (((Rect.unit (s := S1980x512) ![r0, c0] S256x256.size ho).emb y) 1) h0 h1)
  · rw [harg7.readAt_unread]
    congr 1
    funext a; fin_cases a <;> refine Fin.ext ?_ <;> simp [LoadRect.idx, Rect.unit]
    exact h1.symm

/-- A tile of 188 rows and 256 columns at row `r0` and column `c0`. -/
theorem down_tile_last (r0 c0 : ℕ)
    (g0 : ∀ a, (![0, r0, 0] : Fin 3 → ℕ) a + S1x188x768.size a ≤ S7x1980x768.size a) (v0 : ∀ a, (![0, c0] : Fin 2 → ℕ) a + S768x256.size a ≤ S5376x512.size a)
    (g1 : ∀ a, (![1, r0, 0] : Fin 3 → ℕ) a + S1x188x768.size a ≤ S7x1980x768.size a) (v1 : ∀ a, (![768, c0] : Fin 2 → ℕ) a + S768x256.size a ≤ S5376x512.size a)
    (g2 : ∀ a, (![2, r0, 0] : Fin 3 → ℕ) a + S1x188x768.size a ≤ S7x1980x768.size a) (v2 : ∀ a, (![1536, c0] : Fin 2 → ℕ) a + S768x256.size a ≤ S5376x512.size a)
    (g3 : ∀ a, (![3, r0, 0] : Fin 3 → ℕ) a + S1x188x768.size a ≤ S7x1980x768.size a) (v3 : ∀ a, (![2304, c0] : Fin 2 → ℕ) a + S768x256.size a ≤ S5376x512.size a)
    (g4 : ∀ a, (![4, r0, 0] : Fin 3 → ℕ) a + S1x188x768.size a ≤ S7x1980x768.size a) (v4 : ∀ a, (![3072, c0] : Fin 2 → ℕ) a + S768x256.size a ≤ S5376x512.size a)
    (g5 : ∀ a, (![5, r0, 0] : Fin 3 → ℕ) a + S1x188x768.size a ≤ S7x1980x768.size a) (v5 : ∀ a, (![3840, c0] : Fin 2 → ℕ) a + S768x256.size a ≤ S5376x512.size a)
    (g6 : ∀ a, (![6, r0, 0] : Fin 3 → ℕ) a + S1x188x768.size a ≤ S7x1980x768.size a) (v6 : ∀ a, (![4608, c0] : Fin 2 → ℕ) a + S768x256.size a ≤ S5376x512.size a)
    (hh : ∀ a, (![r0, c0] : Fin 2 → ℕ) a + S188x256.size a ≤ S1980x512.size a)
    (hw : ∀ a, (![0, 0, c0] : Fin 3 → ℕ) a + S1x1x256.size a ≤ S1x1x512.size a)
    (ho : ∀ a, (![r0, c0] : Fin 2 → ℕ) a + S188x256.size a ≤ S1980x512.size a) (y : S188x256.Idx) :
    dtile188 (word harg2 x1)
        (slabRows harg11 xs 188 0 r0 g0) (wtRows harg6 x5 0 c0 v0)
        (slabRows harg11 xs 188 1 r0 g1) (wtRows harg6 x5 1 c0 v1)
        (slabRows harg11 xs 188 2 r0 g2) (wtRows harg6 x5 2 c0 v2)
        (slabRows harg11 xs 188 3 r0 g3) (wtRows harg6 x5 3 c0 v3)
        (slabRows harg11 xs 188 4 r0 g4) (wtRows harg6 x5 4 c0 v4)
        (slabRows harg11 xs 188 5 r0 g5) (wtRows harg6 x5 5 c0 v5)
        (slabRows harg11 xs 188 6 r0 g6) (wtRows harg6 x5 6 c0 v6)
        (View.readAt (Elt Ideal) arg8.view (Rect.unit (s := S1980x512) ![r0, c0] S188x256.size hh).toLoadRect (harg8.unread x7))
        (View.readAt (Elt Ideal) arg7.view (Rect.unit (s := S1x1x512) ![0, 0, c0] S1x1x256.size hw).toLoadRect (harg7.unread x6)) y
      = oblk x1 x5 x6 x7 xs ((Rect.unit (s := S1980x512) ![r0, c0] S188x256.size ho).emb y) := by
  have h0 : ((((Rect.unit (s := S1980x512) ![r0, c0] S188x256.size ho).emb y) 0 : Fin 1980) : ℕ) = r0 + (y 0).val := by
    simp [Rect.emb, LoadRect.idx, Rect.unit]
  have h1 : ((((Rect.unit (s := S1980x512) ![r0, c0] S188x256.size ho).emb y) 1 : Fin 512) : ℕ) = c0 + (y 1).val := by
    simp [Rect.emb, LoadRect.idx, Rect.unit]
  rw [dtile188_apply, word_eq]
  unfold oblk
  congr 1
  · rw [harg8.readAt_unread]; rfl
  congr 1
  · congr 1
    rw [Fin.sum_univ_seven]
    exact congrArg₂ _ (congrArg₂ _ (congrArg₂ _ (congrArg₂ _ (congrArg₂ _ (congrArg₂ _
      (slab_dot harg6 harg11 x5 xs 188 0 r0 c0 (by decide) g0 v0 (y 0) (y 1) (((Rect.unit (s := S1980x512) ![r0, c0] S188x256.size ho).emb y) 0) (((Rect.unit (s := S1980x512) ![r0, c0] S188x256.size ho).emb y) 1) h0 h1) (slab_dot harg6 harg11 x5 xs 188 1 r0 c0 (by decide) g1 v1 (y 0) (y 1) (((Rect.unit (s := S1980x512) ![r0, c0] S188x256.size ho).emb y) 0) (((Rect.unit (s := S1980x512) ![r0, c0] S188x256.size ho).emb y) 1) h0 h1) ) (slab_dot harg6 harg11 x5 xs 188 2 r0 c0 (by decide) g2 v2 (y 0) (y 1) (((Rect.unit (s := S1980x512) ![r0, c0] S188x256.size ho).emb y) 0) (((Rect.unit (s := S1980x512) ![r0, c0] S188x256.size ho).emb y) 1) h0 h1) ) (slab_dot harg6 harg11 x5 xs 188 3 r0 c0 (by decide) g3 v3 (y 0) (y 1) (((Rect.unit (s := S1980x512) ![r0, c0] S188x256.size ho).emb y) 0) (((Rect.unit (s := S1980x512) ![r0, c0] S188x256.size ho).emb y) 1) h0 h1) ) (slab_dot harg6 harg11 x5 xs 188 4 r0 c0 (by decide) g4 v4 (y 0) (y 1) (((Rect.unit (s := S1980x512) ![r0, c0] S188x256.size ho).emb y) 0) (((Rect.unit (s := S1980x512) ![r0, c0] S188x256.size ho).emb y) 1) h0 h1) ) (slab_dot harg6 harg11 x5 xs 188 5 r0 c0 (by decide) g5 v5 (y 0) (y 1) (((Rect.unit (s := S1980x512) ![r0, c0] S188x256.size ho).emb y) 0) (((Rect.unit (s := S1980x512) ![r0, c0] S188x256.size ho).emb y) 1) h0 h1) ) (slab_dot harg6 harg11 x5 xs 188 6 r0 c0 (by decide) g6 v6 (y 0) (y 1) (((Rect.unit (s := S1980x512) ![r0, c0] S188x256.size ho).emb y) 0) (((Rect.unit (s := S1980x512) ![r0, c0] S188x256.size ho).emb y) 1) h0 h1)
  · rw [harg7.readAt_unread]
    congr 1
    funext a; fin_cases a <;> refine Fin.ext ?_ <;> simp [LoadRect.idx, Rect.unit]
    exact h1.symm

end Tiles

end Cert.FfnIdeal.Gen
-- ==== Proof.Ffn.PiecesB.lean ====
module

public import proofs.«01_k».proof.Proof.Ffn.RunB
public import proofs.«01_k».proof.Proof.Ffn.Down
public import Idealize.ShloMosaic.Lib.Pipeline.ReadBack
public import Idealize.ShloMosaic.Lib.Ring
public import Idealize.ShloMosaic.Lib.Writes

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the second phase of the body leaves: the block of the output. -/

section Pieces

variable (c : Dev nD) (i : grid0.Coords) (arg1 : Memref sig .tc .smem S1 .f32) (harg1 : arg1.IsWhole) (arg2 : Memref sig .tc .smem S1 .f32) (harg2 : arg2.IsWhole) (arg3 : Memref sig .tc .vmem S1980x4096 .fp8e4m3) (harg3 : arg3.IsWhole) (arg4 : Memref sig .tc .vmem S4096x768 .fp8e4m3) (harg4 : arg4.IsWhole) (arg5 : Memref sig .tc .vmem S1x1x768 .f32) (harg5 : arg5.IsWhole) (arg6 : Memref sig .tc .vmem S5376x512 .fp8e4m3) (harg6 : arg6.IsWhole) (arg7 : Memref sig .tc .vmem S1x1x512 .f32) (harg7 : arg7.IsWhole) (arg8 : Memref sig .tc .vmem S1980x512 .f32) (harg8 : arg8.IsWhole) (arg9 : Memref sig .tc .vmem S1980x768 .fp8e4m3) (harg9 : arg9.IsWhole) (arg10 : Memref sig .tc .vmem S1980x512 .bf16) (harg10 : arg10.IsWhole) (arg11 : Memref sig .tc .vmem S7x1980x768 .fp8e4m3) (harg11 : arg11.IsWhole) (hc0 : ¬k0_cond1 i = 1#1) (hc1 : k0_cond2 i = 1#1)
  (x0 : Vec Ideal S1 .f32) (x1 : Vec Ideal S1 .f32) (x5 : Vec Ideal S5376x512 .fp8e4m3) (x6 : Vec Ideal S1x1x512 .f32) (x7 : Vec Ideal S1980x512 .f32) (xs : Vec Ideal S7x1980x768 .fp8e4m3)

/-- Every piece stored into the block of the output is that block's at its own place. -/
theorem runB_pieces : View.PiecesOf (oblk x1 x5 x6 x7 xs) (runB (F := Ideal) c i arg1 harg1 arg2 harg2 arg3 harg3 arg4 harg4 arg5 harg5 arg6 harg6 arg7 harg7 arg8 harg8 arg9 harg9 arg10 harg10 arg11 harg11 hc0 hc1 x0 x1 x5 x6 x7 xs).1 := by
  refine ⟨fun y => down_tile_last harg2 harg6 harg7 harg8 harg11 x1 x5 x6 x7 xs 1792 256 _ _ _ _ _ _ _ _ _ _ _ _ _ _ _ _ inb_S1980x512_S188x256_1792_256 y,
    fun y => down_tile_last harg2 harg6 harg7 harg8 harg11 x1 x5 x6 x7 xs 1792 0 _ _ _ _ _ _ _ _ _ _ _ _ _ _ _ _ inb_S1980x512_S188x256_1792_0 y,
    fun y => down_tile harg2 harg6 harg7 harg8 harg11 x1 x5 x6 x7 xs 1536 256 _ _ _ _ _ _ _ _ _ _ _ _ _ _ _ _ inb_S1980x512_S256x256_1536_256 y,
    fun y => down_tile harg2 harg6 harg7 harg8 harg11 x1 x5 x6 x7 xs 1536 0 _ _ _ _ _ _ _ _ _ _ _ _ _ _ _ _ inb_S1980x512_S256x256_1536_0 y,
    fun y => down_tile harg2 harg6 harg7 harg8 harg11 x1 x5 x6 x7 xs 1280 256 _ _ _ _ _ _ _ _ _ _ _ _ _ _ _ _ inb_S1980x512_S256x256_1280_256 y,
    fun y => down_tile harg2 harg6 harg7 harg8 harg11 x1 x5 x6 x7 xs 1280 0 _ _ _ _ _ _ _ _ _ _ _ _ _ _ _ _ inb_S1980x512_S256x256_1280_0 y,
    fun y => down_tile harg2 harg6 harg7 harg8 harg11 x1 x5 x6 x7 xs 1024 256 _ _ _ _ _ _ _ _ _ _ _ _ _ _ _ _ inb_S1980x512_S256x256_1024_256 y,
    fun y => down_tile harg2 harg6 harg7 harg8 harg11 x1 x5 x6 x7 xs 1024 0 _ _ _ _ _ _ _ _ _ _ _ _ _ _ _ _ inb_S1980x512_S256x256_1024_0 y,
    fun y => down_tile harg2 harg6 harg7 harg8 harg11 x1 x5 x6 x7 xs 768 256 _ _ _ _ _ _ _ _ _ _ _ _ _ _ _ _ inb_S1980x512_S256x256_768_256 y,
    fun y => down_tile harg2 harg6 harg7 harg8 harg11 x1 x5 x6 x7 xs 768 0 _ _ _ _ _ _ _ _ _ _ _ _ _ _ _ _ inb_S1980x512_S256x256_768_0 y,
    fun y => down_tile harg2 harg6 harg7 harg8 harg11 x1 x5 x6 x7 xs 512 256 _ _ _ _ _ _ _ _ _ _ _ _ _ _ _ _ inb_S1980x512_S256x256_512_256 y,
    fun y => down_tile harg2 harg6 harg7 harg8 harg11 x1 x5 x6 x7 xs 512 0 _ _ _ _ _ _ _ _ _ _ _ _ _ _ _ _ inb_S1980x512_S256x256_512_0 y,
    fun y => down_tile harg2 harg6 harg7 harg8 harg11 x1 x5 x6 x7 xs 256 256 _ _ _ _ _ _ _ _ _ _ _ _ _ _ _ _ inb_S1980x512_S256x256_256_256 y,
    fun y => down_tile harg2 harg6 harg7 harg8 harg11 x1 x5 x6 x7 xs 256 0 _ _ _ _ _ _ _ _ _ _ _ _ _ _ _ _ inb_S1980x512_S256x256_256_0 y,
    fun y => down_tile harg2 harg6 harg7 harg8 harg11 x1 x5 x6 x7 xs 0 256 _ _ _ _ _ _ _ _ _ _ _ _ _ _ _ _ inb_S1980x512_S256x256_0_256 y,
    fun y => down_tile harg2 harg6 harg7 harg8 harg11 x1 x5 x6 x7 xs 0 0 _ _ _ _ _ _ _ _ _ _ _ _ _ _ _ _ inb_S1980x512_S256x256_0_0 y, trivial⟩

/-- … and they cover it. -/
theorem runB_cover (y : S1980x512.Idx) : ∃ p ∈ (runB (F := Ideal) c i arg1 harg1 arg2 harg2 arg3 harg3 arg4 harg4 arg5 harg5 arg6 harg6 arg7 harg7 arg8 harg8 arg9 harg9 arg10 harg10 arg11 harg11 hc0 hc1 x0 x1 x5 x6 x7 xs).1, y ∈ p.1.set :=
  View.cover_of_tiledBy _ ![4, 256] (by sl_kernel_rfl) y

end Pieces

end Cert.FfnIdeal.Gen
-- ==== Proof.Ffn.Data.lean ====
module

public import proofs.«01_k».proof.Proof.Ffn.PiecesA
public import proofs.«01_k».proof.Proof.Ffn.PiecesB
public import proofs.«01_k».proof.Proof.Gen.FfnIdeal.Frame
public import Idealize.ShloMosaic.Lib.Pipeline.TableIdle

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The schedule -/

/-- The up projection runs at points 0 to 6, -/
theorem hcond0_0 : ∀ t : Fin cfg0.N, k0_cond1 (grid0.coords t) = 1#1 ↔ t.val < 7 :=
  (by decide +kernel : ∀ t : Fin grid0.N, k0_cond1 (grid0.coords t) = 1#1 ↔ t.val < 7)
/-- the down projection at points 7 to 14. -/
theorem hcond0_1 : ∀ t : Fin cfg0.N, k0_cond2 (grid0.coords t) = 1#1 ↔ 7 ≤ t.val :=
  (by decide +kernel : ∀ t : Fin grid0.N, k0_cond2 (grid0.coords t) = 1#1 ↔ 7 ≤ t.val)

/-- The grid has one axis, so a point is its coordinate. -/
theorem coord_val : ∀ t : Fin cfg0.N, (grid0.coords t 0).val = t.val :=
  (by decide +kernel : ∀ t : Fin grid0.N, (grid0.coords t 0).val = t.val)

theorem lt_N (t : Fin cfg0.N) : t.val < 15 := lt_of_lt_of_eq t.isLt (show cfg0.N = 15 from N_0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-- The block of codes is stored at points 0 to 6 alone, -/
theorem idle0_8 : ∀ t : Fin cfg0.N, cfg0.idle 8 (grid0.coords t) = decide (7 ≤ t.val) :=
  (by decide +kernel : ∀ t : Fin grid0.N, idle0 8 (grid0.coords t) = decide (7 ≤ t.val))
/-- the block of the output at points 7 to 14 alone. -/
theorem idle0_9 : ∀ t : Fin cfg0.N, cfg0.idle 9 (grid0.coords t) = decide (t.val < 7) :=
  (by decide +kernel : ∀ t : Fin grid0.N, idle0 9 (grid0.coords t) = decide (t.val < 7))

/-- The codes are written back after points 0 to 5 and after the last point, -/
theorem flush0_8 : ∀ t : Fin cfg0.N, (cfg0.win 8).flush t = decide (t.val < 6 ∨ t.val = 14) := by
  intro t
  rw [Window.flush_eq_flushF]
  exact (by decide +kernel : ∀ t : Fin cfg0.N, (cfg0.win 8).flushF t = decide (t.val < 6 ∨ t.val = 14)) t
/-- the output after points 7 to 14. -/
theorem flush0_9 : ∀ t : Fin cfg0.N, (cfg0.win 9).flush t = decide (7 ≤ t.val) := by
  intro t
  rw [Window.flush_eq_flushF]
  exact (by decide +kernel : ∀ t : Fin cfg0.N, (cfg0.win 9).flushF t = decide (7 ≤ t.val)) t

/-- The codes' buffer holds nothing the body stored at points 0 to 6, and the seventh block from there on. -/
theorem fresh0_8 (n : ℕ) (h : n ≤ cfg0.N) : cfg0.fresh 8 n = (decide (n < 7) || decide (n = 15)) := by
  refine Cfg.fresh_tab cfg0 8 (fun n => decide (n < 7) || decide (n = 15)) rfl (fun t => ?_) n h
  rw [flush0_8, idle0_8]
  exact (by decide : ∀ n < 15, (decide (n + 1 < 7) || decide (n + 1 = 15))
    = (decide (n < 6 ∨ n = 14) || (decide (7 ≤ n) && (decide (n < 7) || decide (n = 15))))) t.val (lt_N t)

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)

/-- The scratch: the codes of all seven blocks. -/
abbrev scM0_0 : Memref sig .tc .vmem S7x1980x768 .fp8e4m3 := Memref.whole cc0_scratch0

/-! ## A store into one slab of the scratch -/

theorem forall2_left {α β : Type} {R : α → β → Prop} {l₁ : List α} {l₂ : List β} (h : List.Forall₂ R l₁ l₂) :
    ∀ p ∈ l₁, ∃ q ∈ l₂, R p q := by
  induction h with
  | nil => intro p hp; cases hp
  | cons hr _ ih =>
    intro p hp
    rcases List.mem_cons.mp hp with rfl | hp
    · exact ⟨_, List.mem_cons_self .., hr⟩
    · obtain ⟨q, hq, h⟩ := ih p hp; exact ⟨q, List.mem_cons_of_mem _ hq, h⟩

theorem forall2_right {α β : Type} {R : α → β → Prop} {l₁ : List α} {l₂ : List β} (h : List.Forall₂ R l₁ l₂) :
    ∀ q ∈ l₂, ∃ p ∈ l₁, R p q := by
  induction h with
  | nil => intro p hp; cases hp
  | cons hr _ ih =>
    intro p hp
    rcases List.mem_cons.mp hp with rfl | hp
    · exact ⟨_, List.mem_cons_self .., hr⟩
    · obtain ⟨q, hq, h⟩ := ih p hp; exact ⟨q, List.mem_cons_of_mem _ hq, h⟩

/-- Pieces that together are one slab of the scratch leave that slab at the block they hold and the rest as it was. -/
theorem read_slab {m : Memref sig .tc .vmem S7x1980x768 .fp8e4m3} (i : ℕ) (u : Vec Ideal S1980x768 .fp8e4m3)
    (L8 : List (View.Piece (Elt Ideal) S1980x768 .fp8e4m3)) (LS : List (View.Piece (Elt Ideal) S7x1980x768 .fp8e4m3))
    (hs : View.PiecesOf (slab u) LS) (hc : ∀ y : S1980x768.Idx, ∃ p ∈ L8, y ∈ p.1.set)
    (h2 : List.Forall₂ (SameTile i) L8 LS) (f) (y : S7x1980x768.Idx) :
    m.view.read (Elt Ideal) (m.view.writes (Elt Ideal) f LS) y
      = if (y 0).val = i then u (ix2 (y 1) (y 2)) else m.view.read (Elt Ideal) f y := by
  split_ifs with h
  · obtain ⟨p, hp, hy⟩ := hc (ix2 (y 1) (y 2))
    obtain ⟨q, hq, hpq⟩ := forall2_left h2 p hp
    rw [View.read_writes_apply_of_pieces m.view f (slab u) LS (fun p hp => View.PiecesOf.mem hs p hp) y ⟨q, hq, hpq.1 y h hy⟩]
    rfl
  · refine View.read_writes_apply_of_forall_not_mem m.view f y LS fun q hq hy => h ?_
    obtain ⟨p, hp, hpq⟩ := forall2_right h2 q hq
    exact hpq.2 y hy

/-! ## The proof data -/

variable (m : (ℓ : Loc nD τ sig) → Buf (Elt Ideal) ℓ) (ρ : Dev nD → PrngReg)

/-- The block of codes the up projection stores at point `t`. -/
def uAt (c : Dev nD) (t : Fin cfg0.N) : Vec Ideal S1980x768 .fp8e4m3 :=
  ublk (iblk m c 0 t) (iblk m c 1 t) (iblk m c 2 t) (iblk m c 3 t) (iblk m c 4 t)

/-- The last point of the up projection not after `t`. -/
def upPt (t : Fin cfg0.N) : Fin cfg0.N := ⟨min t.val 6, lt_of_le_of_lt (min_le_left _ _) t.isLt⟩

/-- The codes of all seven blocks, as the scratch holds them once the up projection is done. -/
def slabs (c : Dev nD) : Vec Ideal S7x1980x768 .fp8e4m3 := fun y =>
  uAt m c ⟨(y 0).val, lt_of_lt_of_le (y 0).isLt (by rw [show cfg0.N = 15 from N_0]; exact (by decide : 7 ≤ 15))⟩ (ix2 (y 1) (y 2))

/-- The block of the output the down projection stores at point `t`. -/
def oAt (c : Dev nD) (t : Fin cfg0.N) : Vec Ideal S1980x512 .bf16 :=
  oblk (iblk m c 1 t) (iblk m c 5 t) (iblk m c 6 t) (iblk m c 7 t) (slabs m c)

/-- The proof data: the arrays as the region finds them; after the body at point `t` each input's buffer at its block,
    the codes at the last block stored and the output at its block; the invariant holds that the slabs of the scratch
    before point `t` are the codes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => uAt m c (upPt t)
    | ⟨9, _⟩ => oAt m c t
  Φ k := iprop((∃ d, ⌜∀ y : S7x1980x768.Idx, (y 0).val < k.val → d y = slabs m c y⌝ ∗ owns (c : Thread nD τ) scM0_0 fullShare d)
    ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = uAt m c (upPt t) := by dsimp only [dats]
theorem after0_9 (c : Dev nD) (t : Fin cfg0.N) : (dats m 0 c).after 9 t = oAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem upPt_of_lt (t : Fin cfg0.N) (h : t.val < 7) : upPt t = t := Fin.ext (by simp [upPt]; omega)
theorem upPt_of_ge (t s : Fin cfg0.N) (h : 6 ≤ t.val) (h' : 6 ≤ s.val) : upPt t = upPt s := Fin.ext (by simp [upPt]; omega)

/-- From point 7 on the codes' buffer holds the seventh block. -/
theorem before0_8 (c : Dev nD) (t : Fin cfg0.N) (h : 7 ≤ t.val) (d) : (dats m 0 c).before 8 t d = uAt m c (upPt t) := by
  have h15 := lt_N t
  rw [Dat.before_out_traj (dats m 0 c) 8 rfl (fun _ _ => rfl) ?_ t.val t rfl d, fresh0_8 _ t.isLt.le,
    if_neg (by simp; omega), after0_8, upPt_of_ge _ t _ (by omega)]
  · show 6 ≤ t.val - 1; omega
  · intro s hs hi hf
    rw [idle0_8, decide_eq_true_eq] at hi
    rw [after0_8, after0_8, upPt_of_ge s _ (by omega)]
    show 6 ≤ s.val - 1; omega

end Cert.FfnIdeal.Gen

end
-- ==== Proof.Ffn.Forget.lean ====
module

public import proofs.«01_k».proof.Proof.Ffn.Data
public import Idealize.ShloMosaic.Lib.Claim

@[expose] public section

set_option maxRecDepth 16384

noncomputable section

/-! The frame over any arithmetic: the run ends and leaves its arguments, whatever the outputs then hold. -/

namespace Cert.FfnIdeal.Forget

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The argument arrays are unchanged after a run that ends with every input array as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 2 rfl).trans ((hA c 2).trans (V_main_arg0 m c)),
      (Pipeline.RDat.FramePost.arr_in h c 7 rfl).trans ((hA c 7).trans (V_main_arg1 m c)),
      (Pipeline.RDat.FramePost.arr_in h c 0 rfl).trans ((hA c 0).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 1 rfl).trans ((hA c 1).trans (V_main_arg5 m c)),
      (Pipeline.RDat.FramePost.arr_in h c 5 rfl).trans ((hA c 5).trans (V_main_arg6 m c)),
      ((h c).2 main_arg7 (Pipeline.mem_restRefs_of main_arg7 (by decide) (by decide))).trans (V_main_arg7 m c)⟩) h

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

set_option maxHeartbeats 1600000 in
/-- The body in the up projection. -/
theorem sound_up (c : Dev nD) (t : Fin cfg0.N) (h : t.val < 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA (F := F) c (grid0.coords t) _ _ _ _ _ _ _ _ _ _ _ _ _ _ _ _ _ _ _ _ _ _ ((hcond0_0 t).mpr h) (fun h' => absurd ((hcond0_1 t).mp h') (by omega)) (iblk m c 0 t) (iblk m c 1 t) (iblk m c 2 t) (iblk m c 3 t) (iblk m c 4 t)).2.2 ds Set.univ _)
  isplitl [H0]; · iexact H0
  isplitl [H1]; · iexact H1
  isplitl [H2]; · iexact H2
  isplitl [H3]; · iexact H3
  isplitl [H4]; · iexact H4
  isplitl [H8]; · iexists _; iexact H8
  isplitl [HS]; · iexact HS
  iintro ⟨H0, H1, H2, H3, H4, ⟨%f8, H8⟩, ⟨%fs, %hfs, HS⟩⟩
  isplitl [HS Hg]
  · isplitl [HS]
    · iexists _
      unfold owns; iexists _; isplitr; on_goal 2 => iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    unfold owns; iexists _; isplitr; on_goal 2 => iexact H8
    ipureintro; rfl
  iexists _; iexact H9

set_option maxHeartbeats 1600000 in
/-- The body in the down projection. -/
theorem sound_down (c : Dev nD) (t : Fin cfg0.N) (h : 7 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB (F := F) c (grid0.coords t) _ _ _ _ _ _ _ _ _ _ _ _ _ _ _ _ _ _ _ _ _ _ (fun h' => absurd ((hcond0_0 t).mp h') (by omega)) ((hcond0_1 t).mpr h) (iblk m c 0 t) (iblk m c 1 t) (iblk m c 5 t) (iblk m c 6 t) (iblk m c 7 t) ds).2 Set.univ _)
  isplitl [H0]; · iexact H0
  isplitl [H1]; · iexact H1
  isplitl [H5]; · iexact H5
  isplitl [H6]; · iexact H6
  isplitl [H7]; · iexact H7
  isplitl [H9]; · iexists _; iexact H9
  isplitl [HS]; · iexact HS
  iintro ⟨H0, H1, H5, H6, H7, ⟨%f9, H9⟩, HS⟩
  isplitl [HS Hg]
  · isplitl [HS]
    · iexists _
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _
  unfold owns; iexists _; isplitr; on_goal 2 => iexact H9
  ipureintro; rfl

theorem sound_body (c : Dev nD) (t : Fin cfg0.N) :
    bodyPre m c t ⊢ wp frame (wpE (defs₀ (F := F)) Variants.none c none) Set.univ (bodyAt0 t) (fun _ => bodyPost m c t) :=
  (lt_or_ge t.val 7).elim (sound_up m c t) (sound_down m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME, over any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnIdeal.Forget

end
-- ==== Proof.Ffn.Bits.lean ====
module

public import proofs.«01_k».proof.Defs
public import proofs.«01_k».proof.Proof.Ffn.Forget
public import proofs.«01_k».proof.Proof.Gen.Ffn

@[expose] public section

set_option maxRecDepth 100000

namespace Cert.FfnBits

open Idealize.ShloMosaic Idealize.ShloMosaic.TcCoe Idealize.SL.Sem

attribute [local instance] Cert.Ffn.Gen.facts

/-- The frame of the ideal program's text, read over the bits. -/
def QBits : Prop :=
  ∀ (m : (ℓ : Loc FfnIdeal.nD FfnIdeal.τ FfnIdeal.sig) → Buf (Elt Bits) ℓ) (g : Dev FfnIdeal.nD → PrngReg), True →
    θ_run (FfnIdeal.defs (F := Bits)) (onTc (τ := FfnIdeal.τ) (FfnIdeal.main (F := Bits))) ⟨m, fun _ => 0, g⟩ (fun r => (∀ c : Dev FfnIdeal.nD,
      r.2.mem ((c.tc : Thread FfnIdeal.nD FfnIdeal.τ).loc FfnIdeal.main_arg0) = m ((c.tc : Thread FfnIdeal.nD FfnIdeal.τ).loc FfnIdeal.main_arg0)
      ∧ r.2.mem ((c.tc : Thread FfnIdeal.nD FfnIdeal.τ).loc FfnIdeal.main_arg1) = m ((c.tc : Thread FfnIdeal.nD FfnIdeal.τ).loc FfnIdeal.main_arg1)
      ∧ r.2.mem ((c.tc : Thread FfnIdeal.nD FfnIdeal.τ).loc FfnIdeal.main_arg2) = m ((c.tc : Thread FfnIdeal.nD FfnIdeal.τ).loc FfnIdeal.main_arg2)
      ∧ r.2.mem ((c.tc : Thread FfnIdeal.nD FfnIdeal.τ).loc FfnIdeal.main_arg3) = m ((c.tc : Thread FfnIdeal.nD FfnIdeal.τ).loc FfnIdeal.main_arg3)
      ∧ r.2.mem ((c.tc : Thread FfnIdeal.nD FfnIdeal.τ).loc FfnIdeal.main_arg4) = m ((c.tc : Thread FfnIdeal.nD FfnIdeal.τ).loc FfnIdeal.main_arg4)
      ∧ r.2.mem ((c.tc : Thread FfnIdeal.nD FfnIdeal.τ).loc FfnIdeal.main_arg5) = m ((c.tc : Thread FfnIdeal.nD FfnIdeal.τ).loc FfnIdeal.main_arg5)
      ∧ r.2.mem ((c.tc : Thread FfnIdeal.nD FfnIdeal.τ).loc FfnIdeal.main_arg6) = m ((c.tc : Thread FfnIdeal.nD FfnIdeal.τ).loc FfnIdeal.main_arg6)
      ∧ r.2.mem ((c.tc : Thread FfnIdeal.nD FfnIdeal.τ).loc FfnIdeal.main_arg7) = m ((c.tc : Thread FfnIdeal.nD FfnIdeal.τ).loc FfnIdeal.main_arg7))
      ∧ r.2.sem = fun _ => 0)

theorem qbits : QBits := fun m g _ => FfnIdeal.Forget.frame m g

/-- The two programs have one text, so the two statements are one. -/
theorem same : QBits = Cert.quiescent_Ffn := by sl_kernel_rfl

/-- The frame of the program over the bits. -/
theorem frame : Cert.quiescent_Ffn := same ▸ qbits

end Cert.FfnBits
-- ==== Proof.Ffn.Frame.lean ====
module

public import proofs.«01_k».proof.Proof.Ffn.Data
public import Idealize.ShloMosaic.Lib.Claim

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-! The body at every point, the run, and the frame. -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- From point 7 on the codes' buffer is handed back as found, and written back after the last point. -/
theorem leaves8_late (c : Dev nD) (t : Fin cfg0.N) (h : 7 ≤ t.val) (d) :
    owns (c : Thread nD τ) (ms0_8 t) fullShare ((dats m 0 c).before 8 t d) ⊢ (dats m 0 c).leavesExact 8 t := by
  have hi : cfg0.idle 8 (grid0.coords t) = true := by rw [idle0_8]; exact decide_eq_true h
  cases hf : (cfg0.win 8).flush t
  · rw [Dat.leavesExact_idle _ 8 t hi hf]
    iintro H; iexists d; iexact H
  · rw [show (dats m 0 c).leavesExact 8 t = owns (c : Thread nD τ) (ms0_8 t) fullShare ((dats m 0 c).after 8 t) from by
      unfold Dat.leavesExact; rw [hi, hf], after0_8, before0_8 m c t h]

set_option maxHeartbeats 1600000 in
/-- The body in the up projection: the block of codes is stored, and its slab of the scratch with it. -/
theorem sound_up (c : Dev nD) (t : Fin cfg0.N) (h : t.val < 7) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  have h0 : k0_cond1 (grid0.coords t) = 1#1 := (hcond0_0 t).mpr h
  have h1 : ¬k0_cond2 (grid0.coords t) = 1#1 := fun h' => absurd ((hcond0_1 t).mp h') (by omega)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [idle0_8, decide_eq_false (by omega : ¬ 7 ≤ t.val)], after0_8, upPt_of_lt t h]
  rw [Dat.leavesExact_idle (dats m 0 c) 9 t (by rw [idle0_9]; exact decide_eq_true h) (by rw [flush0_9]; exact decide_eq_false (by omega))]
  dsimp only [dats]
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA (F := Ideal) c (grid0.coords t) _ _ _ _ _ _ _ _ _ _ _ _ _ _ _ _ _ _ _ _ _ _ h0 h1 (iblk m c 0 t) (iblk m c 1 t) (iblk m c 2 t) (iblk m c 3 t) (iblk m c 4 t)).2.2 ds Set.univ _)
  isplitl [H0]; · iexact H0
  isplitl [H1]; · iexact H1
  isplitl [H2]; · iexact H2
  isplitl [H3]; · iexact H3
  isplitl [H4]; · iexact H4
  isplitl [H8]; · iexists _; iexact H8
  isplitl [HS]; · iexact HS
  iintro ⟨H0, H1, H2, H3, H4, ⟨%f8, H8⟩, ⟨%fs, %hfs, HS⟩⟩
  isplitl [HS Hg]
  · isplitl [HS]
    · iexists _
      isplitr
      on_goal 2 =>
        unfold owns
        iexists _
        isplitr
        on_goal 2 => iexact HS
        ipureintro; rfl
      ipureintro
      intro y hy
      rw [read_slab (grid0.coords t 0).val _ _ _ (runA_slab_pieces c (grid0.coords t) _ _ _ _ _ _ _ _ _ _ _ _ _ _ _ _ _ _ _ _ _ _ h0 h1 (iblk m c 0 t) (iblk m c 1 t) (iblk m c 2 t) (iblk m c 3 t) (iblk m c 4 t))
        (runA_cover c (grid0.coords t) _ _ _ _ _ _ _ _ _ _ _ _ _ _ _ _ _ _ _ _ _ _ h0 h1 (iblk m c 0 t) (iblk m c 1 t) (iblk m c 2 t) (iblk m c 3 t) (iblk m c 4 t))
        (runA_sameTile c (grid0.coords t) _ _ _ _ _ _ _ _ _ _ _ _ _ _ _ _ _ _ _ _ _ _ h0 h1 (iblk m c 0 t) (iblk m c 1 t) (iblk m c 2 t) (iblk m c 3 t) (iblk m c 4 t)) fs y, coord_val]
      split_ifs with hyt
      · show uAt m c t _ = slabs m c y
        unfold slabs
        congr 2
        exact Fin.ext hyt.symm
      · rw [hfs]
        exact hds y (by
          have : (y 0).val < t.val + 1 := hy
          show (y 0).val < t.val
          omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns
    iexists _
    isplitr
    on_goal 2 => iexact H8
    ipureintro
    funext y
    exact View.read_writes_apply_of_pieces _ f8 (uAt m c t) _ (fun p hp => View.PiecesOf.mem (runA_pieces c (grid0.coords t) _ _ _ _ _ _ _ _ _ _ _ _ _ _ _ _ _ _ _ _ _ _ h0 h1 (iblk m c 0 t) (iblk m c 1 t) (iblk m c 2 t) (iblk m c 3 t) (iblk m c 4 t)) p hp) y
      (runA_cover c (grid0.coords t) _ _ _ _ _ _ _ _ _ _ _ _ _ _ _ _ _ _ _ _ _ _ h0 h1 (iblk m c 0 t) (iblk m c 1 t) (iblk m c 2 t) (iblk m c 3 t) (iblk m c 4 t) y)
  iexists _; iexact H9

set_option maxHeartbeats 1600000 in
/-- The body in the down projection: the block of the output is stored, from the codes in the scratch. -/
theorem sound_down (c : Dev nD) (t : Fin cfg0.N) (h : 7 ≤ t.val) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  have h0 : ¬k0_cond1 (grid0.coords t) = 1#1 := fun h' => absurd ((hcond0_0 t).mp h') (by omega)
  have h1 : k0_cond2 (grid0.coords t) = 1#1 := (hcond0_1 t).mpr h
  have h8 := leaves8_late m c t h
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 9 t = owns (c : Thread nD τ) (ms0_9 t) fullShare ((dats m 0 c).after 9 t) from by
      unfold Dat.leavesExact; rw [idle0_9, decide_eq_false (by omega : ¬ t.val < 7)], after0_9]
  rw [show (dats m 0 c).Φ t.succ = iprop((∃ d, ⌜∀ y : S7x1980x768.Idx, (y 0).val < t.val + 1 → d y = slabs m c y⌝ ∗ owns (c : Thread nD τ) scM0_0 fullShare d)
      ∗ (∃ r, prngReg c r)) from rfl,
    show (dats m 0 c).Φ t.castSucc = iprop((∃ d, ⌜∀ y : S7x1980x768.Idx, (y 0).val < t.val → d y = slabs m c y⌝ ∗ owns (c : Thread nD τ) scM0_0 fullShare d)
      ∗ (∃ r, prngReg c r)) from rfl]
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl : ds = slabs m c := funext fun y => hds y (lt_of_lt_of_le (show (y 0).val < 7 from (y 0).isLt) h)
  iapply ((runB (F := Ideal) c (grid0.coords t) _ _ _ _ _ _ _ _ _ _ _ _ _ _ _ _ _ _ _ _ _ _ h0 h1 (iblk m c 0 t) (iblk m c 1 t) (iblk m c 5 t) (iblk m c 6 t) (iblk m c 7 t) (slabs m c)).2 Set.univ _)
  isplitl [H0]; · iexact H0
  isplitl [H1]; · iexact H1
  isplitl [H5]; · iexact H5
  isplitl [H6]; · iexact H6
  isplitl [H7]; · iexact H7
  isplitl [H9]; · iexists _; iexact H9
  isplitl [HS]; · iexact HS
  iintro ⟨H0, H1, H5, H6, H7, ⟨%f9, H9⟩, HS⟩
  isplitl [HS Hg]
  · isplitl [HS]
    · iexists _
      isplitr
      on_goal 2 => iexact HS
      ipureintro; exact fun _ _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (h8 d8); iexact H8
  unfold owns
  iexists _
  isplitr
  on_goal 2 => iexact H9
  ipureintro
  funext y
  exact View.read_writes_apply_of_pieces _ f9 (oAt m c t) _ (fun p hp => View.PiecesOf.mem (runB_pieces c (grid0.coords t) _ _ _ _ _ _ _ _ _ _ _ _ _ _ _ _ _ _ _ _ _ _ h0 h1 (iblk m c 0 t) (iblk m c 1 t) (iblk m c 5 t) (iblk m c 6 t) (iblk m c 7 t) (slabs m c)) p hp) y
    (runB_cover c (grid0.coords t) _ _ _ _ _ _ _ _ _ _ _ _ _ _ _ _ _ _ _ _ _ _ h0 h1 (iblk m c 0 t) (iblk m c 1 t) (iblk m c 5 t) (iblk m c 6 t) (iblk m c 7 t) (slabs m c) y)

theorem sound_body (c : Dev nD) (t : Fin cfg0.N) :
    bodyPre m c t ⊢ wp frame (wpE (defs₀ (F := Ideal)) Variants.none c none) Set.univ (bodyAt0 t) (fun _ => bodyPost m c t) :=
  (lt_or_ge t.val 7).elim (sound_up m c t) (sound_down m c t)

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

theorem phi_in (c : Dev nD) : Pipeline.ΦA spec0 c ⊢ (dats m 0 c).Φ 0 := by
  rw [PhiA0_eq]
  dsimp only [dats]
  iintro ⟨⟨%d, HS⟩, Hg⟩
  isplitl [HS]
  · iexists d
    isplitr
    · ipureintro; exact fun y hy => absurd hy (Nat.not_lt_zero _)
    iexact HS
  iexact Hg

theorem phi_out (c : Dev nD) : (dats m 0 c).Φ (Fin.last cfg0.N) ⊢ Pipeline.ΦA spec0 c := by
  rw [PhiA0_eq]
  dsimp only [dats]
  iintro ⟨⟨%d, -, HS⟩, Hg⟩
  isplitl [HS]
  · iexists d; iexact HS
  iexact Hg

set_option backward.isDefEq.respectTransparency.types false in
/-- Every weakly fair execution terminates with every array of the pipeline at what the proof data says and every
    semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)
    (hQ' := fun _ h => h)

theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: the run ends, the arguments are as they were and every semaphore is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnIdeal.Gen

end
-- ==== Proof.Ffn.Spec.lean ====
module

public import Idealize.ShloMosaic.Lib.Pointwise

@[expose] public section

noncomputable section

namespace Cert.FfnSpec

open Idealize.ShloMosaic

/-! The feed-forward block as a formula over plain functions: no program is mentioned here. -/

/-- The code of one hidden unit: from the dot product `d` of a row of codes with a column of weights, the scale `s` of
    the row's codes, the column's scale `w` and the scale `su` of the hidden codes — the square of the positive part,
    divided by `su` and clipped to ±448. -/
def ucode (s su d w : EReal) : EReal :=
  min (Ideal.ofBits FTy.f32 1138753536#32)
    (max (Ideal.ofBits FTy.f32 3286237184#32) (Ideal.div (max (d * s * w) 0 * max (d * s * w) 0) su))

/-- The hidden codes. -/
def hidden (f : Fin 1980 → Fin 4096 → EReal) (wu : Fin 4096 → Fin 5376 → EReal) (wus : Fin 5376 → EReal) (s su : EReal)
    (r : Fin 1980) (q : Fin 5376) : EReal :=
  ucode s su (∑ k : Fin 4096, f r k * wu k q) (wus q)

/-- The output: the residual plus the down projection of the hidden codes, in its scales. -/
def output (f : Fin 1980 → Fin 4096 → EReal) (wu : Fin 4096 → Fin 5376 → EReal) (wus : Fin 5376 → EReal) (s su : EReal)
    (wd : Fin 5376 → Fin 4096 → EReal) (wds : Fin 4096 → EReal) (h : Fin 1980 → Fin 4096 → EReal)
    (r : Fin 1980) (q : Fin 4096) : EReal :=
  h r q + (∑ k : Fin 5376, hidden f wu wus s su r k * wd k q) * su * wds q

end Cert.FfnSpec

end
-- ==== Proof.Ffn.Value.lean ====
module

public import proofs.«01_k».proof.Proof.Ffn.Frame
public import proofs.«01_k».proof.Proof.Ffn.Spec
public import Idealize.ShloMosaic.Lib.Pipeline.Value
public import Idealize.ShloMosaic.Lib.Pipeline.ValueKit.Acc

/-!
  What the two result arrays of the tiled program hold after the run: block by block the codes and the output, and, the
  seven slabs of 768 columns being the 5376 columns, the formulas of `Spec.lean` of the arguments.
-/

@[expose] public section

set_option maxRecDepth 16384

noncomputable section

namespace Cert.FfnIdeal.Gen

open Idealize.ShloMosaic Idealize.ShloMosaic.TcCoe Idealize.ShloMosaic.Tactic
open Idealize.SL Idealize.SL.Sem
open Idealize.ShloMosaic.Pipeline (Dat Cfg Window)
open scoped BigOperators

variable (m : (ℓ : Loc nD τ sig) → Buf (Elt Ideal) ℓ) (ρ : Dev nD → PrngReg)

/-! ## Where the blocks lie -/

theorem idx0 : ∀ t : Fin cfg0.N, win0_0.index t 0 = 0 := (by decide +kernel : ∀ t : Fin grid0.N, win0_0.index t 0 = 0)
theorem idx1 : ∀ t : Fin cfg0.N, win0_1.index t 0 = 0 := (by decide +kernel : ∀ t : Fin grid0.N, win0_1.index t 0 = 0)
theorem idx2 : ∀ t : Fin cfg0.N, win0_2.index t 0 = 0 ∧ win0_2.index t 1 = 0 := (by decide +kernel : ∀ t : Fin grid0.N, win0_2.index t 0 = 0 ∧ win0_2.index t 1 = 0)
theorem idx3 : ∀ t : Fin cfg0.N, win0_3.index t 0 = 0 ∧ win0_3.index t 1 = min t.val 6 := (by decide +kernel : ∀ t : Fin grid0.N, win0_3.index t 0 = 0 ∧ win0_3.index t 1 = min t.val 6)
theorem idx4 : ∀ t : Fin cfg0.N, win0_4.index t 0 = min t.val 6 ∧ win0_4.index t 1 = 0 ∧ win0_4.index t 2 = 0 := (by decide +kernel : ∀ t : Fin grid0.N, win0_4.index t 0 = min t.val 6 ∧ win0_4.index t 1 = 0 ∧ win0_4.index t 2 = 0)
theorem idx5 : ∀ t : Fin cfg0.N, win0_5.index t 0 = 0 ∧ win0_5.index t 1 = t.val - 7 := (by decide +kernel : ∀ t : Fin grid0.N, win0_5.index t 0 = 0 ∧ win0_5.index t 1 = t.val - 7)
theorem idx6 : ∀ t : Fin cfg0.N, win0_6.index t 0 = t.val - 7 ∧ win0_6.index t 1 = 0 ∧ win0_6.index t 2 = 0 := (by decide +kernel : ∀ t : Fin grid0.N, win0_6.index t 0 = t.val - 7 ∧ win0_6.index t 1 = 0 ∧ win0_6.index t 2 = 0)
theorem idx7 : ∀ t : Fin cfg0.N, win0_7.index t 0 = 0 ∧ win0_7.index t 1 = t.val - 7 := (by decide +kernel : ∀ t : Fin grid0.N, win0_7.index t 0 = 0 ∧ win0_7.index t 1 = t.val - 7)
theorem idx8 : ∀ t : Fin cfg0.N, win0_8.index t 0 = 0 ∧ win0_8.index t 1 = min t.val 6 := (by decide +kernel : ∀ t : Fin grid0.N, win0_8.index t 0 = 0 ∧ win0_8.index t 1 = min t.val 6)
theorem idx9 : ∀ t : Fin cfg0.N, win0_9.index t 0 = 0 ∧ win0_9.index t 1 = t.val - 7 := (by decide +kernel : ∀ t : Fin grid0.N, win0_9.index t 0 = 0 ∧ win0_9.index t 1 = t.val - 7)

/-! ## The host's two reshapes -/

theorem V_main_v0 (c : Dev nD) (b : Fin 7) (q : Fin 768) : V m c main_v0 (ix3 b 0 q)
    = m ((c : Thread nD τ).loc main_arg4) (ix1 (⟨768 * b.val + q.val, by omega⟩ : Fin 5376)) := by
  unfold_abbrev_sides
  after_results
  show shapeCast S7x1x768 (m ((c : Thread nD τ).loc main_arg4) : S5376.Idx → EReal) shapeCasts_S5376_S7x1x768 (ix3 b 0 q) = _
  simp only [pointwise]
  exact congrArg (fun x => (m ((c : Thread nD τ).loc main_arg4) : S5376.Idx → EReal) (ix1 x)) (Fin.ext (by show b.val * 768 + q.val = 768 * b.val + q.val; omega))

theorem V_main_v1 (c : Dev nD) (b : Fin 8) (q : Fin 512) : V m c main_v1 (ix3 b 0 q)
    = m ((c : Thread nD τ).loc main_arg7) (ix1 (⟨512 * b.val + q.val, by omega⟩ : Fin 4096)) := by
  unfold_abbrev_sides
  after_results
  show shapeCast S8x1x512 (m ((c : Thread nD τ).loc main_arg7) : S4096.Idx → EReal) shapeCasts_S4096_S8x1x512 (ix3 b 0 q) = _
  simp only [pointwise]
  exact congrArg (fun x => (m ((c : Thread nD τ).loc main_arg7) : S4096.Idx → EReal) (ix1 x)) (Fin.ext (by show b.val * 512 + q.val = 512 * b.val + q.val; omega))

/-! ## The blocks' contents -/

theorem iblk0_apply (c : Dev nD) (t : Fin cfg0.N) : iblk m c 0 t (ix1 0) = V m c main_arg2 (ix1 0) := by
  show V m c main_arg2 (((cfg0.win 0).blk t).view.emb (ix1 0)) = _
  congr 1
  have h := idx0 t
  funext a
  refine Fin.ext ?_
  show win0_0.index t a * win0_0.size a + 1 * ((ix1 0) a).val = _
  fin_cases a
  · show win0_0.index t 0 * 1 + 1 * 0 = 0
    rw [h]

theorem iblk1_apply (c : Dev nD) (t : Fin cfg0.N) : iblk m c 1 t (ix1 0) = V m c main_arg5 (ix1 0) := by
  show V m c main_arg5 (((cfg0.win 1).blk t).view.emb (ix1 0)) = _
  congr 1
  have h := idx1 t
  funext a
  refine Fin.ext ?_
  show win0_1.index t a * win0_1.size a + 1 * ((ix1 0) a).val = _
  fin_cases a
  · show win0_1.index t 0 * 1 + 1 * 0 = 0
    rw [h]

theorem iblk2_apply (c : Dev nD) (t : Fin cfg0.N) (r : Fin 1980) (k : Fin 4096) : iblk m c 2 t (ix2 r k) = V m c main_arg0 (ix2 r k) := by
  show V m c main_arg0 (((cfg0.win 2).blk t).view.emb (ix2 r k)) = _
  congr 1
  have h := idx2 t
  funext a
  refine Fin.ext ?_
  show win0_2.index t a * win0_2.size a + 1 * ((ix2 r k) a).val = _
  fin_cases a
  · show win0_2.index t 0 * 1980 + 1 * r.val = r.val
    rw [h.1]; omega
  · show win0_2.index t 1 * 4096 + 1 * k.val = k.val
    rw [h.2]; omega

theorem iblk3_apply (c : Dev nD) (t : Fin cfg0.N) (k : Fin 4096) (q : Fin 768) : iblk m c 3 t (ix2 k q) = V m c main_arg3 (ix2 k (⟨768 * min t.val 6 + q.val, by omega⟩ : Fin 5376)) := by
  show V m c main_arg3 (((cfg0.win 3).blk t).view.emb (ix2 k q)) = _
  congr 1
  have h := idx3 t
  funext a
  refine Fin.ext ?_
  show win0_3.index t a * win0_3.size a + 1 * ((ix2 k q) a).val = _
  fin_cases a
  · show win0_3.index t 0 * 4096 + 1 * k.val = k.val
    rw [h.1]; omega
  · show win0_3.index t 1 * 768 + 1 * q.val = 768 * min t.val 6 + q.val
    rw [h.2]; omega

theorem iblk4_apply (c : Dev nD) (t : Fin cfg0.N) (q : Fin 768) : iblk m c 4 t (ix3 (0 : Fin 1) (0 : Fin 1) q) = V m c main_v0 (ix3 (⟨min t.val 6, by omega⟩ : Fin 7) 0 q) := by
  show V m c main_v0 (((cfg0.win 4).blk t).view.emb (ix3 (0 : Fin 1) (0 : Fin 1) q)) = _
  congr 1
  have h := idx4 t
  funext a
  refine Fin.ext ?_
  show win0_4.index t a * win0_4.size a + 1 * ((ix3 (0 : Fin 1) (0 : Fin 1) q) a).val = _
  fin_cases a
  · show win0_4.index t 0 * 1 + 1 * 0 = min t.val 6
    rw [h.1]; omega
  · show win0_4.index t 1 * 1 + 1 * 0 = 0
    rw [h.2.1]
  · show win0_4.index t 2 * 768 + 1 * q.val = q.val
    rw [h.2.2]; omega

theorem iblk5_apply (c : Dev nD) (t : Fin cfg0.N) (k : Fin 5376) (q : Fin 512) : iblk m c 5 t (ix2 k q) = V m c main_arg6 (ix2 k (⟨512 * (t.val - 7) + q.val, by have := lt_N t; omega⟩ : Fin 4096)) := by
  show V m c main_arg6 (((cfg0.win 5).blk t).view.emb (ix2 k q)) = _
  congr 1
  have h := idx5 t
  funext a
  refine Fin.ext ?_
  show win0_5.index t a * win0_5.size a + 1 * ((ix2 k q) a).val = _
  fin_cases a
  · show win0_5.index t 0 * 5376 + 1 * k.val = k.val
    rw [h.1]; omega
  · show win0_5.index t 1 * 512 + 1 * q.val = 512 * (t.val - 7) + q.val
    rw [h.2]; omega

theorem iblk6_apply (c : Dev nD) (t : Fin cfg0.N) (q : Fin 512) : iblk m c 6 t (ix3 (0 : Fin 1) (0 : Fin 1) q) = V m c main_v1 (ix3 (⟨t.val - 7, by have := lt_N t; omega⟩ : Fin 8) 0 q) := by
  show V m c main_v1 (((cfg0.win 6).blk t).view.emb (ix3 (0 : Fin 1) (0 : Fin 1) q)) = _
  congr 1
  have h := idx6 t
  funext a
  refine Fin.ext ?_
  show win0_6.index t a * win0_6.size a + 1 * ((ix3 (0 : Fin 1) (0 : Fin 1) q) a).val = _
  fin_cases a
  · show win0_6.index t 0 * 1 + 1 * 0 = t.val - 7
    rw [h.1]; omega
  · show win0_6.index t 1 * 1 + 1 * 0 = 0
    rw [h.2.1]
  · show win0_6.index t 2 * 512 + 1 * q.val = q.val
    rw [h.2.2]; omega

theorem iblk7_apply (c : Dev nD) (t : Fin cfg0.N) (r : Fin 1980) (q : Fin 512) : iblk m c 7 t (ix2 r q) = V m c main_arg1 (ix2 r (⟨512 * (t.val - 7) + q.val, by have := lt_N t; omega⟩ : Fin 4096)) := by
  show V m c main_arg1 (((cfg0.win 7).blk t).view.emb (ix2 r q)) = _
  congr 1
  have h := idx7 t
  funext a
  refine Fin.ext ?_
  show win0_7.index t a * win0_7.size a + 1 * ((ix2 r q) a).val = _
  fin_cases a
  · show win0_7.index t 0 * 1980 + 1 * r.val = r.val
    rw [h.1]; omega
  · show win0_7.index t 1 * 512 + 1 * q.val = 512 * (t.val - 7) + q.val
    rw [h.2]; omega

/-! ## The two results -/

/-- The hidden codes as a formula of the arguments, -/
def codesOf (c : Dev nD) : Vec Ideal S1980x5376 .fp8e4m3 := fun y =>
  FfnSpec.hidden (fun r k => m ((c : Thread nD τ).loc main_arg0) (ix2 r k)) (fun k q => m ((c : Thread nD τ).loc main_arg3) (ix2 k q))
    (fun q => m ((c : Thread nD τ).loc main_arg4) (ix1 q)) (m ((c : Thread nD τ).loc main_arg2) (ix1 0)) (m ((c : Thread nD τ).loc main_arg5) (ix1 0)) (y 0) (y 1)

/-- and the output. -/
def outOf (c : Dev nD) : Vec Ideal S1980x4096 .bf16 := fun y =>
  FfnSpec.output (fun r k => m ((c : Thread nD τ).loc main_arg0) (ix2 r k)) (fun k q => m ((c : Thread nD τ).loc main_arg3) (ix2 k q))
    (fun q => m ((c : Thread nD τ).loc main_arg4) (ix1 q)) (m ((c : Thread nD τ).loc main_arg2) (ix1 0)) (m ((c : Thread nD τ).loc main_arg5) (ix1 0))
    (fun k q => m ((c : Thread nD τ).loc main_arg6) (ix2 k q)) (fun q => m ((c : Thread nD τ).loc main_arg7) (ix1 q))
    (fun r q => m ((c : Thread nD τ).loc main_arg1) (ix2 r q)) (y 0) (y 1)

theorem ublk_apply (x0 x1 : Vec Ideal S1 .f32) (x2 : Vec Ideal S1980x4096 .fp8e4m3) (x3 : Vec Ideal S4096x768 .fp8e4m3)
    (x4 : Vec Ideal S1x1x768 .f32) (r : Fin 1980) (q : Fin 768) : ublk x0 x1 x2 x3 x4 (ix2 r q)
      = FfnSpec.ucode (x0 (ix1 0)) (x1 (ix1 0)) (∑ k : Fin 4096, x2 (ix2 r k) * x3 (ix2 k q)) (x4 (ix3 (0 : Fin 1) (0 : Fin 1) q)) := rfl

theorem oblk_apply (x1 : Vec Ideal S1 .f32) (x5 : Vec Ideal S5376x512 .fp8e4m3) (x6 : Vec Ideal S1x1x512 .f32) (x7 : Vec Ideal S1980x512 .f32)
    (xs : Vec Ideal S7x1980x768 .fp8e4m3) (r : Fin 1980) (q : Fin 512) : oblk x1 x5 x6 x7 xs (ix2 r q)
      = x7 (ix2 r q) + (∑ j : Fin 7, ∑ k : Fin 768, xs (ix3 j r k) * x5 (ix2 (⟨768 * j.val + k.val, by omega⟩ : Fin 5376) q))
        * x1 (ix1 0) * x6 (ix3 (0 : Fin 1) (0 : Fin 1) q) := rfl

/-- The block of codes stored at point `t` of the up projection. -/
theorem uAt_apply (c : Dev nD) (t : Fin cfg0.N) (r : Fin 1980) (q : Fin 768) :
    uAt m c t (ix2 r q) = codesOf m c (ix2 r (⟨768 * min t.val 6 + q.val, by omega⟩ : Fin 5376)) := by
  rw [uAt, ublk_apply]
  rw [iblk0_apply, iblk1_apply, iblk4_apply, V_main_v0, V_main_arg2, V_main_arg5]
  simp only [iblk2_apply, iblk3_apply, V_main_arg0, V_main_arg3]
  rfl

/-- The scratch after the up projection: the slabs of the codes. -/
theorem slabs_apply (c : Dev nD) (j : Fin 7) (r : Fin 1980) (k : Fin 768) :
    slabs m c (ix3 j r k) = codesOf m c (ix2 r (⟨768 * j.val + k.val, by omega⟩ : Fin 5376)) := by
  show uAt m c _ (ix2 r k) = _
  rw [uAt_apply]
  congr 2
  refine Fin.ext ?_
  show 768 * min j.val 6 + k.val = 768 * j.val + k.val
  have := j.isLt
  omega

/-- Seven slabs of 768 columns are the 5376 columns. -/
theorem sum_slabs (g : Fin 5376 → EReal) :
    (∑ j : Fin 7, ∑ k : Fin 768, g ⟨768 * j.val + k.val, by omega⟩) = ∑ l : Fin 5376, g l := by
  rw [← Fin.sum_mul_add_fin (S := 7) (n := 768) (L := 5376) (f := g)]
  refine Finset.sum_congr rfl fun j _ => Finset.sum_congr rfl fun k _ => congrArg g (Fin.ext ?_)
  show 768 * j.val + k.val = j.val * 768 + k.val
  omega

/-- The block of the output stored at point `t` of the down projection. -/
theorem oAt_apply (c : Dev nD) (t : Fin cfg0.N) (r : Fin 1980) (q : Fin 512) :
    oAt m c t (ix2 r q) = outOf m c (ix2 r (⟨512 * (t.val - 7) + q.val, by have := lt_N t; omega⟩ : Fin 4096)) := by
  rw [oAt, oblk_apply]
  rw [iblk7_apply, iblk1_apply, iblk6_apply, V_main_v1, V_main_arg1, V_main_arg5]
  simp only [slabs_apply, iblk5_apply]
  rw [V_main_arg6]
  rw [sum_slabs fun l => codesOf m c (ix2 r l) * m ((c : Thread nD τ).loc main_arg6) (ix2 l (⟨512 * (t.val - 7) + q.val, by have := lt_N t; omega⟩ : Fin 4096))]
  rfl

theorem emb8_0 (t : Fin cfg0.N) (j : ((cfg0.win 8).xblock (cfg0.grid.coords t)).Idx) : ((((cfg0.win 8).blk t).view.emb j) 0).val = (j 0).val := by
  show win0_8.index t 0 * 1980 + 1 * (j 0).val = _
  rw [(idx8 t).1]; omega
theorem emb8_1 (t : Fin cfg0.N) (j : ((cfg0.win 8).xblock (cfg0.grid.coords t)).Idx) : ((((cfg0.win 8).blk t).view.emb j) 1).val = 768 * min t.val 6 + (j 1).val := by
  show win0_8.index t 1 * 768 + 1 * (j 1).val = _
  rw [(idx8 t).2]; omega

/-- The array of the codes after the run. -/
theorem final8 (c : Dev nD) : (dats m 0 c).arrAt 8 cfg0.N = codesOf m c := by
  refine (dats m 0 c).arrAt_eq_of_cover 8 (codesOf m c) (fun t _ => ?_) fun i => ?_
  · show (cfg0.win 8).cut (grid0.coords t) ((dats m 0 c).after 8 t) = _
    rw [after0_8]
    funext j
    obtain ⟨r, q, rfl⟩ : ∃ (r : Fin 1980) (q : Fin 768), j = ix2 r q := ⟨j 0, j 1, by funext a; fin_cases a <;> rfl⟩
    refine Eq.trans (b := uAt m c (upPt t) (ix2 r q)) rfl ?_
    rw [uAt_apply]
    show codesOf m c _ = codesOf m c (((cfg0.win 8).blk t).view.emb (ix2 r q))
    congr 1
    funext a
    refine Fin.ext ?_
    fin_cases a
    · exact (emb8_0 t (ix2 r q)).symm
    · refine Eq.trans ?_ (emb8_1 t (ix2 r q)).symm
      show 768 * min (min t.val 6) 6 + q.val = 768 * min t.val 6 + q.val
      omega
  · have h1 : (i 1).val < 5376 := (i 1).isLt
    have hN : cfg0.N = 15 := N_0
    have key : ∀ t : Fin cfg0.N, (t.val < 6 ∨ t.val = 14) → (i 1).val / 768 = min t.val 6 → ∃ t : Fin cfg0.N, (cfg0.win 8).flush t = true ∧ i ∈ ((cfg0.win 8).blk t).view.set := by
      intro t ht hi
      refine ⟨t, by rw [flush0_8]; exact decide_eq_true ht, ?_⟩
      have h := View.emb_mem_set ((cfg0.win 8).blk t).view (ix2 (i 0) (⟨(i 1).val % 768, Nat.mod_lt _ (by decide)⟩ : Fin 768))
      refine (show _ = i from ?_) ▸ h
      funext a
      refine Fin.ext ?_
      fin_cases a
      · exact emb8_0 t _
      · refine (emb8_1 t _).trans ?_
        show 768 * min t.val 6 + (i 1).val % 768 = (i 1).val
        rw [← hi]; omega
    by_cases h : (i 1).val / 768 < 6
    · exact key ⟨(i 1).val / 768, by omega⟩ (Or.inl h) (by show (i 1).val / 768 = min ((i 1).val / 768) 6; omega)
    · exact key ⟨14, by omega⟩ (Or.inr rfl) (by show (i 1).val / 768 = min 14 6; omega)

theorem emb9_0 (t : Fin cfg0.N) (j : ((cfg0.win 9).xblock (cfg0.grid.coords t)).Idx) : ((((cfg0.win 9).blk t).view.emb j) 0).val = (j 0).val := by
  show win0_9.index t 0 * 1980 + 1 * (j 0).val = _
  rw [(idx9 t).1]; omega
theorem emb9_1 (t : Fin cfg0.N) (j : ((cfg0.win 9).xblock (cfg0.grid.coords t)).Idx) : ((((cfg0.win 9).blk t).view.emb j) 1).val = 512 * (t.val - 7) + (j 1).val := by
  show win0_9.index t 1 * 512 + 1 * (j 1).val = _
  rw [(idx9 t).2]; omega

/-- The array of the out after the run. -/
theorem final9 (c : Dev nD) : (dats m 0 c).arrAt 9 cfg0.N = outOf m c := by
  refine (dats m 0 c).arrAt_eq_of_cover 9 (outOf m c) (fun t _ => ?_) fun i => ?_
  · show (cfg0.win 9).cut (grid0.coords t) ((dats m 0 c).after 9 t) = _
    rw [after0_9]
    funext j
    obtain ⟨r, q, rfl⟩ : ∃ (r : Fin 1980) (q : Fin 512), j = ix2 r q := ⟨j 0, j 1, by funext a; fin_cases a <;> rfl⟩
    refine Eq.trans (b := oAt m c t (ix2 r q)) rfl ?_
    rw [oAt_apply]
    show outOf m c _ = outOf m c (((cfg0.win 9).blk t).view.emb (ix2 r q))
    congr 1
    funext a
    refine Fin.ext ?_
    fin_cases a
    · exact (emb9_0 t (ix2 r q)).symm
    · refine Eq.trans ?_ (emb9_1 t (ix2 r q)).symm
      rfl
  · have h1 : (i 1).val < 4096 := (i 1).isLt
    have hN : cfg0.N = 15 := N_0
    have key : ∀ t : Fin cfg0.N, 7 ≤ t.val → (i 1).val / 512 = t.val - 7 → ∃ t : Fin cfg0.N, (cfg0.win 9).flush t = true ∧ i ∈ ((cfg0.win 9).blk t).view.set := by
      intro t ht hi
      refine ⟨t, by rw [flush0_9]; exact decide_eq_true ht, ?_⟩
      have h := View.emb_mem_set ((cfg0.win 9).blk t).view (ix2 (i 0) (⟨(i 1).val % 512, Nat.mod_lt _ (by decide)⟩ : Fin 512))
      refine (show _ = i from ?_) ▸ h
      funext a
      refine Fin.ext ?_
      fin_cases a
      · exact emb9_0 t _
      · refine (emb9_1 t _).trans ?_
        show 512 * (t.val - 7) + (i 1).val % 512 = (i 1).val
        rw [← hi]; omega
    have hd : (i 1).val / 512 < 8 := by omega
    exact key ⟨(i 1).val / 512 + 7, by rw [hN]; omega⟩ (Nat.le_add_left _ _) (Nat.add_sub_cancel _ _).symm

/-- The run, read: the two results at the formulas. -/
theorem run : θ_run defs (onTc (τ := τ) (main (F := Ideal))) ⟨m, fun _ => 0, ρ⟩ fun r => ∀ c : Dev nD,
      r.2.mem ((c : Thread nD τ).loc main_v2_0) = codesOf m c ∧ r.2.mem ((c : Thread nD τ).loc main_v2_1) = outOf m c :=
  (θ_run defs _ _).mono (fun _ h c => ⟨((h c).1 8).trans (final8 m c), ((h c).1 9).trans (final9 m c)⟩) (run_main m ρ)

end Cert.FfnIdeal.Gen

end
-- ==== Proof.Ffn.RefValue.lean ====
module
public import proofs.«01_k».proof.Proof.Gen.FfnRefIdeal.Frame
public import proofs.«01_k».proof.Proof.Ffn.Spec
public import Idealize.ShloMosaic.Lib.Pipeline.ReadBack
public import Idealize.ShloMosaic.Lib.Pipeline.Value
public import Idealize.ShloMosaic.Lib.Ring
public import Idealize.ShloMosaic.Lib.Writes
public import Idealize.ShloMosaic.Lib.WholeRead
@[expose] public section

set_option maxRecDepth 16384

noncomputable section

namespace Cert.FfnRefIdeal.Gen

open Idealize.ShloMosaic Idealize.ShloMosaic.TcCoe Idealize.ShloMosaic.Tactic
open Idealize.ShloMosaic.Pipeline (Dat)

variable (m : (ℓ : Loc nD τ sig) → Buf (Elt Ideal) ℓ)

theorem pay1_apply (s su : EReal) (f : Vec Ideal S1980x4096 .fp8e4m3) (wu : Vec Ideal S4096x5376 .fp8e4m3) (wus : Vec Ideal S1x5376 .f32) (y : S1980x5376.Idx) :
    k0_pay1 (F := Ideal) s su f wu wus y = FfnSpec.ucode s su (∑ k : Fin 4096, f (ix2 (y 0) k) * wu (ix2 k (y 1))) (wus (ix2 0 (y 1))) := by
  unfold k0_pay1 FfnSpec.ucode
  pointwise

theorem pay2_apply (s su : EReal) (f : Vec Ideal S1980x4096 .fp8e4m3) (wu : Vec Ideal S4096x5376 .fp8e4m3) (wus : Vec Ideal S1x5376 .f32)
    (wd : Vec Ideal S5376x4096 .fp8e4m3) (h : Vec Ideal S1980x4096 .f32) (wds : Vec Ideal S1x4096 .f32) (y : S1980x4096.Idx) :
    k0_pay2 (F := Ideal) s su f wu wus wd h wds y = h y + (∑ k : Fin 5376, k0_pay1 (F := Ideal) s su f wu wus (ix2 (y 0) k) * wd (ix2 k (y 1))) * su * wds (ix2 0 (y 1)) := by
  unfold k0_pay2
  pointwise

/-- A load of a whole array reads it. -/
theorem readAt_all {sp : Space} {s : Shape} {e : EltTy} {m : Memref sig .tc sp s e} (h : m.IsWhole) (x : Vec Ideal s e)
    (off : Fin s.rank → ℕ) (hoff : ∀ a, off a = 0) (hin : ∀ a, off a + s.size a ≤ s.size a) :
    View.readAt (Elt Ideal) m.view (Rect.unit (s := s) off s.size hin).toLoadRect (h.unread x) = x := by
  funext y
  rw [h.readAt_unread]
  congr 1
  funext a
  refine Fin.ext ?_
  simp [LoadRect.idx, Rect.unit, hoff]

theorem emb_all {s : Shape} (off : Fin s.rank → ℕ) (hoff : ∀ a, off a = 0) (hin : ∀ a, off a + s.size a ≤ s.size a) (y : s.Idx) :
    (Rect.unit (s := s) off s.size hin).emb y = y := by
  funext a
  refine Fin.ext ?_
  simp [Rect.emb, LoadRect.idx, Rect.unit, hoff]

/-- A function stored as one whole piece is that function. -/
theorem whole_piece {s : Shape} {α : Type} {X Y : s.Idx → α} (h : X = Y) (off : Fin s.rank → ℕ) (hoff : ∀ a, off a = 0)
    (hin : ∀ a, off a + s.size a ≤ s.size a) (y : s.Idx) : X y = Y ((Rect.unit (s := s) off s.size hin).emb y) := by
  rw [emb_all off hoff hin y, h]

/-- The word a scalar load reads. -/
theorem word_eq {m : Memref sig .tc .smem S1 .f32} (h : m.IsWhole) (x : Vec Ideal S1 .f32) :
    View.readAt (Elt Ideal) m.view (Rect.unit (s := S1) ![0] S1.size inb_S1_S1_0).toLoadRect (h.unread x) (Shape.Idx.first (by decide)) = x (ix1 0) := by
  rw [readAt_all h x _ (by intro a; fin_cases a; rfl)]
  congr 1
  funext a; fin_cases a; rfl

theorem zero2 (a : Fin 2) : (![0, 0] : Fin 2 → ℕ) a = 0 := by fin_cases a <;> rfl

/-- The hidden codes of the whole arrays, -/
def codes (s su : Vec Ideal S1 .f32) (f : Vec Ideal S1980x4096 .fp8e4m3) (wu : Vec Ideal S4096x5376 .fp8e4m3) (wus : Vec Ideal S1x5376 .f32) :
    Vec Ideal S1980x5376 .fp8e4m3 := fun y =>
  FfnSpec.hidden (fun r k => f (ix2 r k)) (fun k q => wu (ix2 k q)) (fun q => wus (ix2 0 q)) (s (ix1 0)) (su (ix1 0)) (y 0) (y 1)

/-- and the output. -/
def outp (s su : Vec Ideal S1 .f32) (f : Vec Ideal S1980x4096 .fp8e4m3) (wu : Vec Ideal S4096x5376 .fp8e4m3) (wus : Vec Ideal S1x5376 .f32)
    (wd : Vec Ideal S5376x4096 .fp8e4m3) (wds : Vec Ideal S1x4096 .f32) (h : Vec Ideal S1980x4096 .f32) :
    Vec Ideal S1980x4096 .bf16 := fun y =>
  FfnSpec.output (fun r k => f (ix2 r k)) (fun k q => wu (ix2 k q)) (fun q => wus (ix2 0 q)) (s (ix1 0)) (su (ix1 0))
    (fun k q => wd (ix2 k q)) (fun q => wds (ix2 0 q)) (fun r q => h (ix2 r q)) (y 0) (y 1)

theorem pay1_eq (s su : Vec Ideal S1 .f32) (f : Vec Ideal S1980x4096 .fp8e4m3) (wu : Vec Ideal S4096x5376 .fp8e4m3) (wus : Vec Ideal S1x5376 .f32) :
    k0_pay1 (F := Ideal) (s (ix1 0)) (su (ix1 0)) f wu wus = codes s su f wu wus := funext fun y => pay1_apply _ _ _ _ _ y

theorem pay2_eq (s su : Vec Ideal S1 .f32) (f : Vec Ideal S1980x4096 .fp8e4m3) (wu : Vec Ideal S4096x5376 .fp8e4m3) (wus : Vec Ideal S1x5376 .f32)
    (wd : Vec Ideal S5376x4096 .fp8e4m3) (wds : Vec Ideal S1x4096 .f32) (h : Vec Ideal S1980x4096 .f32) :
    k0_pay2 (F := Ideal) (s (ix1 0)) (su (ix1 0)) f wu wus wd h wds = outp s su f wu wus wd wds h := by
  funext y
  rw [pay2_apply, pay1_eq]
  unfold outp FfnSpec.output
  congr 2
  funext a
  fin_cases a <;> rfl

section Outs

variable (c : Dev nD) (t : Fin cfg0.N) (x0 : Vec Ideal S1980x4096 .fp8e4m3) (x1 : Vec Ideal S4096x5376 .fp8e4m3) (x2 : Vec Ideal S1x5376 .f32) (x3 : Vec Ideal S5376x4096 .fp8e4m3) (x4 : Vec Ideal S1x4096 .f32) (x5 : Vec Ideal S1980x4096 .f32) (x6 : Vec Ideal S1 .f32) (x7 : Vec Ideal S1 .f32)

theorem out8_eq : out0_A_8 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4 x5 x6 x7
    = codes x6 x7 x0 x1 x2 := by
  unfold out0_A_8
  funext y
  refine View.read_writes_apply_of_pieces _ _ (codes x6 x7 x0 x1 x2) _ (fun p hp => View.PiecesOf.mem ?_ p hp) y (cover0_A_8 c _ _ _ _ _ _ _ _ _ _ _ _ _ _ _ _ _ _ _ _ _ _ _ _ _ _ _ _ y)
  refine ⟨fun y => ?_, trivial⟩
  refine Eq.trans (b := k0_pay1 (F := Ideal) (View.readAt (Elt Ideal) (ms0_6 t).view (Rect.unit (s := S1) ![0] S1.size inb_S1_S1_0).toLoadRect ((hs0_6 t).unread x6) (Shape.Idx.first (by decide)))
    (View.readAt (Elt Ideal) (ms0_7 t).view (Rect.unit (s := S1) ![0] S1.size inb_S1_S1_0).toLoadRect ((hs0_7 t).unread x7) (Shape.Idx.first (by decide)))
    (View.readAt (Elt Ideal) (ms0_0 t).view (Rect.unit (s := S1980x4096) ![0, 0] S1980x4096.size inb_S1980x4096_S1980x4096_0_0).toLoadRect ((hs0_0 t).unread x0))
    (View.readAt (Elt Ideal) (ms0_1 t).view (Rect.unit (s := S4096x5376) ![0, 0] S4096x5376.size inb_S4096x5376_S4096x5376_0_0).toLoadRect ((hs0_1 t).unread x1))
    (View.readAt (Elt Ideal) (ms0_2 t).view (Rect.unit (s := S1x5376) ![0, 0] S1x5376.size inb_S1x5376_S1x5376_0_0).toLoadRect ((hs0_2 t).unread x2)) y) rfl ?_
  refine whole_piece (s := S1980x5376) (α := EReal) ?_ ![0, 0] zero2 inb_S1980x5376_S1980x5376_0_0 y
  rw [word_eq, word_eq, readAt_all _ _ _ zero2, readAt_all _ _ _ zero2, readAt_all _ _ _ zero2, pay1_eq]

theorem out9_eq : out0_A_9 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4 x5 x6 x7
    = outp x6 x7 x0 x1 x2 x3 x4 x5 := by
  unfold out0_A_9
  funext y
  refine View.read_writes_apply_of_pieces _ _ (outp x6 x7 x0 x1 x2 x3 x4 x5) _ (fun p hp => View.PiecesOf.mem ?_ p hp) y (cover0_A_9 c _ _ _ _ _ _ _ _ _ _ _ _ _ _ _ _ _ _ _ _ _ _ _ _ _ _ _ _ y)
  refine ⟨fun y => ?_, trivial⟩
  refine Eq.trans (b := k0_pay2 (F := Ideal) (View.readAt (Elt Ideal) (ms0_6 t).view (Rect.unit (s := S1) ![0] S1.size inb_S1_S1_0).toLoadRect ((hs0_6 t).unread x6) (Shape.Idx.first (by decide)))
    (View.readAt (Elt Ideal) (ms0_7 t).view (Rect.unit (s := S1) ![0] S1.size inb_S1_S1_0).toLoadRect ((hs0_7 t).unread x7) (Shape.Idx.first (by decide)))
    (View.readAt (Elt Ideal) (ms0_0 t).view (Rect.unit (s := S1980x4096) ![0, 0] S1980x4096.size inb_S1980x4096_S1980x4096_0_0).toLoadRect ((hs0_0 t).unread x0))
    (View.readAt (Elt Ideal) (ms0_1 t).view (Rect.unit (s := S4096x5376) ![0, 0] S4096x5376.size inb_S4096x5376_S4096x5376_0_0).toLoadRect ((hs0_1 t).unread x1))
    (View.readAt (Elt Ideal) (ms0_2 t).view (Rect.unit (s := S1x5376) ![0, 0] S1x5376.size inb_S1x5376_S1x5376_0_0).toLoadRect ((hs0_2 t).unread x2))
    (View.readAt (Elt Ideal) (ms0_3 t).view (Rect.unit (s := S5376x4096) ![0, 0] S5376x4096.size inb_S5376x4096_S5376x4096_0_0).toLoadRect ((hs0_3 t).unread x3))
    (View.readAt (Elt Ideal) (ms0_5 t).view (Rect.unit (s := S1980x4096) ![0, 0] S1980x4096.size inb_S1980x4096_S1980x4096_0_0).toLoadRect ((hs0_5 t).unread x5))
    (View.readAt (Elt Ideal) (ms0_4 t).view (Rect.unit (s := S1x4096) ![0, 0] S1x4096.size inb_S1x4096_S1x4096_0_0).toLoadRect ((hs0_4 t).unread x4)) y) rfl ?_
  refine whole_piece (s := S1980x4096) (α := EReal) ?_ ![0, 0] zero2 inb_S1980x4096_S1980x4096_0_0 y
  rw [word_eq, word_eq, readAt_all _ _ _ zero2, readAt_all _ _ _ zero2, readAt_all _ _ _ zero2, readAt_all _ _ _ zero2, readAt_all _ _ _ zero2, readAt_all _ _ _ zero2, pay2_eq]

end Outs

/-! The host's two reshapes. -/

theorem V_main_v0 (c : Dev nD) (q : Fin 5376) : V m c main_v0 (ix2 0 q) = m ((c : Thread nD τ).loc main_arg4) (ix1 q) := by
  unfold_abbrev_sides
  after_results
  show shapeCast S1x5376 (m ((c : Thread nD τ).loc main_arg4) : S5376.Idx → EReal) shapeCasts_S5376_S1x5376 (ix2 0 q) = _
  simp only [pointwise]

theorem V_main_v1 (c : Dev nD) (q : Fin 4096) : V m c main_v1 (ix2 0 q) = m ((c : Thread nD τ).loc main_arg7) (ix1 q) := by
  unfold_abbrev_sides
  after_results
  show shapeCast S1x4096 (m ((c : Thread nD τ).loc main_arg7) : S4096.Idx → EReal) shapeCasts_S4096_S1x4096 (ix2 0 q) = _
  simp only [pointwise]

theorem iblk0_eq (c : Dev nD) (t : Fin cfg0.N) : iblk m c 0 t = V m c main_arg0 := by
  obtain rfl := fin_N0 t
  funext j
  show V m c main_arg0 (((cfg0.win 0).blk t0_0).view.emb j) = V m c main_arg0 j
  congr 1
  have h0 : ∀ a, win0_0.index t0_0 a = 0 := by decide +kernel
  funext a
  refine Fin.ext ?_
  show win0_0.index t0_0 a * win0_0.size a + 1 * (j a).val = (j a).val
  rw [h0]
  omega
theorem iblk1_eq (c : Dev nD) (t : Fin cfg0.N) : iblk m c 1 t = V m c main_arg3 := by
  obtain rfl := fin_N0 t
  funext j
  show V m c main_arg3 (((cfg0.win 1).blk t0_0).view.emb j) = V m c main_arg3 j
  congr 1
  have h0 : ∀ a, win0_1.index t0_0 a = 0 := by decide +kernel
  funext a
  refine Fin.ext ?_
  show win0_1.index t0_0 a * win0_1.size a + 1 * (j a).val = (j a).val
  rw [h0]
  omega
theorem iblk2_eq (c : Dev nD) (t : Fin cfg0.N) : iblk m c 2 t = V m c main_v0 := by
  obtain rfl := fin_N0 t
  funext j
  show V m c main_v0 (((cfg0.win 2).blk t0_0).view.emb j) = V m c main_v0 j
  congr 1
  have h0 : ∀ a, win0_2.index t0_0 a = 0 := by decide +kernel
  funext a
  refine Fin.ext ?_
  show win0_2.index t0_0 a * win0_2.size a + 1 * (j a).val = (j a).val
  rw [h0]
  omega
theorem iblk3_eq (c : Dev nD) (t : Fin cfg0.N) : iblk m c 3 t = V m c main_arg6 := by
  obtain rfl := fin_N0 t
  funext j
  show V m c main_arg6 (((cfg0.win 3).blk t0_0).view.emb j) = V m c main_arg6 j
  congr 1
  have h0 : ∀ a, win0_3.index t0_0 a = 0 := by decide +kernel
  funext a
  refine Fin.ext ?_
  show win0_3.index t0_0 a * win0_3.size a + 1 * (j a).val = (j a).val
  rw [h0]
  omega
theorem iblk4_eq (c : Dev nD) (t : Fin cfg0.N) : iblk m c 4 t = V m c main_v1 := by
  obtain rfl := fin_N0 t
  funext j
  show V m c main_v1 (((cfg0.win 4).blk t0_0).view.emb j) = V m c main_v1 j
  congr 1
  have h0 : ∀ a, win0_4.index t0_0 a = 0 := by decide +kernel
  funext a
  refine Fin.ext ?_
  show win0_4.index t0_0 a * win0_4.size a + 1 * (j a).val = (j a).val
  rw [h0]
  omega
theorem iblk5_eq (c : Dev nD) (t : Fin cfg0.N) : iblk m c 5 t = V m c main_arg1 := by
  obtain rfl := fin_N0 t
  funext j
  show V m c main_arg1 (((cfg0.win 5).blk t0_0).view.emb j) = V m c main_arg1 j
  congr 1
  have h0 : ∀ a, win0_5.index t0_0 a = 0 := by decide +kernel
  funext a
  refine Fin.ext ?_
  show win0_5.index t0_0 a * win0_5.size a + 1 * (j a).val = (j a).val
  rw [h0]
  omega
theorem iblk6_eq (c : Dev nD) (t : Fin cfg0.N) : iblk m c 6 t = V m c main_arg2 := by
  obtain rfl := fin_N0 t
  funext j
  show V m c main_arg2 (((cfg0.win 6).blk t0_0).view.emb j) = V m c main_arg2 j
  congr 1
  have h0 : ∀ a, win0_6.index t0_0 a = 0 := by decide +kernel
  funext a
  refine Fin.ext ?_
  show win0_6.index t0_0 a * win0_6.size a + 1 * (j a).val = (j a).val
  rw [h0]
  omega
theorem iblk7_eq (c : Dev nD) (t : Fin cfg0.N) : iblk m c 7 t = V m c main_arg5 := by
  obtain rfl := fin_N0 t
  funext j
  show V m c main_arg5 (((cfg0.win 7).blk t0_0).view.emb j) = V m c main_arg5 j
  congr 1
  have h0 : ∀ a, win0_7.index t0_0 a = 0 := by decide +kernel
  funext a
  refine Fin.ext ?_
  show win0_7.index t0_0 a * win0_7.size a + 1 * (j a).val = (j a).val
  rw [h0]
  omega

/-! ## The two result arrays -/

/-- The hidden codes as a formula of the arguments, -/
def codesOf (c : Dev nD) : Vec Ideal S1980x5376 .fp8e4m3 := fun y =>
  FfnSpec.hidden (fun r k => m ((c : Thread nD τ).loc main_arg0) (ix2 r k)) (fun k q => m ((c : Thread nD τ).loc main_arg3) (ix2 k q))
    (fun q => m ((c : Thread nD τ).loc main_arg4) (ix1 q)) (m ((c : Thread nD τ).loc main_arg2) (ix1 0)) (m ((c : Thread nD τ).loc main_arg5) (ix1 0)) (y 0) (y 1)

/-- and the output. -/
def outOf (c : Dev nD) : Vec Ideal S1980x4096 .bf16 := fun y =>
  FfnSpec.output (fun r k => m ((c : Thread nD τ).loc main_arg0) (ix2 r k)) (fun k q => m ((c : Thread nD τ).loc main_arg3) (ix2 k q))
    (fun q => m ((c : Thread nD τ).loc main_arg4) (ix1 q)) (m ((c : Thread nD τ).loc main_arg2) (ix1 0)) (m ((c : Thread nD τ).loc main_arg5) (ix1 0))
    (fun k q => m ((c : Thread nD τ).loc main_arg6) (ix2 k q)) (fun q => m ((c : Thread nD τ).loc main_arg7) (ix1 q))
    (fun r q => m ((c : Thread nD τ).loc main_arg1) (ix2 r q)) (y 0) (y 1)

/-- The formulas do not see how the column scales are laid out. -/
theorem codes_eq (s su : Vec Ideal S1 .f32) (f : Vec Ideal S1980x4096 .fp8e4m3) (wu : Vec Ideal S4096x5376 .fp8e4m3) (wus : Vec Ideal S1x5376 .f32)
    (a : Fin 5376 → EReal) (ha : ∀ q, wus (ix2 0 q) = a q) : codes s su f wu wus = fun y =>
      FfnSpec.hidden (fun r k => f (ix2 r k)) (fun k q => wu (ix2 k q)) a (s (ix1 0)) (su (ix1 0)) (y 0) (y 1) := by
  obtain rfl : a = fun q => wus (ix2 0 q) := funext fun q => (ha q).symm
  rfl

theorem outp_eq (s su : Vec Ideal S1 .f32) (f : Vec Ideal S1980x4096 .fp8e4m3) (wu : Vec Ideal S4096x5376 .fp8e4m3) (wus : Vec Ideal S1x5376 .f32)
    (wd : Vec Ideal S5376x4096 .fp8e4m3) (wds : Vec Ideal S1x4096 .f32) (h : Vec Ideal S1980x4096 .f32)
    (a : Fin 5376 → EReal) (ha : ∀ q, wus (ix2 0 q) = a q) (b : Fin 4096 → EReal) (hb : ∀ q, wds (ix2 0 q) = b q) :
    outp s su f wu wus wd wds h = fun y =>
      FfnSpec.output (fun r k => f (ix2 r k)) (fun k q => wu (ix2 k q)) a (s (ix1 0)) (su (ix1 0))
        (fun k q => wd (ix2 k q)) b (fun r q => h (ix2 r q)) (y 0) (y 1) := by
  obtain rfl : a = fun q => wus (ix2 0 q) := funext fun q => (ha q).symm
  obtain rfl : b = fun q => wds (ix2 0 q) := funext fun q => (hb q).symm
  rfl

theorem outs_codes (c : Dev nD) (t : Fin cfg0.N) : (outsAt0 m c t).1 = codesOf m c := by
  simp only [outsAt0]
  rw [out8_eq, iblk0_eq, iblk1_eq, iblk2_eq, iblk6_eq, iblk7_eq, V_main_arg0, V_main_arg2, V_main_arg3, V_main_arg5]
  exact codes_eq _ _ _ _ _ _ (V_main_v0 m c)

theorem outs_out (c : Dev nD) (t : Fin cfg0.N) : (outsAt0 m c t).2 = outOf m c := by
  simp only [outsAt0]
  rw [out9_eq, iblk0_eq, iblk1_eq, iblk2_eq, iblk3_eq, iblk4_eq, iblk5_eq, iblk6_eq, iblk7_eq, V_main_arg0, V_main_arg1, V_main_arg2, V_main_arg3, V_main_arg5, V_main_arg6]
  exact outp_eq _ _ _ _ _ _ _ _ _ (V_main_v0 m c) _ (V_main_v1 m c)

theorem emb8 (t : Fin cfg0.N) (j : ((cfg0.win 8).xblock (cfg0.grid.coords t)).Idx) (a) : ((((cfg0.win 8).blk t).view.emb j) a).val = (j a).val := by
  obtain rfl := fin_N0 t
  have h0 : ∀ a, win0_8.index t0_0 a = 0 := by decide +kernel
  show win0_8.index t0_0 a * win0_8.size a + 1 * (j a).val = (j a).val
  rw [h0]
  omega

/-- The array of the codes after the run. -/
theorem final8 (c : Dev nD) : (dats m 0 c).arrAt 8 cfg0.N = codesOf m c := by
  refine (dats m 0 c).arrAt_eq_of_cover 8 (codesOf m c) (fun t _ => ?_) fun i => ?_
  · show (cfg0.win 8).cut (grid0.coords t) ((dats m 0 c).after 8 t) = _
    rw [after0_8, outs_codes]
    funext j
    show codesOf m c _ = codesOf m c (((cfg0.win 8).blk t).view.emb j)
    congr 1
    funext a
    exact Fin.ext (emb8 t j a).symm
  · refine ⟨t0_0, flush0_8 _, ?_⟩
    have e : ((cfg0.win 8).blk t0_0).view.emb i = i := funext fun a => Fin.ext (emb8 t0_0 i a)
    have h := View.emb_mem_set ((cfg0.win 8).blk t0_0).view i
    rwa [e] at h

theorem emb9 (t : Fin cfg0.N) (j : ((cfg0.win 9).xblock (cfg0.grid.coords t)).Idx) (a) : ((((cfg0.win 9).blk t).view.emb j) a).val = (j a).val := by
  obtain rfl := fin_N0 t
  have h0 : ∀ a, win0_9.index t0_0 a = 0 := by decide +kernel
  show win0_9.index t0_0 a * win0_9.size a + 1 * (j a).val = (j a).val
  rw [h0]
  omega

/-- The array of the out after the run. -/
theorem final9 (c : Dev nD) : (dats m 0 c).arrAt 9 cfg0.N = outOf m c := by
  refine (dats m 0 c).arrAt_eq_of_cover 9 (outOf m c) (fun t _ => ?_) fun i => ?_
  · show (cfg0.win 9).cut (grid0.coords t) ((dats m 0 c).after 9 t) = _
    rw [after0_9, outs_out]
    funext j
    show outOf m c _ = outOf m c (((cfg0.win 9).blk t).view.emb j)
    congr 1
    funext a
    exact Fin.ext (emb9 t j a).symm
  · refine ⟨t0_0, flush0_9 _, ?_⟩
    have e : ((cfg0.win 9).blk t0_0).view.emb i = i := funext fun a => Fin.ext (emb9 t0_0 i a)
    have h := View.emb_mem_set ((cfg0.win 9).blk t0_0).view i
    rwa [e] at h

/-- The run, read. -/
theorem run (ρ : Dev nD → PrngReg) : θ_run defs (onTc (τ := τ) (main (F := Ideal))) ⟨m, fun _ => 0, ρ⟩ fun r => ∀ c : Dev nD,
      r.2.mem ((c : Thread nD τ).loc main_v2_0) = codesOf m c ∧ r.2.mem ((c : Thread nD τ).loc main_v2_1) = outOf m c :=
  (θ_run defs _ _).mono (fun _ h c => ⟨((h c).1 8).trans (final8 m c), ((h c).1 9).trans (final9 m c)⟩) (run_main m ρ)

end Cert.FfnRefIdeal.Gen
end
-- ==== Proof.Ffn.Claim.lean ====
module

public import proofs.«01_k».proof.Defs
public import proofs.«01_k».proof.Proof.Ffn.Value
public import proofs.«01_k».proof.Proof.Ffn.RefValue

/-!
  The value claim of the feed-forward part: the tiled program and the plain one end with the same codes and the same
  output, both being the formulas of `Spec.lean` of the arguments.
-/

@[expose] public section

set_option maxRecDepth 16384

noncomputable section

namespace Cert.FfnClaim

open Idealize.ShloMosaic Idealize.ShloMosaic.TcCoe Idealize.SL.Sem

attribute [local instance] Cert.FfnIdeal.Gen.facts Cert.FfnRefIdeal.Gen.facts

theorem algebraic : Cert.algebraic_FfnIdeal_FfnRefIdeal := by
  intro m g m' g' _ hm
  refine ⟨fun c => Cert.FfnIdeal.Gen.codesOf m c, fun c => Cert.FfnIdeal.Gen.outOf m c, ?_, ?_⟩
  · refine (θ_run _ _ _).mono (fun r h c => ⟨(h.1 c).1, (h.1 c).2, h.2 c⟩)
      (θ_run_and (Cert.FfnIdeal.Gen.run m g) (Cert.FfnIdeal.Gen.unchanged m g))
  · have key : ∀ c, Cert.FfnRefIdeal.Gen.codesOf m' c = Cert.FfnIdeal.Gen.codesOf m c
        ∧ Cert.FfnRefIdeal.Gen.outOf m' c = Cert.FfnIdeal.Gen.outOf m c := by
      intro c
      obtain ⟨h0, h1, h2, h3, h4, h5, h6, h7⟩ := hm c
      unfold Cert.FfnRefIdeal.Gen.codesOf Cert.FfnRefIdeal.Gen.outOf
      rw [h0, h1, h2, h3, h4, h5, h6, h7]
      exact ⟨rfl, rfl⟩
    refine (θ_run _ _ _).mono (fun r h c => ⟨(h.1 c).1.trans (key c).1, (h.1 c).2.trans (key c).2, h.2 c⟩)
      (θ_run_and (Cert.FfnRefIdeal.Gen.run m' g') (Cert.FfnRefIdeal.Gen.unchanged m' g'))

end Cert.FfnClaim

end
-- ==== Proof.Out.Inputs.lean ====
module

public import proofs.«01_k».proof.Proof.Gen.OutProjIdeal.Frame

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The blocks that overhang

1980 rows are seven blocks of 256 and one of 188: the last block of each array of 1980 rows is only partly moved. -/

theorem lt_N (t : Fin cfg0.N) : t.val < 8 := lt_of_lt_of_eq t.isLt (show cfg0.N = 8 from N_0)

/-- The rows of the arrays that the block at point `t` has. -/
def rows (t : ℕ) : ℕ := min 256 (1980 - 256 * t)

theorem xs0_3 : ∀ t : Fin cfg0.N, (cfg0.win 3).xsize (cfg0.grid.coords t) 0 = rows t.val ∧ (cfg0.win 3).xsize (cfg0.grid.coords t) 1 = 2048 :=
  (by decide +kernel : ∀ t : Fin grid0.N, (cfg0.win 3).xsize (cfg0.grid.coords t) 0 = rows t.val ∧ (cfg0.win 3).xsize (cfg0.grid.coords t) 1 = 2048)

/-- Window 3 moves the rows of its array. -/
theorem moved0_3 (t : Fin cfg0.N) (j : S256x2048.Idx) : (cfg0.win 3).moved (cfg0.grid.coords t) j = true ↔ (j 0).val < rows t.val := by
  rw [(cfg0.win 3).moved_iff]
  constructor
  · intro h
    rw [← (xs0_3 t).1]; exact h 0
  · intro h a
    fin_cases a
    · show (j 0).val < (cfg0.win 3).xsize (cfg0.grid.coords t) 0
      rw [(xs0_3 t).1]; exact h
    · show (j 1).val < (cfg0.win 3).xsize (cfg0.grid.coords t) 1
      rw [(xs0_3 t).2]; exact (j 1).isLt

theorem xs0_4 : ∀ t : Fin cfg0.N, (cfg0.win 4).xsize (cfg0.grid.coords t) 0 = rows t.val ∧ (cfg0.win 4).xsize (cfg0.grid.coords t) 1 = 4096 :=
  (by decide +kernel : ∀ t : Fin grid0.N, (cfg0.win 4).xsize (cfg0.grid.coords t) 0 = rows t.val ∧ (cfg0.win 4).xsize (cfg0.grid.coords t) 1 = 4096)

/-- Window 4 moves the rows of its array. -/
theorem moved0_4 (t : Fin cfg0.N) (j : S256x4096.Idx) : (cfg0.win 4).moved (cfg0.grid.coords t) j = true ↔ (j 0).val < rows t.val := by
  rw [(cfg0.win 4).moved_iff]
  constructor
  · intro h
    rw [← (xs0_4 t).1]; exact h 0
  · intro h a
    fin_cases a
    · show (j 0).val < (cfg0.win 4).xsize (cfg0.grid.coords t) 0
      rw [(xs0_4 t).1]; exact h
    · show (j 1).val < (cfg0.win 4).xsize (cfg0.grid.coords t) 1
      rw [(xs0_4 t).2]; exact (j 1).isLt

theorem xs0_9 : ∀ t : Fin cfg0.N, (cfg0.win 9).xsize (cfg0.grid.coords t) 0 = rows t.val ∧ (cfg0.win 9).xsize (cfg0.grid.coords t) 1 = 2048 :=
  (by decide +kernel : ∀ t : Fin grid0.N, (cfg0.win 9).xsize (cfg0.grid.coords t) 0 = rows t.val ∧ (cfg0.win 9).xsize (cfg0.grid.coords t) 1 = 2048)

/-- Window 9 moves the rows of its array. -/
theorem moved0_9 (t : Fin cfg0.N) (j : S256x2048.Idx) : (cfg0.win 9).moved (cfg0.grid.coords t) j = true ↔ (j 0).val < rows t.val := by
  rw [(cfg0.win 9).moved_iff]
  constructor
  · intro h
    rw [← (xs0_9 t).1]; exact h 0
  · intro h a
    fin_cases a
    · show (j 0).val < (cfg0.win 9).xsize (cfg0.grid.coords t) 0
      rw [(xs0_9 t).1]; exact h
    · show (j 1).val < (cfg0.win 9).xsize (cfg0.grid.coords t) 1
      rw [(xs0_9 t).2]; exact (j 1).isLt

theorem xs0_10 : ∀ t : Fin cfg0.N, (cfg0.win 10).xsize (cfg0.grid.coords t) 0 = rows t.val ∧ (cfg0.win 10).xsize (cfg0.grid.coords t) 1 = 2048 :=
  (by decide +kernel : ∀ t : Fin grid0.N, (cfg0.win 10).xsize (cfg0.grid.coords t) 0 = rows t.val ∧ (cfg0.win 10).xsize (cfg0.grid.coords t) 1 = 2048)

/-- Window 10 moves the rows of its array. -/
theorem moved0_10 (t : Fin cfg0.N) (j : S256x2048.Idx) : (cfg0.win 10).moved (cfg0.grid.coords t) j = true ↔ (j 0).val < rows t.val := by
  rw [(cfg0.win 10).moved_iff]
  constructor
  · intro h
    rw [← (xs0_10 t).1]; exact h 0
  · intro h a
    fin_cases a
    · show (j 0).val < (cfg0.win 10).xsize (cfg0.grid.coords t) 0
      rw [(xs0_10 t).1]; exact h
    · show (j 1).val < (cfg0.win 10).xsize (cfg0.grid.coords t) 1
      rw [(xs0_10 t).2]; exact (j 1).isLt

theorem xs0_11 : ∀ t : Fin cfg0.N, (cfg0.win 11).xsize (cfg0.grid.coords t) 0 = rows t.val ∧ (cfg0.win 11).xsize (cfg0.grid.coords t) 1 = 4096 :=
  (by decide +kernel : ∀ t : Fin grid0.N, (cfg0.win 11).xsize (cfg0.grid.coords t) 0 = rows t.val ∧ (cfg0.win 11).xsize (cfg0.grid.coords t) 1 = 4096)

/-- Window 11 moves the rows of its array. -/
theorem moved0_11 (t : Fin cfg0.N) (j : S256x4096.Idx) : (cfg0.win 11).moved (cfg0.grid.coords t) j = true ↔ (j 0).val < rows t.val := by
  rw [(cfg0.win 11).moved_iff]
  constructor
  · intro h
    rw [← (xs0_11 t).1]; exact h 0
  · intro h a
    fin_cases a
    · show (j 0).val < (cfg0.win 11).xsize (cfg0.grid.coords t) 0
      rw [(xs0_11 t).1]; exact h
    · show (j 1).val < (cfg0.win 11).xsize (cfg0.grid.coords t) 1
      rw [(xs0_11 t).2]; exact (j 1).isLt

theorem xs0_12 : ∀ t : Fin cfg0.N, (cfg0.win 12).xsize (cfg0.grid.coords t) 0 = rows t.val ∧ (cfg0.win 12).xsize (cfg0.grid.coords t) 1 = 4096 :=
  (by decide +kernel : ∀ t : Fin grid0.N, (cfg0.win 12).xsize (cfg0.grid.coords t) 0 = rows t.val ∧ (cfg0.win 12).xsize (cfg0.grid.coords t) 1 = 4096)

/-- Window 12 moves the rows of its array. -/
theorem moved0_12 (t : Fin cfg0.N) (j : S256x4096.Idx) : (cfg0.win 12).moved (cfg0.grid.coords t) j = true ↔ (j 0).val < rows t.val := by
  rw [(cfg0.win 12).moved_iff]
  constructor
  · intro h
    rw [← (xs0_12 t).1]; exact h 0
  · intro h a
    fin_cases a
    · show (j 0).val < (cfg0.win 12).xsize (cfg0.grid.coords t) 0
      rw [(xs0_12 t).1]; exact h
    · show (j 1).val < (cfg0.win 12).xsize (cfg0.grid.coords t) 1
      rw [(xs0_12 t).2]; exact (j 1).isLt

/-- The block of window 3 at point `t`, filled up to 256 rows with words nothing reads. -/
def X0_3 (c : Dev nD) (t : Fin cfg0.N) : (cfg0.win 3).block.Idx → Elt F (cfg0.win 3).elt :=
  (cfg0.win 3).fill (cfg0.grid.coords t) (fun _ => Classical.choice inferInstance) (iblk m c 3 t)

/-- What the buffer of window 3 holds at point `t`: the block, and below it what it held before. -/
theorem before0_3_of {c : Dev nD} (dat : Dat τ (Elt F) Unit ℕ (UR sig nD τ) ℕ cfg0 c) (hA : dat.A 3 = V m c (Pipeline.arrRef spec0 3))
    (hafter : ∀ t, dat.after 3 t = X0_3 m c t) (t : Fin cfg0.N) (d) :
    dat.before 3 t d = (cfg0.win 3).fill (cfg0.grid.coords t) d (iblk m c 3 t) :=
  (dat.before_in_eq_fetched 3 rfl (fun _ => rfl)
      (fun t t' h => funext fun a => congrArg (fun n => Pipeline.Clip.of n ((cfg0.win 3).size a) (S1980x2048.size a)) (congrFun h a))
      (fun t => by rw [hafter]; unfold X0_3; rw [Pipeline.Window.cut_fill]; unfold Dat.blockOf iblk; rw [hA]; try rfl) t d).trans
    (by unfold Dat.fetched; unfold Dat.blockOf iblk; rw [hA]; try rfl)

/-- On the rows of the array it does not matter what the buffer held before. -/
theorem fill0_3 (c : Dev nD) (t : Fin cfg0.N) (d : (cfg0.win 3).block.Idx → Elt F (cfg0.win 3).elt) (j : S256x2048.Idx) (h : (j 0).val < rows t.val) :
    (cfg0.win 3).fill (cfg0.grid.coords t) d (iblk m c 3 t) j = X0_3 m c t j := by
  unfold X0_3 Pipeline.Window.fill
  rw [dif_pos ((moved0_3 t j).mpr h), dif_pos ((moved0_3 t j).mpr h)]

/-- The block of window 4 at point `t`, filled up to 256 rows with words nothing reads. -/
def X0_4 (c : Dev nD) (t : Fin cfg0.N) : (cfg0.win 4).block.Idx → Elt F (cfg0.win 4).elt :=
  (cfg0.win 4).fill (cfg0.grid.coords t) (fun _ => Classical.choice inferInstance) (iblk m c 4 t)

/-- What the buffer of window 4 holds at point `t`: the block, and below it what it held before. -/
theorem before0_4_of {c : Dev nD} (dat : Dat τ (Elt F) Unit ℕ (UR sig nD τ) ℕ cfg0 c) (hA : dat.A 4 = V m c (Pipeline.arrRef spec0 4))
    (hafter : ∀ t, dat.after 4 t = X0_4 m c t) (t : Fin cfg0.N) (d) :
    dat.before 4 t d = (cfg0.win 4).fill (cfg0.grid.coords t) d (iblk m c 4 t) :=
  (dat.before_in_eq_fetched 4 rfl (fun _ => rfl)
      (fun t t' h => funext fun a => congrArg (fun n => Pipeline.Clip.of n ((cfg0.win 4).size a) (S1980x4096.size a)) (congrFun h a))
      (fun t => by rw [hafter]; unfold X0_4; rw [Pipeline.Window.cut_fill]; unfold Dat.blockOf iblk; rw [hA]; try rfl) t d).trans
    (by unfold Dat.fetched; unfold Dat.blockOf iblk; rw [hA]; try rfl)

/-- On the rows of the array it does not matter what the buffer held before. -/
theorem fill0_4 (c : Dev nD) (t : Fin cfg0.N) (d : (cfg0.win 4).block.Idx → Elt F (cfg0.win 4).elt) (j : S256x4096.Idx) (h : (j 0).val < rows t.val) :
    (cfg0.win 4).fill (cfg0.grid.coords t) d (iblk m c 4 t) j = X0_4 m c t j := by
  unfold X0_4 Pipeline.Window.fill
  rw [dif_pos ((moved0_4 t j).mpr h), dif_pos ((moved0_4 t j).mpr h)]

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)

theorem defs₀_row (t : Fin cfg0.N) :
    defs₀ (F := F) .tc cfg0.body (cfg0.bodyArgs t (cfg0.slots t)) = bodyAt0 t := by
  unfold defs₀; rw [Defs.onTc_tc]

end Cert.OutProjIdeal.Gen
-- ==== Proof.Out.Run.lean ====
module

public import proofs.«01_k».proof.Proof.Gen.OutProjIdeal.Frame
public import proofs.«01_k».proof.Proof.Gen.OutProjIdeal.Skeleton

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at one point: from the two scales and the blocks of `y`, `z`, `x` and the weights, the run stores the pieces `L9`
    into the block of `y`, `L10` into the codes of the gate, `L11` into the residual and `L12` into its codes. What the
    buffers of the results held before does not matter. -/
noncomputable def runO (c : Dev nD) (i : grid0.Coords) (arg1 : Memref sig .tc .smem S1 .f32) (harg1 : arg1.IsWhole) (arg2 : Memref sig .tc .smem S1 .f32) (harg2 : arg2.IsWhole) (arg3 : Memref sig .tc .vmem S16x256x128 .f32) (harg3 : arg3.IsWhole) (arg4 : Memref sig .tc .vmem S256x2048 .f32) (harg4 : arg4.IsWhole) (arg5 : Memref sig .tc .vmem S256x4096 .bf16) (harg5 : arg5.IsWhole) (arg6 : Memref sig .tc .vmem S1x2048 .f32) (harg6 : arg6.IsWhole) (arg7 : Memref sig .tc .vmem S2048x4096 .fp8e4m3) (harg7 : arg7.IsWhole) (arg8 : Memref sig .tc .vmem S1x4096 .f32) (harg8 : arg8.IsWhole) (arg9 : Memref sig .tc .vmem S1x4096 .f32) (harg9 : arg9.IsWhole) (arg10 : Memref sig .tc .vmem S256x2048 .bf16) (harg10 : arg10.IsWhole) (arg11 : Memref sig .tc .vmem S256x2048 .fp8e4m3) (harg11 : arg11.IsWhole) (arg12 : Memref sig .tc .vmem S256x4096 .f32) (harg12 : arg12.IsWhole) (arg13 : Memref sig .tc .vmem S256x4096 .fp8e4m3) (harg13 : arg13.IsWhole)
    (x0 : Vec F S1 .f32) (x1 : Vec F S1 .f32) (x2 : Vec F S16x256x128 .f32) (x3 : Vec F S256x2048 .f32) (x4 : Vec F S256x4096 .bf16) (x5 : Vec F S1x2048 .f32) (x6 : Vec F S2048x4096 .fp8e4m3) (x7 : Vec F S1x4096 .f32) (x8 : Vec F S1x4096 .f32) :
  Σ' (L9 : List (View.Piece (Elt F) S256x2048 .bf16)) (L10 : List (View.Piece (Elt F) S256x2048 .fp8e4m3)) (L11 : List (View.Piece (Elt F) S256x4096 .f32)), { L12 : List (View.Piece (Elt F) S256x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_out_proj_eq_skeleton]; unfold cc0_out_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact H12

end Cert.OutProjIdeal.Gen

end
-- ==== Proof.Out.Forget.lean ====
module

public import proofs.«01_k».proof.Proof.Out.Inputs
public import proofs.«01_k».proof.Proof.Out.Run
public import Idealize.ShloMosaic.Lib.Claim

@[expose] public section

set_option maxRecDepth 16384

noncomputable section

/-! The frame over any arithmetic: the run ends and leaves its arguments, whatever the outputs then hold. -/

namespace Cert.OutProjIdeal.Forget

open Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing is said of what any staging buffer holds. -/
def forgets0 : Fin 13 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- Every buffer at some contents: what the body is called with and what it returns. -/
def someBlocks (c : Dev nD) (t : Fin cfg0.N) : sProp 𝕄 :=
  iprop((∃ X, owns (c : Thread nD τ) (ms0_0 t) fullShare X)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X))

set_option maxHeartbeats 1600000 in
theorem sound_body (c : Dev nD) (t : Fin cfg0.N) :
    iprop((dats (F := F) m 0 c).Φ t.castSucc ∗ (dats (F := F) m 0 c).owesAt () t.castSucc ∗ someBlocks c t)
      ⊢ wp frame (wpE (defs₀ (F := F)) Variants.none c none) Set.univ (bodyAt0 t)
        (fun _ => iprop((dats (F := F) m 0 c).Φ t.succ ∗ (dats (F := F) m 0 c).owesAt () t.succ ∗ someBlocks c t)) := by
  unfold someBlocks bodyAt0
  rw [show (dats (F := F) m 0 c).owesAt () t.succ = (dats (F := F) m 0 c).owesAt () t.castSucc from rfl,
    show (dats (F := F) m 0 c).Φ t.succ = (dats (F := F) m 0 c).Φ t.castSucc from rfl]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runO (F := F) c (grid0.coords t) _ _ _ _ _ _ _ _ _ _ _ _ _ _ _ _ _ _ _ _ _ _ _ _ _ _ d0 d1 d2 d3 d4 d5 d6 d7 d8).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, ⟨%f9, H9⟩, ⟨%f10, H10⟩, ⟨%f11, H11⟩, ⟨%f12, H12⟩⟩
  isplitl [Hp]; · iexact Hp
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]
  · iexists _
    unfold owns; iexists _; isplitr; on_goal 2 => iexact H9
    ipureintro; rfl
  isplitl [H10]
  · iexists _
    unfold owns; iexists _; isplitr; on_goal 2 => iexact H10
    ipureintro; rfl
  isplitl [H11]
  · iexists _
    unfold owns; iexists _; isplitr; on_goal 2 => iexact H11
    ipureintro; rfl
  · iexists _
    unfold owns; iexists _; isplitr; on_goal 2 => iexact H12
    ipureintro; rfl

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution terminates with every input array as it was and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays are unchanged after a run that ends with every input array as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 0 rfl).trans ((hA c 0).trans (V_main_arg4 m c)),
      (Pipeline.RDat.FramePost.arr_in h c 6 rfl).trans ((hA c 6).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 1 rfl).trans ((hA c 1).trans (V_main_arg8 m c))⟩) h

/-- THE FRAME, over any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (fun c => (dats m 0 c).toRForget forgets0) (A_eq m) ((θ_run defs _ _).mono (fun _ h => h.1) (run_main_quiescent m ρ)))
    ((θ_run defs _ _).mono (fun _ h => h.2) (run_main_quiescent m ρ))

end Cert.OutProjIdeal.Forget
-- ==== Proof.Out.Bits.lean ====
module

public import proofs.«01_k».proof.Defs
public import proofs.«01_k».proof.Proof.Out.Forget
public import proofs.«01_k».proof.Proof.Gen.OutProj

@[expose] public section

set_option maxRecDepth 100000

namespace Cert.OutBits

open Idealize.ShloMosaic Idealize.ShloMosaic.TcCoe Idealize.SL.Sem

attribute [local instance] Cert.OutProj.Gen.facts

/-- The frame of the ideal program's text, read over the bits. -/
def QBits : Prop :=
  ∀ (m : (ℓ : Loc OutProjIdeal.nD OutProjIdeal.τ OutProjIdeal.sig) → Buf (Elt Bits) ℓ) (g : Dev OutProjIdeal.nD → PrngReg), True →
    θ_run (OutProjIdeal.defs (F := Bits)) (onTc (τ := OutProjIdeal.τ) (OutProjIdeal.main (F := Bits))) ⟨m, fun _ => 0, g⟩ (fun r => (∀ c : Dev OutProjIdeal.nD,
      r.2.mem ((c.tc : Thread OutProjIdeal.nD OutProjIdeal.τ).loc OutProjIdeal.main_arg0) = m ((c.tc : Thread OutProjIdeal.nD OutProjIdeal.τ).loc OutProjIdeal.main_arg0)
      ∧ r.2.mem ((c.tc : Thread OutProjIdeal.nD OutProjIdeal.τ).loc OutProjIdeal.main_arg1) = m ((c.tc : Thread OutProjIdeal.nD OutProjIdeal.τ).loc OutProjIdeal.main_arg1)
      ∧ r.2.mem ((c.tc : Thread OutProjIdeal.nD OutProjIdeal.τ).loc OutProjIdeal.main_arg2) = m ((c.tc : Thread OutProjIdeal.nD OutProjIdeal.τ).loc OutProjIdeal.main_arg2)
      ∧ r.2.mem ((c.tc : Thread OutProjIdeal.nD OutProjIdeal.τ).loc OutProjIdeal.main_arg3) = m ((c.tc : Thread OutProjIdeal.nD OutProjIdeal.τ).loc OutProjIdeal.main_arg3)
      ∧ r.2.mem ((c.tc : Thread OutProjIdeal.nD OutProjIdeal.τ).loc OutProjIdeal.main_arg4) = m ((c.tc : Thread OutProjIdeal.nD OutProjIdeal.τ).loc OutProjIdeal.main_arg4)
      ∧ r.2.mem ((c.tc : Thread OutProjIdeal.nD OutProjIdeal.τ).loc OutProjIdeal.main_arg5) = m ((c.tc : Thread OutProjIdeal.nD OutProjIdeal.τ).loc OutProjIdeal.main_arg5)
      ∧ r.2.mem ((c.tc : Thread OutProjIdeal.nD OutProjIdeal.τ).loc OutProjIdeal.main_arg6) = m ((c.tc : Thread OutProjIdeal.nD OutProjIdeal.τ).loc OutProjIdeal.main_arg6)
      ∧ r.2.mem ((c.tc : Thread OutProjIdeal.nD OutProjIdeal.τ).loc OutProjIdeal.main_arg7) = m ((c.tc : Thread OutProjIdeal.nD OutProjIdeal.τ).loc OutProjIdeal.main_arg7)
      ∧ r.2.mem ((c.tc : Thread OutProjIdeal.nD OutProjIdeal.τ).loc OutProjIdeal.main_arg8) = m ((c.tc : Thread OutProjIdeal.nD OutProjIdeal.τ).loc OutProjIdeal.main_arg8))
      ∧ r.2.sem = fun _ => 0)

theorem qbits : QBits := fun m g _ => OutProjIdeal.Forget.frame m g

/-- The two programs have one text, so the two statements are one. -/
theorem same : QBits = Cert.quiescent_OutProj := by sl_kernel_rfl

/-- The frame of the program over the bits. -/
theorem frame : Cert.quiescent_OutProj := same ▸ qbits

end Cert.OutBits
-- ==== Proof.Out.Rows.lean ====
module

public import Idealize.ShloMosaic.PureOps.Ideal

/-!
  One row of the output projection, over the extended reals: the gate and its norm by groups of 1024 channels, the codes of the
  gate, the residual after the projection, and the codes of its norm. Every row of the results is made of the same row of the
  inputs alone.
-/

@[expose] public section

noncomputable section

namespace Cert.OutRows

open Idealize.ShloMosaic
open scoped BigOperators

/-- The range of a code: `min 448 (max (-448) v)`. -/
def clip8 (v : EReal) : EReal :=
  min (Ideal.ofBits FTy.f32 1138753536#32) (max (Ideal.ofBits FTy.f32 3286237184#32) v)

/-- `v / (1 + e⁻ᵛ)`. -/
def silu (v : EReal) : EReal := Ideal.div v (1 + Ideal.exp (0 - v))

/-- The root of the mean square of `n` numbers plus `1e-5`, the count given as the constant the programs divide by. -/
def rms {n : ℕ} (cnt : EReal) (u : Fin n → EReal) : EReal :=
  Ideal.sqrt (Ideal.div (∑ k : Fin n, u k * u k) cnt + Ideal.ofBits FTy.f32 925353388#32)

/-- The code of one number of `u`: over the root mean square of `u`, times the weight `w`, over the scale `s`. -/
def ncode {n : ℕ} (cnt : EReal) (u : Fin n → EReal) (w s : EReal) (c : Fin n) : EReal :=
  clip8 (Ideal.div (Ideal.div (u c) (rms cnt u) * w) s)

/-- Channel `k` of the group that channel `c` lies in. -/
def inGroup (c : Fin 2048) (k : Fin 1024) : Fin 2048 := ⟨1024 * (c.val / 1024) + k.val, by omega⟩

/-- The code of the gate `y · silu z` at channel `c`. -/
def gcode (y z gw : Fin 2048 → EReal) (s : EReal) (c : Fin 2048) : EReal :=
  ncode (Ideal.ofBits FTy.f32 1149239296#32) (fun k => y (inGroup c k) * silu (z (inGroup c k))) (gw c) s
    ⟨c.val % 1024, Nat.mod_lt _ (by decide)⟩

/-- The residual at column `c`: the input's plus the projection of the codes. -/
def hrow (x : EReal) (g w : Fin 2048 → EReal) (s ws : EReal) : EReal := x + (∑ k : Fin 2048, g k * w k) * s * ws

/-- The code of the residual's norm at column `c`. -/
def fcode (h nw : Fin 4096 → EReal) (s : EReal) (c : Fin 4096) : EReal :=
  ncode (Ideal.ofBits FTy.f32 1166016512#32) h (nw c) s c

/-- Divided by one plus an exponential, or times that sum's inverse: the same, for the sum is not zero. -/
theorem silu_eq (v : EReal) : v * Ideal.logistic v = silu v := by
  have h : (1 : EReal) + Ideal.exp (-v) ≠ 0 := by
    have : 0 ≤ Ideal.exp (-v) := by
      cases hv : -v using EReal.rec with
      | bot => exact le_refl _
      | top => exact le_top
      | coe r => exact EReal.coe_nonneg.mpr (Real.exp_pos r).le
    exact ne_of_gt (lt_of_lt_of_le zero_lt_one (le_add_of_nonneg_right this))
  unfold silu Ideal.logistic Ideal.div
  rw [zero_sub, if_neg h, if_neg h, one_mul]

end Cert.OutRows

end
-- ==== Proof.Out.Tile.lean ====
module

public import proofs.«01_k».proof.Proof.Gen.OutProjIdeal.Frame
public import proofs.«01_k».proof.Proof.Gen.OutProjIdeal.Skeleton
public import proofs.«01_k».proof.Proof.Out.Rows
public import Idealize.ShloMosaic.Lib.Pointwise
public import Idealize.ShloMosaic.Lib.ValueIdxCore
public import Idealize.ShloMosaic.Lib.WholeRead
public import Idealize.ShloMosaic.Lib.Pipeline.Value

/-!
  What one tile of each result is, element by element, over the extended reals.
-/

@[expose] public section

set_option maxRecDepth 16384

noncomputable section

namespace Cert.OutProjIdeal.Gen

open Idealize.ShloMosaic Idealize.ShloMosaic.TcCoe Idealize.ShloMosaic.Tactic
open Cert.OutRows
open scoped BigOperators

/-- The codes of 32 rows of the residual. -/
theorem pay146_apply (s : Elt Ideal .f32) (v : Vec Ideal S32x4096 .f32) (nw : Vec Ideal S1x4096 .f32) (y : S32x4096.Idx) :
    k0_pay146 (F := Ideal) s v nw y = fcode (fun k => v (ix2 (y 0) k)) (fun k => nw (ix2 0 k)) s (y 1) := by
  unfold k0_pay146 fcode ncode rms clip8
  pointwise

/-- A tile of 256 rows and 256 columns of the residual. -/
theorem pay114_apply (s : Elt Ideal .f32) (x : Vec Ideal S256x256 .bf16) (g : Vec Ideal S256x2048 .fp8e4m3)
    (w : Vec Ideal S2048x256 .fp8e4m3) (ws : Vec Ideal S1x256 .f32) (y : S256x256.Idx) :
    k0_pay114 (F := Ideal) s x g w ws y
      = hrow (x y) (fun k => g (ix2 (y 0) k)) (fun k => w (ix2 k (y 1))) s (ws (ix2 0 (y 1))) := by
  unfold k0_pay114 hrow
  pointwise

/-- The plane `q` of eight. -/
def pick8 {α : Type} (a0 a1 a2 a3 a4 a5 a6 a7 : α) (q : Fin 8) : α := ![a0, a1, a2, a3, a4, a5, a6, a7] q

/-- 32 rows of eight planes side by side. -/
theorem pay2_apply (v2 v4 v6 v8 v10 v12 v14 v16 : Vec Ideal S1x32x128 .f32) (y : S32x1024.Idx) :
    k0_pay2 (F := Ideal) v2 v4 v6 v8 v10 v12 v14 v16 y
      = pick8 v2 v4 v6 v8 v10 v12 v14 v16 ⟨(y 1).val / 128, by have := (y 1).isLt; change _ < 1024 at this; omega⟩
          (ix3 (0 : Fin 1) (y 0) ⟨(y 1).val % 128, Nat.mod_lt _ (by decide)⟩) := by
  unfold k0_pay2
  have hq : (y 1).val / 128 < 8 := by have := (y 1).isLt; change _ < 1024 at this; omega
  refine (Idealize.ShloMosaic.concatenate_ofFn_apply (1 : Fin S32x1024.rank)
    (fun q : Fin 8 => (shapeCast S32x128 (pick8 v2 v4 v6 v8 v10 v12 v14 v16 q) shapeCasts_S1x32x128_S32x128 : FVec Ideal S32x128 .f32))
    concatenates_S32x128_S32x128_S32x128_S32x128_S32x128_S32x128_S32x128_S32x128_S32x1024_d1 rfl 128 rfl y
    ⟨(y 1).val / 128, hq⟩ rfl (ix2 (y 0) ⟨(y 1).val % 128, Nat.mod_lt _ (by decide)⟩) rfl ?_).trans ?_
  · intro b hb
    fin_cases b
    · rfl
    · exact absurd rfl hb
  · pointwise

/-- 32 rows of the gate's codes in one group. -/
theorem pay6_apply (s : Elt Ideal .f32) (u z : Vec Ideal S32x1024 .f32) (gw : Vec Ideal S1x1024 .f32) (y : S32x1024.Idx) :
    k0_pay6 (F := Ideal) s u z (k0_pay4 (F := Ideal) z) (k0_pay5 (F := Ideal)) gw y
      = ncode (Ideal.ofBits FTy.f32 1149239296#32) (fun k => u (ix2 (y 0) k) * silu (z (ix2 (y 0) k))) (gw (ix2 0 (y 1))) s (y 1) := by
  unfold k0_pay6 k0_pay4 k0_pay5 ncode rms clip8 silu
  pointwise

end Cert.OutProjIdeal.Gen

end
-- ==== Proof.Out.Block.lean ====
module

public import proofs.«01_k».proof.Proof.Out.Tile
public import Idealize.ShloMosaic.Lib.Pipeline.ReadBack
public import Idealize.ShloMosaic.Lib.Pipeline.Value
public import Idealize.ShloMosaic.Lib.Pipeline.FrameBody

/-!
  The blocks of 256 rows that one point leaves, and each tile stored into them as a part of the block.
-/

@[expose] public section

set_option maxRecDepth 16384

noncomputable section

namespace Cert.OutProjIdeal.Gen

open Idealize.ShloMosaic Idealize.ShloMosaic.TcCoe Idealize.ShloMosaic.Tactic
open Cert.OutRows
open scoped BigOperators

/-- The block of `y`: channel `c` is plane `c / 128`, lane `c % 128`. -/
def yblk (x2 : Vec Ideal S16x256x128 .f32) : Vec Ideal S256x2048 .bf16 :=
  fun j => x2 (ix3 (⟨(j 1).val / 128, by have := (j 1).isLt; change _ < 2048 at this; omega⟩ : Fin 16) (j 0) (⟨(j 1).val % 128, Nat.mod_lt _ (by decide)⟩ : Fin 128))

/-- The block of the gate's codes. -/
def gblk (x0 : Vec Ideal S1 .f32) (x2 : Vec Ideal S16x256x128 .f32) (x3 : Vec Ideal S256x2048 .f32) (x5 : Vec Ideal S1x2048 .f32) :
    Vec Ideal S256x2048 .fp8e4m3 :=
  fun j => gcode (fun k => yblk x2 (ix2 (j 0) k)) (fun k => x3 (ix2 (j 0) k)) (fun k => x5 (ix2 0 k)) (x0 (ix1 0)) (j 1)

/-- The block of the residual, from the block `g` of codes. -/
def hblk (x0 : Vec Ideal S1 .f32) (x4 : Vec Ideal S256x4096 .bf16) (g : Vec Ideal S256x2048 .fp8e4m3)
    (x6 : Vec Ideal S2048x4096 .fp8e4m3) (x7 : Vec Ideal S1x4096 .f32) : Vec Ideal S256x4096 .f32 :=
  fun j => hrow (x4 j) (fun k => g (ix2 (j 0) k)) (fun k => x6 (ix2 k (j 1))) (x0 (ix1 0)) (x7 (ix2 0 (j 1)))

/-- The block of the residual's codes, from the block `h` of the residual. -/
def fblk (x1 : Vec Ideal S1 .f32) (h : Vec Ideal S256x4096 .f32) (x8 : Vec Ideal S1x4096 .f32) : Vec Ideal S256x4096 .fp8e4m3 :=
  fun j => fcode (fun k => h (ix2 (j 0) k)) (fun k => x8 (ix2 0 k)) (x1 (ix1 0)) (j 1)

/-- Stores that together are `G` read back as `G`. -/
theorem readCov_of_pieces {sp : Space} {s : Shape} {e : EltTy} (v : View sig .tc sp s e) (G : s.Idx → Elt Ideal e)
    (L : List (View.Piece (Elt Ideal) s e)) (hG : View.PiecesOf G L) (hc : ∀ y : s.Idx, ∃ p ∈ L, y ∈ p.1.set) (B : LoadRect s) :
    v.readCov L B = fun j => G (B.idx j) := by
  rw [View.readCov_eq_canon']
  funext j
  exact View.canon_apply_of_pieces G L (fun p hp => View.PiecesOf.mem hG p hp) _ (hc _)

/-- The word a scalar load reads. -/
abbrev word {m : Memref sig .tc .smem S1 .f32} (h : m.IsWhole) (x : Vec Ideal S1 .f32) : Elt Ideal .f32 :=
  View.readAt (Elt Ideal) m.view (Rect.unit ![0] ![1] inb_S1_S1_0).toLoadRect (h.unread x) (Shape.Idx.first (by decide))

theorem word_eq {m : Memref sig .tc .smem S1 .f32} (h : m.IsWhole) (x : Vec Ideal S1 .f32) : word h x = x (ix1 0) := by
  unfold word
  rw [h.readAt_unread]
  congr 1
  funext a
  fin_cases a
  exact Fin.ext (by simp [LoadRect.idx, Rect.unit]; rfl)

/-- A matrix read through a rectangle. -/
theorem ld2 {A B : ℕ} {e : EltTy} {m : Memref sig .tc .vmem ⟨2, ![A, B]⟩ e} (h : m.IsWhole) (x : Vec Ideal ⟨2, ![A, B]⟩ e)
    (r0 c0 n k : ℕ) (hb : ∀ a, (![r0, c0] : Fin 2 → ℕ) a + (![n, k] : Fin 2 → ℕ) a ≤ (⟨2, ![A, B]⟩ : Shape).size a) (p : Fin n) (q : Fin k) (p' : Fin A) (q' : Fin B)
    (hp : p'.val = r0 + p.val) (hq : q'.val = c0 + q.val) :
    View.readAt (Elt Ideal) m.view (Rect.unit (s := ⟨2, ![A, B]⟩) ![r0, c0] ![n, k] hb).toLoadRect (h.unread x) (ix2 p q) = x (ix2 p' q') := by
  rw [h.readAt_unread]
  congr 1
  funext a
  fin_cases a <;> refine Fin.ext ?_ <;> simp [LoadRect.idx, Rect.unit, hp, hq]

section Tiles

variable {arg1 : Memref sig .tc .smem S1 .f32} (harg1 : arg1.IsWhole) {arg2 : Memref sig .tc .smem S1 .f32} (harg2 : arg2.IsWhole)
  {arg3 : Memref sig .tc .vmem S16x256x128 .f32} (harg3 : arg3.IsWhole)
  {arg4 : Memref sig .tc .vmem S256x2048 .f32} (harg4 : arg4.IsWhole)
  {arg5 : Memref sig .tc .vmem S256x4096 .bf16} (harg5 : arg5.IsWhole)
  {arg6 : Memref sig .tc .vmem S1x2048 .f32} (harg6 : arg6.IsWhole)
  {arg7 : Memref sig .tc .vmem S2048x4096 .fp8e4m3} (harg7 : arg7.IsWhole)
  {arg8 : Memref sig .tc .vmem S1x4096 .f32} (harg8 : arg8.IsWhole)
  {arg9 : Memref sig .tc .vmem S1x4096 .f32} (harg9 : arg9.IsWhole)
  (x0 x1 : Vec Ideal S1 .f32) (x2 : Vec Ideal S16x256x128 .f32) (x3 : Vec Ideal S256x2048 .f32) (x4 : Vec Ideal S256x4096 .bf16)
  (x5 : Vec Ideal S1x2048 .f32) (x6 : Vec Ideal S2048x4096 .fp8e4m3) (x7 x8 : Vec Ideal S1x4096 .f32)

/-- 32 rows of plane `p`, from row `r0`. -/
abbrev plane (p r0 : ℕ) (h : ∀ a, (![p, r0, 0] : Fin 3 → ℕ) a + S1x32x128.size a ≤ S16x256x128.size a) : Vec Ideal S1x32x128 .f32 :=
  View.readAt (Elt Ideal) arg3.view (Rect.unit (s := S16x256x128) ![p, r0, 0] S1x32x128.size h).toLoadRect (harg3.unread x2)

theorem plane_apply (p r0 : ℕ) (h : ∀ a, (![p, r0, 0] : Fin 3 → ℕ) a + S1x32x128.size a ≤ S16x256x128.size a) (a : Fin 32) (b : Fin 128)
    (p' : Fin 16) (a' : Fin 256) (hp : p'.val = p) (ha : a'.val = r0 + a.val) :
    plane harg3 x2 p r0 h (ix3 (0 : Fin 1) a b) = x2 (ix3 p' a' b) := by
  unfold plane
  rw [harg3.readAt_unread]
  congr 1
  funext d
  fin_cases d <;> refine Fin.ext ?_ <;> simp [LoadRect.idx, Rect.unit, hp, ha]

section Planes

variable (p0 r0 : ℕ)
  (hp0 : ∀ a, (![p0, r0, 0] : Fin 3 → ℕ) a + S1x32x128.size a ≤ S16x256x128.size a)
  (hp1 : ∀ a, (![p0 + 1, r0, 0] : Fin 3 → ℕ) a + S1x32x128.size a ≤ S16x256x128.size a)
  (hp2 : ∀ a, (![p0 + 2, r0, 0] : Fin 3 → ℕ) a + S1x32x128.size a ≤ S16x256x128.size a)
  (hp3 : ∀ a, (![p0 + 3, r0, 0] : Fin 3 → ℕ) a + S1x32x128.size a ≤ S16x256x128.size a)
  (hp4 : ∀ a, (![p0 + 4, r0, 0] : Fin 3 → ℕ) a + S1x32x128.size a ≤ S16x256x128.size a)
  (hp5 : ∀ a, (![p0 + 5, r0, 0] : Fin 3 → ℕ) a + S1x32x128.size a ≤ S16x256x128.size a)
  (hp6 : ∀ a, (![p0 + 6, r0, 0] : Fin 3 → ℕ) a + S1x32x128.size a ≤ S16x256x128.size a)
  (hp7 : ∀ a, (![p0 + 7, r0, 0] : Fin 3 → ℕ) a + S1x32x128.size a ≤ S16x256x128.size a)

/-- Eight planes side by side are 1024 channels of the block. -/
theorem y_core (y : S32x1024.Idx) (z : S256x2048.Idx) (hz0 : (z 0).val = r0 + (y 0).val) (hz1 : (z 1).val = 128 * p0 + (y 1).val) :
    k0_pay2 (F := Ideal) (plane harg3 x2 (p0) r0 hp0) (plane harg3 x2 (p0 + 1) r0 hp1) (plane harg3 x2 (p0 + 2) r0 hp2) (plane harg3 x2 (p0 + 3) r0 hp3) (plane harg3 x2 (p0 + 4) r0 hp4) (plane harg3 x2 (p0 + 5) r0 hp5) (plane harg3 x2 (p0 + 6) r0 hp6) (plane harg3 x2 (p0 + 7) r0 hp7) y = yblk x2 z := by
  rw [pay2_apply]
  unfold yblk
  have hy : (y 1).val < 1024 := (y 1).isLt
  have hm : (z 1).val % 128 = (y 1).val % 128 := by omega
  have hd : (z 1).val / 128 = p0 + (y 1).val / 128 := by omega
  have hb : (⟨(z 1).val % 128, Nat.mod_lt _ (by decide)⟩ : Fin 128) = ⟨(y 1).val % 128, Nat.mod_lt _ (by decide)⟩ := Fin.ext hm
  rw [hb]
  have hq : (y 1).val / 128 < 8 := by omega
  generalize hqe : (⟨(y 1).val / 128, hq⟩ : Fin 8) = q
  have hqv : q.val = (y 1).val / 128 := by rw [← hqe]
  fin_cases q <;> exact plane_apply harg3 x2 _ r0 _ _ _ _ _ (by simp at hqv ⊢; omega) hz0

/-- A tile of the block of `y`. -/
theorem y_tile (c0 : ℕ) (hc0 : c0 = 128 * p0) (ho : ∀ a, (![r0, c0] : Fin 2 → ℕ) a + S32x1024.size a ≤ S256x2048.size a) (y : S32x1024.Idx) :
    k0_pay3 (F := Ideal) (plane harg3 x2 (p0) r0 hp0) (plane harg3 x2 (p0 + 1) r0 hp1) (plane harg3 x2 (p0 + 2) r0 hp2) (plane harg3 x2 (p0 + 3) r0 hp3) (plane harg3 x2 (p0 + 4) r0 hp4) (plane harg3 x2 (p0 + 5) r0 hp5) (plane harg3 x2 (p0 + 6) r0 hp6) (plane harg3 x2 (p0 + 7) r0 hp7) y = yblk x2 ((Rect.unit (s := S256x2048) ![r0, c0] S32x1024.size ho).emb y) :=
  y_core harg3 x2 p0 r0 hp0 hp1 hp2 hp3 hp4 hp5 hp6 hp7 y _ (by simp [Rect.emb, LoadRect.idx, Rect.unit]) (by simp [Rect.emb, LoadRect.idx, Rect.unit, hc0])

/-- A tile of the block of the gate's codes. -/
theorem g_tile (c0 g : ℕ) (hc0 : c0 = 128 * p0) (hg : c0 = 1024 * g)
    (hz : ∀ a, (![r0, c0] : Fin 2 → ℕ) a + S32x1024.size a ≤ S256x2048.size a)
    (hw : ∀ a, (![0, c0] : Fin 2 → ℕ) a + S1x1024.size a ≤ S1x2048.size a)
    (ho : ∀ a, (![r0, c0] : Fin 2 → ℕ) a + S32x1024.size a ≤ S256x2048.size a) (y : S32x1024.Idx) :
    k0_pay6 (F := Ideal) (word harg1 x0) (k0_pay2 (F := Ideal) (plane harg3 x2 (p0) r0 hp0) (plane harg3 x2 (p0 + 1) r0 hp1) (plane harg3 x2 (p0 + 2) r0 hp2) (plane harg3 x2 (p0 + 3) r0 hp3) (plane harg3 x2 (p0 + 4) r0 hp4) (plane harg3 x2 (p0 + 5) r0 hp5) (plane harg3 x2 (p0 + 6) r0 hp6) (plane harg3 x2 (p0 + 7) r0 hp7))
        (View.readAt (Elt Ideal) arg4.view (Rect.unit (s := S256x2048) ![r0, c0] S32x1024.size hz).toLoadRect (harg4.unread x3))
        (k0_pay4 (F := Ideal) (View.readAt (Elt Ideal) arg4.view (Rect.unit (s := S256x2048) ![r0, c0] S32x1024.size hz).toLoadRect (harg4.unread x3)))
        (k0_pay5 (F := Ideal))
        (View.readAt (Elt Ideal) arg6.view (Rect.unit (s := S1x2048) ![0, c0] S1x1024.size hw).toLoadRect (harg6.unread x5)) y
      = gblk x0 x2 x3 x5 ((Rect.unit (s := S256x2048) ![r0, c0] S32x1024.size ho).emb y) := by
  rw [pay6_apply, word_eq]
  have hy : (y 1).val < 1024 := (y 1).isLt
  have h0 : (((Rect.unit (s := S256x2048) ![r0, c0] S32x1024.size ho).emb y) 0).val = r0 + (y 0).val := by simp [Rect.emb, LoadRect.idx, Rect.unit]
  have h1 : (((Rect.unit (s := S256x2048) ![r0, c0] S32x1024.size ho).emb y) 1).val = c0 + (y 1).val := by simp [Rect.emb, LoadRect.idx, Rect.unit]
  generalize ((Rect.unit (s := S256x2048) ![r0, c0] S32x1024.size ho).emb y) = z at h0 h1
  unfold gblk gcode
  have hl : (⟨(z 1).val % 1024, Nat.mod_lt _ (by decide)⟩ : Fin 1024) = y 1 := Fin.ext (by show (z 1).val % 1024 = (y 1).val; omega)
  have hk : ∀ k : Fin 1024, (inGroup (z 1) k).val = c0 + k.val := fun k => by
    show 1024 * ((z 1).val / 1024) + k.val = c0 + k.val
    omega
  rw [hl]
  congr 1
  · funext k
    rw [y_core harg3 x2 p0 r0 hp0 hp1 hp2 hp3 hp4 hp5 hp6 hp7 (ix2 (y 0) k) (ix2 (z 0) (inGroup (z 1) k)) h0 (by rw [← hc0]; exact hk k)]
    rw [ld2 harg4 x3 r0 c0 32 1024 hz (y 0) k (z 0) (inGroup (z 1) k) h0 (hk k)]
  · exact ld2 harg6 x5 0 c0 1 1024 hw 0 (y 1) 0 (z 1) rfl h1

end Planes

/-- A tile of the block of the residual. -/
theorem h_tile (c0 : ℕ) (g : Vec Ideal S256x2048 .fp8e4m3) (gl : Vec Ideal S256x2048 .fp8e4m3) (hg : gl = g)
    (hx : ∀ a, (![0, c0] : Fin 2 → ℕ) a + S256x256.size a ≤ S256x4096.size a)
    (hw : ∀ a, (![0, c0] : Fin 2 → ℕ) a + S2048x256.size a ≤ S2048x4096.size a)
    (hs : ∀ a, (![0, c0] : Fin 2 → ℕ) a + S1x256.size a ≤ S1x4096.size a)
    (ho : ∀ a, (![0, c0] : Fin 2 → ℕ) a + S256x256.size a ≤ S256x4096.size a) (y : S256x256.Idx) :
    k0_pay114 (F := Ideal) (word harg1 x0)
        (View.readAt (Elt Ideal) arg5.view (Rect.unit (s := S256x4096) ![0, c0] S256x256.size hx).toLoadRect (harg5.unread x4)) gl
        (View.readAt (Elt Ideal) arg7.view (Rect.unit (s := S2048x4096) ![0, c0] S2048x256.size hw).toLoadRect (harg7.unread x6))
        (View.readAt (Elt Ideal) arg8.view (Rect.unit (s := S1x4096) ![0, c0] S1x256.size hs).toLoadRect (harg8.unread x7)) y
      = hblk x0 x4 g x6 x7 ((Rect.unit (s := S256x4096) ![0, c0] S256x256.size ho).emb y) := by
  subst hg
  rw [pay114_apply, word_eq]
  have h0 : (((Rect.unit (s := S256x4096) ![0, c0] S256x256.size ho).emb y) 0) = y 0 := Fin.ext (by simp [Rect.emb, LoadRect.idx, Rect.unit])
  have h1 : (((Rect.unit (s := S256x4096) ![0, c0] S256x256.size ho).emb y) 1).val = c0 + (y 1).val := by simp [Rect.emb, LoadRect.idx, Rect.unit]
  generalize ((Rect.unit (s := S256x4096) ![0, c0] S256x256.size ho).emb y) = z at h0 h1
  unfold hblk
  rw [h0]
  congr 1
  · rw [show y = ix2 (y 0) (y 1) from by funext a; fin_cases a <;> rfl, show z = ix2 (z 0) (z 1) from by funext a; fin_cases a <;> rfl]
    exact ld2 harg5 x4 0 c0 256 256 hx (y 0) (y 1) (z 0) (z 1) (by rw [h0]; exact (Nat.zero_add _).symm) h1
  · funext k
    exact ld2 harg7 x6 0 c0 2048 256 hw k (y 1) k (z 1) (Nat.zero_add _).symm h1
  · exact ld2 harg8 x7 0 c0 1 256 hs 0 (y 1) 0 (z 1) rfl h1

/-- A tile of the block of the residual's codes. -/
theorem f_tile (r0 : ℕ) (h : Vec Ideal S256x4096 .f32) (hr : ∀ a, (![r0, 0] : Fin 2 → ℕ) a + S32x4096.size a ≤ S256x4096.size a)
    (v : Vec Ideal S32x4096 .f32) (hv : v = fun j => h ((Rect.unit (s := S256x4096) ![r0, 0] S32x4096.size hr).toLoadRect.idx j))
    (hw : ∀ a, (![0, 0] : Fin 2 → ℕ) a + S1x4096.size a ≤ S1x4096.size a)
    (ho : ∀ a, (![r0, 0] : Fin 2 → ℕ) a + S32x4096.size a ≤ S256x4096.size a) (y : S32x4096.Idx) :
    k0_pay146 (F := Ideal) (word harg2 x1) v
        (View.readAt (Elt Ideal) arg9.view (Rect.unit (s := S1x4096) ![0, 0] S1x4096.size hw).toLoadRect (harg9.unread x8)) y
      = fblk x1 h x8 ((Rect.unit (s := S256x4096) ![r0, 0] S32x4096.size ho).emb y) := by
  subst hv
  rw [pay146_apply, word_eq]
  have h0 : (((Rect.unit (s := S256x4096) ![r0, 0] S32x4096.size ho).emb y) 0).val = r0 + (y 0).val := by simp [Rect.emb, LoadRect.idx, Rect.unit]
  have h1 : (((Rect.unit (s := S256x4096) ![r0, 0] S32x4096.size ho).emb y) 1) = y 1 := Fin.ext (by simp [Rect.emb, LoadRect.idx, Rect.unit])
  generalize ((Rect.unit (s := S256x4096) ![r0, 0] S32x4096.size ho).emb y) = z at h0 h1
  unfold fblk
  rw [h1]
  congr 1
  · funext k
    show h _ = h _
    congr 1
    funext a
    fin_cases a <;> refine Fin.ext ?_ <;> simp [LoadRect.idx, Rect.unit, h0]
  · funext k
    exact ld2 harg9 x8 0 0 1 4096 hw 0 k 0 k rfl (Nat.zero_add _).symm

end Tiles

end Cert.OutProjIdeal.Gen

end
-- ==== Proof.Out.Pieces.lean ====
module

public import proofs.«01_k».proof.Proof.Out.Run
public import proofs.«01_k».proof.Proof.Out.Block
public import Idealize.ShloMosaic.Lib.Ring
public import Idealize.ShloMosaic.Lib.Writes

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The four blocks the body leaves at one point. -/

section Pieces

variable (c : Dev nD) (i : grid0.Coords) (arg1 : Memref sig .tc .smem S1 .f32) (harg1 : arg1.IsWhole) (arg2 : Memref sig .tc .smem S1 .f32) (harg2 : arg2.IsWhole) (arg3 : Memref sig .tc .vmem S16x256x128 .f32) (harg3 : arg3.IsWhole) (arg4 : Memref sig .tc .vmem S256x2048 .f32) (harg4 : arg4.IsWhole) (arg5 : Memref sig .tc .vmem S256x4096 .bf16) (harg5 : arg5.IsWhole) (arg6 : Memref sig .tc .vmem S1x2048 .f32) (harg6 : arg6.IsWhole) (arg7 : Memref sig .tc .vmem S2048x4096 .fp8e4m3) (harg7 : arg7.IsWhole) (arg8 : Memref sig .tc .vmem S1x4096 .f32) (harg8 : arg8.IsWhole) (arg9 : Memref sig .tc .vmem S1x4096 .f32) (harg9 : arg9.IsWhole) (arg10 : Memref sig .tc .vmem S256x2048 .bf16) (harg10 : arg10.IsWhole) (arg11 : Memref sig .tc .vmem S256x2048 .fp8e4m3) (harg11 : arg11.IsWhole) (arg12 : Memref sig .tc .vmem S256x4096 .f32) (harg12 : arg12.IsWhole) (arg13 : Memref sig .tc .vmem S256x4096 .fp8e4m3) (harg13 : arg13.IsWhole)
  (x0 : Vec Ideal S1 .f32) (x1 : Vec Ideal S1 .f32) (x2 : Vec Ideal S16x256x128 .f32) (x3 : Vec Ideal S256x2048 .f32) (x4 : Vec Ideal S256x4096 .bf16) (x5 : Vec Ideal S1x2048 .f32) (x6 : Vec Ideal S2048x4096 .fp8e4m3) (x7 : Vec Ideal S1x4096 .f32) (x8 : Vec Ideal S1x4096 .f32)

theorem runO_y_pieces : View.PiecesOf (yblk x2) (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 :=
  ⟨fun y => y_tile harg3 x2 8 224 _ _ _ _ _ _ _ _ 1024 rfl inb_S256x2048_S32x1024_224_1024 y,
    fun y => y_tile harg3 x2 0 224 _ _ _ _ _ _ _ _ 0 rfl inb_S256x2048_S32x1024_224_0 y,
    fun y => y_tile harg3 x2 8 192 _ _ _ _ _ _ _ _ 1024 rfl inb_S256x2048_S32x1024_192_1024 y,
    fun y => y_tile harg3 x2 0 192 _ _ _ _ _ _ _ _ 0 rfl inb_S256x2048_S32x1024_192_0 y,
    fun y => y_tile harg3 x2 8 160 _ _ _ _ _ _ _ _ 1024 rfl inb_S256x2048_S32x1024_160_1024 y,
    fun y => y_tile harg3 x2 0 160 _ _ _ _ _ _ _ _ 0 rfl inb_S256x2048_S32x1024_160_0 y,
    fun y => y_tile harg3 x2 8 128 _ _ _ _ _ _ _ _ 1024 rfl inb_S256x2048_S32x1024_128_1024 y,
    fun y => y_tile harg3 x2 0 128 _ _ _ _ _ _ _ _ 0 rfl inb_S256x2048_S32x1024_128_0 y,
    fun y => y_tile harg3 x2 8 96 _ _ _ _ _ _ _ _ 1024 rfl inb_S256x2048_S32x1024_96_1024 y,
    fun y => y_tile harg3 x2 0 96 _ _ _ _ _ _ _ _ 0 rfl inb_S256x2048_S32x1024_96_0 y,
    fun y => y_tile harg3 x2 8 64 _ _ _ _ _ _ _ _ 1024 rfl inb_S256x2048_S32x1024_64_1024 y,
    fun y => y_tile harg3 x2 0 64 _ _ _ _ _ _ _ _ 0 rfl inb_S256x2048_S32x1024_64_0 y,
    fun y => y_tile harg3 x2 8 32 _ _ _ _ _ _ _ _ 1024 rfl inb_S256x2048_S32x1024_32_1024 y,
    fun y => y_tile harg3 x2 0 32 _ _ _ _ _ _ _ _ 0 rfl inb_S256x2048_S32x1024_32_0 y,
    fun y => y_tile harg3 x2 8 0 _ _ _ _ _ _ _ _ 1024 rfl inb_S256x2048_S32x1024_0_1024 y,
    fun y => y_tile harg3 x2 0 0 _ _ _ _ _ _ _ _ 0 rfl inb_S256x2048_S32x1024_0_0 y, trivial⟩

theorem runO_y_cover (y : S256x2048.Idx) : ∃ p ∈ (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1, y ∈ p.1.set :=
  View.cover_of_tiledBy _ ![32, 1024] (by sl_kernel_rfl) y

theorem runO_g_pieces : View.PiecesOf (gblk x0 x2 x3 x5) (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 :=
  ⟨fun y => g_tile harg1 harg3 harg4 harg6 x0 x2 x3 x5 8 224 _ _ _ _ _ _ _ _ 1024 1 rfl rfl _ _ inb_S256x2048_S32x1024_224_1024 y,
    fun y => g_tile harg1 harg3 harg4 harg6 x0 x2 x3 x5 0 224 _ _ _ _ _ _ _ _ 0 0 rfl rfl _ _ inb_S256x2048_S32x1024_224_0 y,
    fun y => g_tile harg1 harg3 harg4 harg6 x0 x2 x3 x5 8 192 _ _ _ _ _ _ _ _ 1024 1 rfl rfl _ _ inb_S256x2048_S32x1024_192_1024 y,
    fun y => g_tile harg1 harg3 harg4 harg6 x0 x2 x3 x5 0 192 _ _ _ _ _ _ _ _ 0 0 rfl rfl _ _ inb_S256x2048_S32x1024_192_0 y,
    fun y => g_tile harg1 harg3 harg4 harg6 x0 x2 x3 x5 8 160 _ _ _ _ _ _ _ _ 1024 1 rfl rfl _ _ inb_S256x2048_S32x1024_160_1024 y,
    fun y => g_tile harg1 harg3 harg4 harg6 x0 x2 x3 x5 0 160 _ _ _ _ _ _ _ _ 0 0 rfl rfl _ _ inb_S256x2048_S32x1024_160_0 y,
    fun y => g_tile harg1 harg3 harg4 harg6 x0 x2 x3 x5 8 128 _ _ _ _ _ _ _ _ 1024 1 rfl rfl _ _ inb_S256x2048_S32x1024_128_1024 y,
    fun y => g_tile harg1 harg3 harg4 harg6 x0 x2 x3 x5 0 128 _ _ _ _ _ _ _ _ 0 0 rfl rfl _ _ inb_S256x2048_S32x1024_128_0 y,
    fun y => g_tile harg1 harg3 harg4 harg6 x0 x2 x3 x5 8 96 _ _ _ _ _ _ _ _ 1024 1 rfl rfl _ _ inb_S256x2048_S32x1024_96_1024 y,
    fun y => g_tile harg1 harg3 harg4 harg6 x0 x2 x3 x5 0 96 _ _ _ _ _ _ _ _ 0 0 rfl rfl _ _ inb_S256x2048_S32x1024_96_0 y,
    fun y => g_tile harg1 harg3 harg4 harg6 x0 x2 x3 x5 8 64 _ _ _ _ _ _ _ _ 1024 1 rfl rfl _ _ inb_S256x2048_S32x1024_64_1024 y,
    fun y => g_tile harg1 harg3 harg4 harg6 x0 x2 x3 x5 0 64 _ _ _ _ _ _ _ _ 0 0 rfl rfl _ _ inb_S256x2048_S32x1024_64_0 y,
    fun y => g_tile harg1 harg3 harg4 harg6 x0 x2 x3 x5 8 32 _ _ _ _ _ _ _ _ 1024 1 rfl rfl _ _ inb_S256x2048_S32x1024_32_1024 y,
    fun y => g_tile harg1 harg3 harg4 harg6 x0 x2 x3 x5 0 32 _ _ _ _ _ _ _ _ 0 0 rfl rfl _ _ inb_S256x2048_S32x1024_32_0 y,
    fun y => g_tile harg1 harg3 harg4 harg6 x0 x2 x3 x5 8 0 _ _ _ _ _ _ _ _ 1024 1 rfl rfl _ _ inb_S256x2048_S32x1024_0_1024 y,
    fun y => g_tile harg1 harg3 harg4 harg6 x0 x2 x3 x5 0 0 _ _ _ _ _ _ _ _ 0 0 rfl rfl _ _ inb_S256x2048_S32x1024_0_0 y, trivial⟩

theorem runO_g_cover (y : S256x2048.Idx) : ∃ p ∈ (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1, y ∈ p.1.set :=
  View.cover_of_tiledBy _ ![32, 1024] (by sl_kernel_rfl) y

/-- The codes of the gate as the projection reads them back. -/
theorem g_read (h : ∀ a, (![0, 0] : Fin 2 → ℕ) a + S256x2048.size a ≤ S256x2048.size a) :
    arg11.view.readCov (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 (Rect.unit (s := S256x2048) ![0, 0] S256x2048.size h).toLoadRect = gblk x0 x2 x3 x5 := by
  rw [readCov_of_pieces arg11.view (gblk x0 x2 x3 x5) _ (runO_g_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) (runO_g_cover c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  funext j
  congr 1
  funext a
  fin_cases a <;> exact Fin.ext (by simp [LoadRect.idx, Rect.unit])

theorem runO_h_pieces : View.PiecesOf (hblk x0 x4 (gblk x0 x2 x3 x5) x6 x7) (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 :=
  have hg := g_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 inb_S256x2048_S256x2048_0_0
  ⟨fun y => h_tile harg1 harg5 harg7 harg8 x0 x4 x6 x7 3840 _ _ hg _ _ _ inb_S256x4096_S256x256_0_3840 y,
    fun y => h_tile harg1 harg5 harg7 harg8 x0 x4 x6 x7 3584 _ _ hg _ _ _ inb_S256x4096_S256x256_0_3584 y,
    fun y => h_tile harg1 harg5 harg7 harg8 x0 x4 x6 x7 3328 _ _ hg _ _ _ inb_S256x4096_S256x256_0_3328 y,
    fun y => h_tile harg1 harg5 harg7 harg8 x0 x4 x6 x7 3072 _ _ hg _ _ _ inb_S256x4096_S256x256_0_3072 y,
    fun y => h_tile harg1 harg5 harg7 harg8 x0 x4 x6 x7 2816 _ _ hg _ _ _ inb_S256x4096_S256x256_0_2816 y,
    fun y => h_tile harg1 harg5 harg7 harg8 x0 x4 x6 x7 2560 _ _ hg _ _ _ inb_S256x4096_S256x256_0_2560 y,
    fun y => h_tile harg1 harg5 harg7 harg8 x0 x4 x6 x7 2304 _ _ hg _ _ _ inb_S256x4096_S256x256_0_2304 y,
    fun y => h_tile harg1 harg5 harg7 harg8 x0 x4 x6 x7 2048 _ _ hg _ _ _ inb_S256x4096_S256x256_0_2048 y,
    fun y => h_tile harg1 harg5 harg7 harg8 x0 x4 x6 x7 1792 _ _ hg _ _ _ inb_S256x4096_S256x256_0_1792 y,
    fun y => h_tile harg1 harg5 harg7 harg8 x0 x4 x6 x7 1536 _ _ hg _ _ _ inb_S256x4096_S256x256_0_1536 y,
    fun y => h_tile harg1 harg5 harg7 harg8 x0 x4 x6 x7 1280 _ _ hg _ _ _ inb_S256x4096_S256x256_0_1280 y,
    fun y => h_tile harg1 harg5 harg7 harg8 x0 x4 x6 x7 1024 _ _ hg _ _ _ inb_S256x4096_S256x256_0_1024 y,
    fun y => h_tile harg1 harg5 harg7 harg8 x0 x4 x6 x7 768 _ _ hg _ _ _ inb_S256x4096_S256x256_0_768 y,
    fun y => h_tile harg1 harg5 harg7 harg8 x0 x4 x6 x7 512 _ _ hg _ _ _ inb_S256x4096_S256x256_0_512 y,
    fun y => h_tile harg1 harg5 harg7 harg8 x0 x4 x6 x7 256 _ _ hg _ _ _ inb_S256x4096_S256x256_0_256 y,
    fun y => h_tile harg1 harg5 harg7 harg8 x0 x4 x6 x7 0 _ _ hg _ _ _ inb_S256x4096_S256x256_0_0 y, trivial⟩

theorem runO_h_cover (y : S256x4096.Idx) : ∃ p ∈ (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1, y ∈ p.1.set :=
  View.cover_of_tiledBy _ ![256, 256] (by sl_kernel_rfl) y

/-- The residual as the second norm reads it back. -/
theorem h_read (B : LoadRect S256x4096) :
    arg12.view.readCov (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 B = fun j => hblk x0 x4 (gblk x0 x2 x3 x5) x6 x7 (B.idx j) :=
  readCov_of_pieces arg12.view _ _ (runO_h_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) (runO_h_cover c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) B

theorem runO_f_pieces : View.PiecesOf (fblk x1 (hblk x0 x4 (gblk x0 x2 x3 x5) x6 x7) x8) (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.2.1 :=
  have hh := h_read c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
  ⟨fun y => f_tile harg2 harg9 x1 x8 224 _ inb_S256x4096_S32x4096_224_0 _ (hh _) _ inb_S256x4096_S32x4096_224_0 y,
    fun y => f_tile harg2 harg9 x1 x8 192 _ inb_S256x4096_S32x4096_192_0 _ (hh _) _ inb_S256x4096_S32x4096_192_0 y,
    fun y => f_tile harg2 harg9 x1 x8 160 _ inb_S256x4096_S32x4096_160_0 _ (hh _) _ inb_S256x4096_S32x4096_160_0 y,
    fun y => f_tile harg2 harg9 x1 x8 128 _ inb_S256x4096_S32x4096_128_0 _ (hh _) _ inb_S256x4096_S32x4096_128_0 y,
    fun y => f_tile harg2 harg9 x1 x8 96 _ inb_S256x4096_S32x4096_96_0 _ (hh _) _ inb_S256x4096_S32x4096_96_0 y,
    fun y => f_tile harg2 harg9 x1 x8 64 _ inb_S256x4096_S32x4096_64_0 _ (hh _) _ inb_S256x4096_S32x4096_64_0 y,
    fun y => f_tile harg2 harg9 x1 x8 32 _ inb_S256x4096_S32x4096_32_0 _ (hh _) _ inb_S256x4096_S32x4096_32_0 y,
    fun y => f_tile harg2 harg9 x1 x8 0 _ inb_S256x4096_S32x4096_0_0 _ (hh _) _ inb_S256x4096_S32x4096_0_0 y, trivial⟩

theorem runO_f_cover (y : S256x4096.Idx) : ∃ p ∈ (runO (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.2.1, y ∈ p.1.set :=
  View.cover_of_tiledBy _ ![32, 4096] (by sl_kernel_rfl) y

end Pieces

end Cert.OutProjIdeal.Gen
-- ==== Proof.Out.Frame.lean ====
module

public import proofs.«01_k».proof.Proof.Out.Inputs
public import proofs.«01_k».proof.Proof.Out.Pieces
public import Idealize.ShloMosaic.Lib.Claim

@[expose] public section

set_option maxRecDepth 16384

noncomputable section

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-! ## The blocks are row by row -/

theorem gblk_row (x0 : Vec Ideal S1 .f32) (x2 : Vec Ideal S16x256x128 .f32) (x3 x3' : Vec Ideal S256x2048 .f32) (x5 : Vec Ideal S1x2048 .f32)
    (j : S256x2048.Idx) (h : ∀ k : Fin 2048, x3 (ix2 (j 0) k) = x3' (ix2 (j 0) k)) : gblk x0 x2 x3 x5 j = gblk x0 x2 x3' x5 j := by
  unfold gblk; rw [funext h]

theorem hblk_row (x0 : Vec Ideal S1 .f32) (x4 x4' : Vec Ideal S256x4096 .bf16) (g g' : Vec Ideal S256x2048 .fp8e4m3)
    (x6 : Vec Ideal S2048x4096 .fp8e4m3) (x7 : Vec Ideal S1x4096 .f32) (j : S256x4096.Idx) (hx : x4 j = x4' j)
    (hg : ∀ k : Fin 2048, g (ix2 (j 0) k) = g' (ix2 (j 0) k)) : hblk x0 x4 g x6 x7 j = hblk x0 x4' g' x6 x7 j := by
  unfold hblk; rw [hx, funext hg]

theorem fblk_row (x1 : Vec Ideal S1 .f32) (h h' : Vec Ideal S256x4096 .f32) (x8 : Vec Ideal S1x4096 .f32) (j : S256x4096.Idx)
    (hh : ∀ k : Fin 4096, h (ix2 (j 0) k) = h' (ix2 (j 0) k)) : fblk x1 h x8 j = fblk x1 h' x8 j := by
  unfold fblk; rw [funext hh]

/-! ## The proof data -/

/-- The blocks stored at point `t`. -/
def yAt (c : Dev nD) (t : Fin cfg0.N) : Vec Ideal S256x2048 .bf16 := yblk (X0_2 m c t)
def gAt (c : Dev nD) (t : Fin cfg0.N) : Vec Ideal S256x2048 .fp8e4m3 := gblk (iblk m c 0 t) (X0_2 m c t) (X0_3 m c t) (iblk m c 5 t)
def hAt (c : Dev nD) (t : Fin cfg0.N) : Vec Ideal S256x4096 .f32 := hblk (iblk m c 0 t) (X0_4 m c t) (gAt m c t) (iblk m c 6 t) (iblk m c 7 t)
def fAt (c : Dev nD) (t : Fin cfg0.N) : Vec Ideal S256x4096 .fp8e4m3 := fblk (iblk m c 1 t) (hAt m c t) (iblk m c 8 t)

/-- The proof data: the arrays as the region finds them; after the body at point `t` each input's buffer at its block and
    each output's at the block stored. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => yAt m c t
    | ⟨10, _⟩ => gAt m c t
    | ⟨11, _⟩ => hAt m c t
    | ⟨12, _⟩ => fAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = yAt m c t := by dsimp only [dats]
theorem after0_10 (c : Dev nD) (t : Fin cfg0.N) : (dats m 0 c).after 10 t = gAt m c t := by dsimp only [dats]
theorem after0_11 (c : Dev nD) (t : Fin cfg0.N) : (dats m 0 c).after 11 t = hAt m c t := by dsimp only [dats]
theorem after0_12 (c : Dev nD) (t : Fin cfg0.N) : (dats m 0 c).after 12 t = fAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = (cfg0.win 3).fill (cfg0.grid.coords t) d (iblk m c 3 t) :=
  before0_3_of m (dats m 0 c) (A_eq m c 3) (after0_3 m c) t d
theorem before0_4 (c : Dev nD) (t : Fin cfg0.N) (d) : (dats m 0 c).before 4 t d = (cfg0.win 4).fill (cfg0.grid.coords t) d (iblk m c 4 t) :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns: each buffer as the proof data says on the part that is moved. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

/-- A buffer that agrees with `X` on the part moved is `X`'s part filled up with itself. -/
theorem fill_of_moved (w : Pipeline.Window sig grid0) (i : grid0.Coords) (Z X : w.block.Idx → Elt Ideal w.elt)
    (h : ∀ j, w.moved i j = true → Z j = X j) : Z = w.fill i Z (w.cut i X) := by
  funext j
  by_cases hm : w.moved i j = true
  · rw [h j hm]
    exact congrFun (w.fill_cut i X) j |>.symm.trans (by unfold Pipeline.Window.fill; rw [dif_pos hm, dif_pos hm])
  · rw [w.fill_of_not_moved i Z _ hm]

/-- On the rows of the arrays the blocks do not depend on what lies below the inputs' rows. -/
theorem g_moved (c : Dev nD) (t : Fin cfg0.N) (d3) (j : S256x2048.Idx) (h : (j 0).val < rows t.val) :
    gblk (iblk m c 0 t) (X0_2 m c t) ((cfg0.win 3).fill (cfg0.grid.coords t) d3 (iblk m c 3 t)) (iblk m c 5 t) j = gAt m c t j :=
  gblk_row _ _ _ _ _ j fun k => fill0_3 m c t d3 (ix2 (j 0) k) h

theorem h_moved (c : Dev nD) (t : Fin cfg0.N) (d3 d4) (j : S256x4096.Idx) (h : (j 0).val < rows t.val) :
    hblk (iblk m c 0 t) ((cfg0.win 4).fill (cfg0.grid.coords t) d4 (iblk m c 4 t)) (gblk (iblk m c 0 t) (X0_2 m c t) ((cfg0.win 3).fill (cfg0.grid.coords t) d3 (iblk m c 3 t)) (iblk m c 5 t)) (iblk m c 6 t) (iblk m c 7 t) j = hAt m c t j :=
  hblk_row _ _ _ _ _ _ _ j (fill0_4 m c t d4 j h) fun k => g_moved m c t d3 (ix2 (j 0) k) h

theorem f_moved (c : Dev nD) (t : Fin cfg0.N) (d3 d4) (j : S256x4096.Idx) (h : (j 0).val < rows t.val) :
    fblk (iblk m c 1 t) (hblk (iblk m c 0 t) ((cfg0.win 4).fill (cfg0.grid.coords t) d4 (iblk m c 4 t)) (gblk (iblk m c 0 t) (X0_2 m c t) ((cfg0.win 3).fill (cfg0.grid.coords t) d3 (iblk m c 3 t)) (iblk m c 5 t)) (iblk m c 6 t) (iblk m c 7 t)) (iblk m c 8 t) j = fAt m c t j :=
  fblk_row _ _ _ _ j fun k => h_moved m c t d3 d4 (ix2 (j 0) k) h

set_option maxHeartbeats 1600000 in
/-- The body at point `t`. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.succ = (dats m 0 c).Φ t.castSucc from rfl]
  rw [show (dats m 0 c).leaves 0 t = owns (c : Thread nD τ) (ms0_0 t) fullShare ((dats m 0 c).after 0 t) from rfl, after0_0]
  rw [show (dats m 0 c).leaves 1 t = owns (c : Thread nD τ) (ms0_1 t) fullShare ((dats m 0 c).after 1 t) from rfl, after0_1]
  rw [show (dats m 0 c).leaves 2 t = iprop(∃ d, owns (c : Thread nD τ) (ms0_2 t) fullShare ((cfg0.win 2).fill (cfg0.grid.coords t) d ((cfg0.win 2).cut (cfg0.grid.coords t) ((dats m 0 c).after 2 t)))) from rfl, after0_2]
  rw [show (dats m 0 c).leaves 3 t = iprop(∃ d, owns (c : Thread nD τ) (ms0_3 t) fullShare ((cfg0.win 3).fill (cfg0.grid.coords t) d ((cfg0.win 3).cut (cfg0.grid.coords t) ((dats m 0 c).after 3 t)))) from rfl, after0_3]
  rw [show (dats m 0 c).leaves 4 t = iprop(∃ d, owns (c : Thread nD τ) (ms0_4 t) fullShare ((cfg0.win 4).fill (cfg0.grid.coords t) d ((cfg0.win 4).cut (cfg0.grid.coords t) ((dats m 0 c).after 4 t)))) from rfl, after0_4]
  rw [show (dats m 0 c).leaves 5 t = owns (c : Thread nD τ) (ms0_5 t) fullShare ((dats m 0 c).after 5 t) from rfl, after0_5]
  rw [show (dats m 0 c).leaves 6 t = owns (c : Thread nD τ) (ms0_6 t) fullShare ((dats m 0 c).after 6 t) from rfl, after0_6]
  rw [show (dats m 0 c).leaves 7 t = owns (c : Thread nD τ) (ms0_7 t) fullShare ((dats m 0 c).after 7 t) from rfl, after0_7]
  rw [show (dats m 0 c).leaves 8 t = owns (c : Thread nD τ) (ms0_8 t) fullShare ((dats m 0 c).after 8 t) from rfl, after0_8]
  rw [show (dats m 0 c).leaves 9 t = iprop(∃ d, owns (c : Thread nD τ) (ms0_9 t) fullShare ((cfg0.win 9).fill (cfg0.grid.coords t) d ((cfg0.win 9).cut (cfg0.grid.coords t) ((dats m 0 c).after 9 t)))) from rfl, after0_9]
  rw [show (dats m 0 c).leaves 10 t = iprop(∃ d, owns (c : Thread nD τ) (ms0_10 t) fullShare ((cfg0.win 10).fill (cfg0.grid.coords t) d ((cfg0.win 10).cut (cfg0.grid.coords t) ((dats m 0 c).after 10 t)))) from rfl, after0_10]
  rw [show (dats m 0 c).leaves 11 t = iprop(∃ d, owns (c : Thread nD τ) (ms0_11 t) fullShare ((cfg0.win 11).fill (cfg0.grid.coords t) d ((cfg0.win 11).cut (cfg0.grid.coords t) ((dats m 0 c).after 11 t)))) from rfl, after0_11]
  rw [show (dats m 0 c).leaves 12 t = iprop(∃ d, owns (c : Thread nD τ) (ms0_12 t) fullShare ((cfg0.win 12).fill (cfg0.grid.coords t) d ((cfg0.win 12).cut (cfg0.grid.coords t) ((dats m 0 c).after 12 t)))) from rfl, after0_12]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runO (F := Ideal) c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, ⟨%f9, H9⟩, ⟨%f10, H10⟩, ⟨%f11, H11⟩, ⟨%f12, H12⟩⟩
  isplitl [Hp]; · iexact Hp
  isplitl [Ho]; · iexact Ho
  isplitl [H0]; · iexact H0
  isplitl [H1]; · iexact H1
  isplitl [H2]; · iexists (X0_2 m c t); rw [Pipeline.Window.fill_cut]; iexact H2
  isplitl [H3]; · iexists d3; unfold X0_3; rw [Pipeline.Window.cut_fill]; iexact H3
  isplitl [H4]; · iexists d4; unfold X0_4; rw [Pipeline.Window.cut_fill]; iexact H4
  isplitl [H5]; · iexact H5
  isplitl [H6]; · iexact H6
  isplitl [H7]; · iexact H7
  isplitl [H8]; · iexact H8
  isplitl [H9]
  · iexists (yblk (X0_2 m c t))
    unfold owns
    iexists _
    isplitr
    on_goal 2 => iexact H9
    ipureintro
    rw [← fill_of_moved win0_9 (grid0.coords t) (yblk (X0_2 m c t)) (yAt m c t) (fun _ _ => rfl)]
    funext y
    exact View.read_writes_apply_of_pieces _ f9 _ _ (fun p hp => View.PiecesOf.mem (runO_y_pieces c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t)) p hp) y
      (runO_y_cover c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t) y)
  isplitl [H10]
  · iexists (gblk (iblk m c 0 t) (X0_2 m c t) ((cfg0.win 3).fill (cfg0.grid.coords t) d3 (iblk m c 3 t)) (iblk m c 5 t))
    unfold owns
    iexists _
    isplitr
    on_goal 2 => iexact H10
    ipureintro
    rw [← fill_of_moved win0_10 (grid0.coords t) (gblk (iblk m c 0 t) (X0_2 m c t) ((cfg0.win 3).fill (cfg0.grid.coords t) d3 (iblk m c 3 t)) (iblk m c 5 t)) (gAt m c t) (fun j hj => g_moved m c t d3 j ((moved0_10 t j).mp hj))]
    funext y
    exact View.read_writes_apply_of_pieces _ f10 _ _ (fun p hp => View.PiecesOf.mem (runO_g_pieces c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t)) p hp) y
      (runO_g_cover c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t) y)
  isplitl [H11]
  · iexists (hblk (iblk m c 0 t) ((cfg0.win 4).fill (cfg0.grid.coords t) d4 (iblk m c 4 t)) (gblk (iblk m c 0 t) (X0_2 m c t) ((cfg0.win 3).fill (cfg0.grid.coords t) d3 (iblk m c 3 t)) (iblk m c 5 t)) (iblk m c 6 t) (iblk m c 7 t))
    unfold owns
    iexists _
    isplitr
    on_goal 2 => iexact H11
    ipureintro
    rw [← fill_of_moved win0_11 (grid0.coords t) (hblk (iblk m c 0 t) ((cfg0.win 4).fill (cfg0.grid.coords t) d4 (iblk m c 4 t)) (gblk (iblk m c 0 t) (X0_2 m c t) ((cfg0.win 3).fill (cfg0.grid.coords t) d3 (iblk m c 3 t)) (iblk m c 5 t)) (iblk m c 6 t) (iblk m c 7 t)) (hAt m c t) (fun j hj => h_moved m c t d3 d4 j ((moved0_11 t j).mp hj))]
    funext y
    exact View.read_writes_apply_of_pieces _ f11 _ _ (fun p hp => View.PiecesOf.mem (runO_h_pieces c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t)) p hp) y
      (runO_h_cover c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t) y)
  · iexists (fblk (iblk m c 1 t) (hblk (iblk m c 0 t) ((cfg0.win 4).fill (cfg0.grid.coords t) d4 (iblk m c 4 t)) (gblk (iblk m c 0 t) (X0_2 m c t) ((cfg0.win 3).fill (cfg0.grid.coords t) d3 (iblk m c 3 t)) (iblk m c 5 t)) (iblk m c 6 t) (iblk m c 7 t)) (iblk m c 8 t))
    unfold owns
    iexists _
    isplitr
    on_goal 2 => iexact H12
    ipureintro
    rw [← fill_of_moved win0_12 (grid0.coords t) (fblk (iblk m c 1 t) (hblk (iblk m c 0 t) ((cfg0.win 4).fill (cfg0.grid.coords t) d4 (iblk m c 4 t)) (gblk (iblk m c 0 t) (X0_2 m c t) ((cfg0.win 3).fill (cfg0.grid.coords t) d3 (iblk m c 3 t)) (iblk m c 5 t)) (iblk m c 6 t) (iblk m c 7 t)) (iblk m c 8 t)) (fAt m c t) (fun j hj => f_moved m c t d3 d4 j ((moved0_12 t j).mp hj))]
    funext y
    exact View.read_writes_apply_of_pieces _ f12 _ _ (fun p hp => View.PiecesOf.mem (runO_f_pieces c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t)) p hp) y
      (runO_f_cover c (grid0.coords t) _ _ _ _ _ _ _ _ _ _ _ _ _ _ _ _ _ _ _ _ _ _ _ _ _ _ (iblk m c 0 t) (iblk m c 1 t) (X0_2 m c t) ((cfg0.win 3).fill (cfg0.grid.coords t) d3 (iblk m c 3 t)) ((cfg0.win 4).fill (cfg0.grid.coords t) d4 (iblk m c 4 t)) (iblk m c 5 t) (iblk m c 6 t) (iblk m c 7 t) (iblk m c 8 t) y)

/-- The body obligation, at every point. -/
theorem body_obligation (c : Dev nD) : Pipeline.BodyObligationLoose (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every weakly fair execution terminates with every array of the pipeline at what the proof data says and every
    semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)
    (hQ' := fun _ h => h)

theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: the run ends, the arguments are as they were and every semaphore is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.OutProjIdeal.Gen
-- ==== Proof.Out.Spec.lean ====
module

public import proofs.«01_k».proof.Proof.Out.Rows

/-!
  The four results of the output projection as formulas over plain functions: no program is mentioned here.
-/

@[expose] public section

noncomputable section

namespace Cert.OutRows

open Idealize.ShloMosaic

variable (y : Fin 16 → Fin 2176 → Fin 128 → EReal) (z : Fin 1980 → Fin 2048 → EReal) (x : Fin 1980 → Fin 4096 → EReal)
  (gw : Fin 2048 → EReal) (s : EReal) (w : Fin 2048 → Fin 4096 → EReal) (ws nw : Fin 4096 → EReal) (sf : EReal)

/-- `y` with its sixteen planes of 128 channels side by side, without the padding rows, -/
def yOut (r : Fin 1980) (c : Fin 2048) : EReal :=
  y ⟨c.val / 128, by omega⟩ ⟨r.val, by omega⟩ ⟨c.val % 128, Nat.mod_lt _ (by decide)⟩
/-- the codes of the gate, -/
def gOut (r : Fin 1980) (c : Fin 2048) : EReal := gcode (yOut y r) (z r) gw s c
/-- the residual, -/
def hOut (r : Fin 1980) (c : Fin 4096) : EReal := hrow (x r c) (gOut y z gw s r) (fun k => w k c) s (ws c)
/-- and its codes. -/
def fOut (r : Fin 1980) (c : Fin 4096) : EReal := fcode (hOut y z x gw s w ws r) nw sf c

end Cert.OutRows

end
-- ==== Proof.Out.Value.lean ====
module

public import proofs.«01_k».proof.Proof.Out.Frame
public import proofs.«01_k».proof.Proof.Out.Spec
public import Idealize.ShloMosaic.Lib.Pipeline.Value
public import Idealize.ShloMosaic.Lib.Pipeline.ValueKit.Geometry

/-!
  What the four result arrays of the tiled program hold after the run: block by block the rows of the formulas of
  `Spec.lean`, which are row by row formulas of the arguments.
-/

@[expose] public section

set_option maxRecDepth 16384

noncomputable section

namespace Cert.OutProjIdeal.Gen

open Idealize.ShloMosaic Idealize.ShloMosaic.TcCoe Idealize.ShloMosaic.Tactic
open Idealize.SL Idealize.SL.Sem
open Idealize.ShloMosaic.Pipeline (Dat Cfg Window)
open Cert.OutRows
open scoped BigOperators

variable (m : (ℓ : Loc nD τ sig) → Buf (Elt Ideal) ℓ) (ρ : Dev nD → PrngReg)

/-! ## Where the blocks lie -/

theorem idx0 : ∀ t : Fin cfg0.N, ∀ a, win0_0.index t a = 0 := (by decide +kernel : ∀ t : Fin grid0.N, ∀ a, win0_0.index t a = 0)
theorem idx1 : ∀ t : Fin cfg0.N, ∀ a, win0_1.index t a = 0 := (by decide +kernel : ∀ t : Fin grid0.N, ∀ a, win0_1.index t a = 0)
theorem idx2 : ∀ t : Fin cfg0.N, win0_2.index t 0 = 0 ∧ win0_2.index t 1 = t.val ∧ win0_2.index t 2 = 0 := (by decide +kernel : ∀ t : Fin grid0.N, win0_2.index t 0 = 0 ∧ win0_2.index t 1 = t.val ∧ win0_2.index t 2 = 0)
theorem idx3 : ∀ t : Fin cfg0.N, win0_3.index t 0 = t.val ∧ win0_3.index t 1 = 0 := (by decide +kernel : ∀ t : Fin grid0.N, win0_3.index t 0 = t.val ∧ win0_3.index t 1 = 0)
theorem idx4 : ∀ t : Fin cfg0.N, win0_4.index t 0 = t.val ∧ win0_4.index t 1 = 0 := (by decide +kernel : ∀ t : Fin grid0.N, win0_4.index t 0 = t.val ∧ win0_4.index t 1 = 0)
theorem idx5 : ∀ t : Fin cfg0.N, ∀ a, win0_5.index t a = 0 := (by decide +kernel : ∀ t : Fin grid0.N, ∀ a, win0_5.index t a = 0)
theorem idx6 : ∀ t : Fin cfg0.N, ∀ a, win0_6.index t a = 0 := (by decide +kernel : ∀ t : Fin grid0.N, ∀ a, win0_6.index t a = 0)
theorem idx7 : ∀ t : Fin cfg0.N, ∀ a, win0_7.index t a = 0 := (by decide +kernel : ∀ t : Fin grid0.N, ∀ a, win0_7.index t a = 0)
theorem idx8 : ∀ t : Fin cfg0.N, ∀ a, win0_8.index t a = 0 := (by decide +kernel : ∀ t : Fin grid0.N, ∀ a, win0_8.index t a = 0)
theorem idx9 : ∀ t : Fin cfg0.N, win0_9.index t 0 = t.val ∧ win0_9.index t 1 = 0 := (by decide +kernel : ∀ t : Fin grid0.N, win0_9.index t 0 = t.val ∧ win0_9.index t 1 = 0)
theorem idx10 : ∀ t : Fin cfg0.N, win0_10.index t 0 = t.val ∧ win0_10.index t 1 = 0 := (by decide +kernel : ∀ t : Fin grid0.N, win0_10.index t 0 = t.val ∧ win0_10.index t 1 = 0)
theorem idx11 : ∀ t : Fin cfg0.N, win0_11.index t 0 = t.val ∧ win0_11.index t 1 = 0 := (by decide +kernel : ∀ t : Fin grid0.N, win0_11.index t 0 = t.val ∧ win0_11.index t 1 = 0)
theorem idx12 : ∀ t : Fin cfg0.N, win0_12.index t 0 = t.val ∧ win0_12.index t 1 = 0 := (by decide +kernel : ∀ t : Fin grid0.N, win0_12.index t 0 = t.val ∧ win0_12.index t 1 = 0)

/-! ## The host's three reshapes -/

theorem V_main_v0 (c : Dev nD) (q : Fin 2048) : V m c main_v0 (ix2 0 q) = m ((c : Thread nD τ).loc main_arg3) (ix1 q) := by
  unfold_abbrev_sides
  after_results
  show shapeCast S1x2048 (m ((c : Thread nD τ).loc main_arg3) : S2048.Idx → EReal) shapeCasts_S2048_S1x2048 (ix2 0 q) = _
  simp only [pointwise]

theorem V_main_v1 (c : Dev nD) (q : Fin 4096) : V m c main_v1 (ix2 0 q) = m ((c : Thread nD τ).loc main_arg6) (ix1 q) := by
  unfold_abbrev_sides
  after_results
  show shapeCast S1x4096 (m ((c : Thread nD τ).loc main_arg6) : S4096.Idx → EReal) shapeCasts_S4096_S1x4096 (ix2 0 q) = _
  simp only [pointwise]

theorem V_main_v2 (c : Dev nD) (q : Fin 4096) : V m c main_v2 (ix2 0 q) = m ((c : Thread nD τ).loc main_arg7) (ix1 q) := by
  unfold_abbrev_sides
  after_results
  show shapeCast S1x4096 (m ((c : Thread nD τ).loc main_arg7) : S4096.Idx → EReal) shapeCasts_S4096_S1x4096 (ix2 0 q) = _
  simp only [pointwise]

/-! ## The blocks' contents -/

theorem iblk0_eq (c : Dev nD) (t : Fin cfg0.N) : iblk m c 0 t = V m c main_arg4 := by
  funext j
  show V m c main_arg4 (((cfg0.win 0).blk t).view.emb j) = V m c main_arg4 j
  congr 1
  have h0 := idx0 t
  funext a
  refine Fin.ext ?_
  show win0_0.index t a * win0_0.size a + 1 * (j a).val = (j a).val
  rw [h0]
  omega

theorem iblk1_eq (c : Dev nD) (t : Fin cfg0.N) : iblk m c 1 t = V m c main_arg8 := by
  funext j
  show V m c main_arg8 (((cfg0.win 1).blk t).view.emb j) = V m c main_arg8 j
  congr 1
  have h0 := idx1 t
  funext a
  refine Fin.ext ?_
  show win0_1.index t a * win0_1.size a + 1 * (j a).val = (j a).val
  rw [h0]
  omega

theorem iblk5_eq (c : Dev nD) (t : Fin cfg0.N) : iblk m c 5 t = V m c main_v0 := by
  funext j
  show V m c main_v0 (((cfg0.win 5).blk t).view.emb j) = V m c main_v0 j
  congr 1
  have h0 := idx5 t
  funext a
  refine Fin.ext ?_
  show win0_5.index t a * win0_5.size a + 1 * (j a).val = (j a).val
  rw [h0]
  omega

theorem iblk6_eq (c : Dev nD) (t : Fin cfg0.N) : iblk m c 6 t = V m c main_arg5 := by
  funext j
  show V m c main_arg5 (((cfg0.win 6).blk t).view.emb j) = V m c main_arg5 j
  congr 1
  have h0 := idx6 t
  funext a
  refine Fin.ext ?_
  show win0_6.index t a * win0_6.size a + 1 * (j a).val = (j a).val
  rw [h0]
  omega

theorem iblk7_eq (c : Dev nD) (t : Fin cfg0.N) : iblk m c 7 t = V m c main_v1 := by
  funext j
  show V m c main_v1 (((cfg0.win 7).blk t).view.emb j) = V m c main_v1 j
  congr 1
  have h0 := idx7 t
  funext a
  refine Fin.ext ?_
  show win0_7.index t a * win0_7.size a + 1 * (j a).val = (j a).val
  rw [h0]
  omega

theorem iblk8_eq (c : Dev nD) (t : Fin cfg0.N) : iblk m c 8 t = V m c main_v2 := by
  funext j
  show V m c main_v2 (((cfg0.win 8).blk t).view.emb j) = V m c main_v2 j
  congr 1
  have h0 := idx8 t
  funext a
  refine Fin.ext ?_
  show win0_8.index t a * win0_8.size a + 1 * (j a).val = (j a).val
  rw [h0]
  omega

theorem X3_apply (c : Dev nD) (t : Fin cfg0.N) (r : Fin 256) (k : Fin 2048) (R : Fin 1980) (hR : R.val = 256 * t.val + r.val) :
    X0_3 m c t (ix2 r k) = V m c main_arg1 (ix2 R k) := by
  unfold X0_3 Pipeline.Window.fill
  rw [dif_pos ((moved0_3 t (ix2 r k)).mpr (by unfold rows; show r.val < _; have := R.isLt; have := r.isLt; omega))]
  show V m c main_arg1 (((cfg0.win 3).blk t).view.emb _) = _
  congr 1
  have h := idx3 t
  funext a
  refine Fin.ext ?_
  show win0_3.index t a * win0_3.size a + 1 * ((ix2 r k : S256x2048.Idx) a).val = _
  fin_cases a
  · show win0_3.index t 0 * 256 + 1 * r.val = R.val
    rw [h.1]; omega
  · show win0_3.index t 1 * 2048 + 1 * k.val = k.val
    rw [h.2]; omega

theorem X4_apply (c : Dev nD) (t : Fin cfg0.N) (r : Fin 256) (k : Fin 4096) (R : Fin 1980) (hR : R.val = 256 * t.val + r.val) :
    X0_4 m c t (ix2 r k) = V m c main_arg2 (ix2 R k) := by
  unfold X0_4 Pipeline.Window.fill
  rw [dif_pos ((moved0_4 t (ix2 r k)).mpr (by unfold rows; show r.val < _; have := R.isLt; have := r.isLt; omega))]
  show V m c main_arg2 (((cfg0.win 4).blk t).view.emb _) = _
  congr 1
  have h := idx4 t
  funext a
  refine Fin.ext ?_
  show win0_4.index t a * win0_4.size a + 1 * ((ix2 r k : S256x4096.Idx) a).val = _
  fin_cases a
  · show win0_4.index t 0 * 256 + 1 * r.val = R.val
    rw [h.1]; omega
  · show win0_4.index t 1 * 4096 + 1 * k.val = k.val
    rw [h.2]; omega

theorem X2_apply (c : Dev nD) (t : Fin cfg0.N) (p : Fin 16) (r : Fin 256) (q : Fin 128) (R : Fin 2176) (hR : R.val = 256 * t.val + r.val) :
    X0_2 m c t (ix3 p r q) = V m c main_arg0 (ix3 p R q) := by
  unfold X0_2 Pipeline.Window.fill
  rw [dif_pos (moved0_2 t (ix3 p r q))]
  show V m c main_arg0 (((cfg0.win 2).blk t).view.emb _) = _
  congr 1
  have h := idx2 t
  funext a
  refine Fin.ext ?_
  show win0_2.index t a * win0_2.size a + 1 * ((ix3 p r q : S16x256x128.Idx) a).val = _
  fin_cases a
  · show win0_2.index t 0 * 16 + 1 * p.val = p.val
    rw [h.1]; omega
  · show win0_2.index t 1 * 256 + 1 * r.val = R.val
    rw [h.2.1]; omega
  · show win0_2.index t 2 * 128 + 1 * q.val = q.val
    rw [h.2.2]; omega

/-! ## The four results -/

/-- The results as formulas of the arguments: `y`, -/
def yOf (c : Dev nD) : Vec Ideal S1980x2048 .bf16 := fun j => yOut (fun p r q => m ((c : Thread nD τ).loc main_arg0) (ix3 p r q)) (j 0) (j 1)
/-- the codes of the gate, -/
def gOf (c : Dev nD) : Vec Ideal S1980x2048 .fp8e4m3 := fun j =>
  gOut (fun p r q => m ((c : Thread nD τ).loc main_arg0) (ix3 p r q)) (fun r k => m ((c : Thread nD τ).loc main_arg1) (ix2 r k))
    (fun q => m ((c : Thread nD τ).loc main_arg3) (ix1 q)) (m ((c : Thread nD τ).loc main_arg4) (ix1 0)) (j 0) (j 1)
/-- the residual, -/
def hOf (c : Dev nD) : Vec Ideal S1980x4096 .f32 := fun j =>
  hOut (fun p r q => m ((c : Thread nD τ).loc main_arg0) (ix3 p r q)) (fun r k => m ((c : Thread nD τ).loc main_arg1) (ix2 r k)) (fun r k => m ((c : Thread nD τ).loc main_arg2) (ix2 r k))
    (fun q => m ((c : Thread nD τ).loc main_arg3) (ix1 q)) (m ((c : Thread nD τ).loc main_arg4) (ix1 0)) (fun r k => m ((c : Thread nD τ).loc main_arg5) (ix2 r k)) (fun q => m ((c : Thread nD τ).loc main_arg6) (ix1 q)) (j 0) (j 1)
/-- and its codes. -/
def fOf (c : Dev nD) : Vec Ideal S1980x4096 .fp8e4m3 := fun j =>
  fOut (fun p r q => m ((c : Thread nD τ).loc main_arg0) (ix3 p r q)) (fun r k => m ((c : Thread nD τ).loc main_arg1) (ix2 r k)) (fun r k => m ((c : Thread nD τ).loc main_arg2) (ix2 r k))
    (fun q => m ((c : Thread nD τ).loc main_arg3) (ix1 q)) (m ((c : Thread nD τ).loc main_arg4) (ix1 0)) (fun r k => m ((c : Thread nD τ).loc main_arg5) (ix2 r k)) (fun q => m ((c : Thread nD τ).loc main_arg6) (ix1 q)) (fun q => m ((c : Thread nD τ).loc main_arg7) (ix1 q)) (m ((c : Thread nD τ).loc main_arg8) (ix1 0)) (j 0) (j 1)

section Blocks

variable (c : Dev nD) (t : Fin cfg0.N) (r : Fin 256) (R : Fin 1980) (hR : R.val = 256 * t.val + r.val)

include hR

theorem yAt_apply (q : Fin 2048) : yAt m c t (ix2 r q) = yOf m c (ix2 R q) := by
  refine Eq.trans (b := V m c main_arg0 (ix3 (⟨q.val / 128, by omega⟩ : Fin 16) (⟨R.val, by omega⟩ : Fin 2176) (⟨q.val % 128, Nat.mod_lt _ (by decide)⟩ : Fin 128)))
    (X2_apply m c t _ r _ ⟨R.val, by omega⟩ hR) ?_
  rw [V_main_arg0]
  rfl

theorem gAt_apply (q : Fin 2048) : gAt m c t (ix2 r q) = gOf m c (ix2 R q) := by
  have hy : (fun k => yblk (X0_2 m c t) (ix2 r k)) = fun k => yOf m c (ix2 R k) := funext fun k => yAt_apply m c t r R hR k
  have hz : (fun k => X0_3 m c t (ix2 r k)) = fun k => m ((c : Thread nD τ).loc main_arg1) (ix2 R k) := funext fun k => by
    rw [X3_apply m c t r k R hR, V_main_arg1]
  have hw : (fun k : Fin 2048 => iblk m c 5 t (ix2 0 k)) = fun k => m ((c : Thread nD τ).loc main_arg3) (ix1 k) := funext fun k => by
    rw [iblk5_eq, V_main_v0]
  have hs : iblk m c 0 t (ix1 0) = m ((c : Thread nD τ).loc main_arg4) (ix1 0) := by rw [iblk0_eq, V_main_arg4]
  show gcode (fun k => yblk (X0_2 m c t) (ix2 r k)) (fun k => X0_3 m c t (ix2 r k)) (fun k => iblk m c 5 t (ix2 0 k)) (iblk m c 0 t (ix1 0)) q = _
  rw [hy, hz, hw, hs]
  rfl

theorem hAt_apply (q : Fin 4096) : hAt m c t (ix2 r q) = hOf m c (ix2 R q) := by
  have hg : (fun k => gAt m c t (ix2 r k)) = fun k => gOf m c (ix2 R k) := funext fun k => gAt_apply m c t r R hR k
  have hw : (fun k : Fin 2048 => iblk m c 6 t (ix2 k q)) = fun k => m ((c : Thread nD τ).loc main_arg5) (ix2 k q) := funext fun k => by
    rw [iblk6_eq, V_main_arg5]
  have hs : iblk m c 0 t (ix1 0) = m ((c : Thread nD τ).loc main_arg4) (ix1 0) := by rw [iblk0_eq, V_main_arg4]
  have hws : iblk m c 7 t (ix2 0 q) = m ((c : Thread nD τ).loc main_arg6) (ix1 q) := by rw [iblk7_eq, V_main_v1]
  show hrow (X0_4 m c t (ix2 r q)) (fun k => gAt m c t (ix2 r k)) (fun k => iblk m c 6 t (ix2 k q)) (iblk m c 0 t (ix1 0)) (iblk m c 7 t (ix2 0 q)) = _
  rw [hg, hw, hs, hws, X4_apply m c t r q R hR, V_main_arg2]
  rfl

theorem fAt_apply (q : Fin 4096) : fAt m c t (ix2 r q) = fOf m c (ix2 R q) := by
  have hh : (fun k => hAt m c t (ix2 r k)) = fun k => hOf m c (ix2 R k) := funext fun k => hAt_apply m c t r R hR k
  have hw : (fun k : Fin 4096 => iblk m c 8 t (ix2 0 k)) = fun k => m ((c : Thread nD τ).loc main_arg7) (ix1 k) := funext fun k => by
    rw [iblk8_eq, V_main_v2]
  have hs : iblk m c 1 t (ix1 0) = m ((c : Thread nD τ).loc main_arg8) (ix1 0) := by rw [iblk1_eq, V_main_arg8]
  show fcode (fun k => hAt m c t (ix2 r k)) (fun k => iblk m c 8 t (ix2 0 k)) (iblk m c 1 t (ix1 0)) q = _
  rw [hh, hw, hs]
  rfl

end Blocks

set_option maxHeartbeats 1000000 in
theorem final9 (c : Dev nD) : (dats m 0 c).arrAt 9 cfg0.N = yOf m c := by
  refine (dats m 0 c).arrAt_eq_of_covers 9 (yOf m c) (by decide +kernel) fun t _ y => ?_
  have h0 : ((((cfg0.win 9).blk t).view.emb y) 0).val = 256 * t.val + (y 0).val := by
    show win0_9.index t 0 * 256 + 1 * (y 0).val = _
    rw [(idx9 t).1]; omega
  have h1 : ((((cfg0.win 9).blk t).view.emb y) 1).val = (y 1).val := by
    show win0_9.index t 1 * 2048 + 1 * (y 1).val = _
    rw [(idx9 t).2]; omega
  have hy : (y 0).val < 256 := lt_of_lt_of_le (y 0).isLt ((cfg0.win 9).xsize_le (cfg0.grid.coords t) 0)
  have hy1 : (y 1).val < 2048 := lt_of_lt_of_le (y 1).isLt ((cfg0.win 9).xsize_le (cfg0.grid.coords t) 1)
  have key := yAt_apply m c t ⟨(y 0).val, hy⟩ ((((cfg0.win 9).blk t).view.emb y) 0) h0 ⟨(y 1).val, hy1⟩
  refine Eq.trans (b := yAt m c t (ix2 ⟨(y 0).val, hy⟩ ⟨(y 1).val, hy1⟩)) ?_ (key.trans ?_)
  · show (dats m 0 c).after 9 t _ = _
    rw [after0_9]
    congr 1
    funext a
    fin_cases a <;> rfl
  · congr 1
    funext a
    fin_cases a
    · rfl
    · exact Fin.ext h1.symm

set_option maxHeartbeats 1000000 in
theorem final10 (c : Dev nD) : (dats m 0 c).arrAt 10 cfg0.N = gOf m c := by
  refine (dats m 0 c).arrAt_eq_of_covers 10 (gOf m c) (by decide +kernel) fun t _ y => ?_
  have h0 : ((((cfg0.win 10).blk t).view.emb y) 0).val = 256 * t.val + (y 0).val := by
    show win0_10.index t 0 * 256 + 1 * (y 0).val = _
    rw [(idx10 t).1]; omega
  have h1 : ((((cfg0.win 10).blk t).view.emb y) 1).val = (y 1).val := by
    show win0_10.index t 1 * 2048 + 1 * (y 1).val = _
    rw [(idx10 t).2]; omega
  have hy : (y 0).val < 256 := lt_of_lt_of_le (y 0).isLt ((cfg0.win 10).xsize_le (cfg0.grid.coords t) 0)
  have hy1 : (y 1).val < 2048 := lt_of_lt_of_le (y 1).isLt ((cfg0.win 10).xsize_le (cfg0.grid.coords t) 1)
  have key := gAt_apply m c t ⟨(y 0).val, hy⟩ ((((cfg0.win 10).blk t).view.emb y) 0) h0 ⟨(y 1).val, hy1⟩
  refine Eq.trans (b := gAt m c t (ix2 ⟨(y 0).val, hy⟩ ⟨(y 1).val, hy1⟩)) ?_ (key.trans ?_)
  · show (dats m 0 c).after 10 t _ = _
    rw [after0_10]
    congr 1
    funext a
    fin_cases a <;> rfl
  · congr 1
    funext a
    fin_cases a
    · rfl
    · exact Fin.ext h1.symm

set_option maxHeartbeats 1000000 in
theorem final11 (c : Dev nD) : (dats m 0 c).arrAt 11 cfg0.N = hOf m c := by
  refine (dats m 0 c).arrAt_eq_of_covers 11 (hOf m c) (by decide +kernel) fun t _ y => ?_
  have h0 : ((((cfg0.win 11).blk t).view.emb y) 0).val = 256 * t.val + (y 0).val := by
    show win0_11.index t 0 * 256 + 1 * (y 0).val = _
    rw [(idx11 t).1]; omega
  have h1 : ((((cfg0.win 11).blk t).view.emb y) 1).val = (y 1).val := by
    show win0_11.index t 1 * 4096 + 1 * (y 1).val = _
    rw [(idx11 t).2]; omega
  have hy : (y 0).val < 256 := lt_of_lt_of_le (y 0).isLt ((cfg0.win 11).xsize_le (cfg0.grid.coords t) 0)
  have hy1 : (y 1).val < 4096 := lt_of_lt_of_le (y 1).isLt ((cfg0.win 11).xsize_le (cfg0.grid.coords t) 1)
  have key := hAt_apply m c t ⟨(y 0).val, hy⟩ ((((cfg0.win 11).blk t).view.emb y) 0) h0 ⟨(y 1).val, hy1⟩
  refine Eq.trans (b := hAt m c t (ix2 ⟨(y 0).val, hy⟩ ⟨(y 1).val, hy1⟩)) ?_ (key.trans ?_)
  · show (dats m 0 c).after 11 t _ = _
    rw [after0_11]
    congr 1
    funext a
    fin_cases a <;> rfl
  · congr 1
    funext a
    fin_cases a
    · rfl
    · exact Fin.ext h1.symm

set_option maxHeartbeats 1000000 in
theorem final12 (c : Dev nD) : (dats m 0 c).arrAt 12 cfg0.N = fOf m c := by
  refine (dats m 0 c).arrAt_eq_of_covers 12 (fOf m c) (by decide +kernel) fun t _ y => ?_
  have h0 : ((((cfg0.win 12).blk t).view.emb y) 0).val = 256 * t.val + (y 0).val := by
    show win0_12.index t 0 * 256 + 1 * (y 0).val = _
    rw [(idx12 t).1]; omega
  have h1 : ((((cfg0.win 12).blk t).view.emb y) 1).val = (y 1).val := by
    show win0_12.index t 1 * 4096 + 1 * (y 1).val = _
    rw [(idx12 t).2]; omega
  have hy : (y 0).val < 256 := lt_of_lt_of_le (y 0).isLt ((cfg0.win 12).xsize_le (cfg0.grid.coords t) 0)
  have hy1 : (y 1).val < 4096 := lt_of_lt_of_le (y 1).isLt ((cfg0.win 12).xsize_le (cfg0.grid.coords t) 1)
  have key := fAt_apply m c t ⟨(y 0).val, hy⟩ ((((cfg0.win 12).blk t).view.emb y) 0) h0 ⟨(y 1).val, hy1⟩
  refine Eq.trans (b := fAt m c t (ix2 ⟨(y 0).val, hy⟩ ⟨(y 1).val, hy1⟩)) ?_ (key.trans ?_)
  · show (dats m 0 c).after 12 t _ = _
    rw [after0_12]
    congr 1
    funext a
    fin_cases a <;> rfl
  · congr 1
    funext a
    fin_cases a
    · rfl
    · exact Fin.ext h1.symm

/-- The run, read. -/
theorem run : θ_run defs (onTc (τ := τ) (main (F := Ideal))) ⟨m, fun _ => 0, ρ⟩ fun r => ∀ c : Dev nD,
      r.2.mem ((c : Thread nD τ).loc main_v3_0) = yOf m c ∧ r.2.mem ((c : Thread nD τ).loc main_v3_1) = gOf m c
      ∧ r.2.mem ((c : Thread nD τ).loc main_v3_2) = hOf m c ∧ r.2.mem ((c : Thread nD τ).loc main_v3_3) = fOf m c :=
  (θ_run defs _ _).mono (fun _ h c => ⟨((h c).1 9).trans (final9 m c), ((h c).1 10).trans (final10 m c),
    ((h c).1 11).trans (final11 m c), ((h c).1 12).trans (final12 m c)⟩) (run_main m ρ)

end Cert.OutProjIdeal.Gen

end
-- ==== Proof.Out.RefTile.lean ====
module

public import proofs.«01_k».proof.Proof.Gen.OutProjRefIdeal.Skeleton
public import proofs.«01_k».proof.Proof.Out.Spec
public import Idealize.ShloMosaic.Lib.Pointwise
public import Idealize.ShloMosaic.Lib.ValueIdxCore
public import Idealize.ShloMosaic.Lib.Pipeline.Value

/-!
  The reference's steps element by element: sixteen planes side by side, the gate, its norm by halves, the projection with the
  residual, and the codes.
-/

@[expose] public section

set_option maxRecDepth 16384

noncomputable section

namespace Cert.OutProjRefIdeal.Gen

open Idealize.ShloMosaic Idealize.ShloMosaic.TcCoe Idealize.ShloMosaic.Tactic
open Idealize.SL Idealize.SL.Sem
open Idealize.ShloMosaic.Pipeline (Dat Cfg Window)
open Cert.OutRows
open scoped BigOperators

/-- Sixteen planes of 128 channels side by side. -/
theorem planes_apply (w0 w1 w2 w3 w4 w5 w6 w7 w8 w9 w10 w11 w12 w13 w14 w15 : Vec Ideal S1x1980x128 .f32) (y : S1980x2048.Idx) :
    k0_pay13 (F := Ideal) (k0_pay2 (F := Ideal) w0) (k0_pay3 (F := Ideal) w1) (k0_pay4 (F := Ideal) w2) (k0_pay5 (F := Ideal) w3) (k0_pay6 (F := Ideal) w4) (k0_pay7 (F := Ideal) w5) (k0_pay8 (F := Ideal) w6) (k0_pay9 (F := Ideal) w7) (k0_pay10 (F := Ideal) w8) (k0_pay11 (F := Ideal) w9) (k0_pay12 (F := Ideal) w10) w11 w12 w13 w14 w15 y
      = (![w0, w1, w2, w3, w4, w5, w6, w7, w8, w9, w10, w11, w12, w13, w14, w15] : Fin 16 → Vec Ideal S1x1980x128 .f32) ⟨(y 1).val / 128, by have := (y 1).isLt; change _ < 2048 at this; omega⟩
          (ix3 (0 : Fin 1) (y 0) ⟨(y 1).val % 128, Nat.mod_lt _ (by decide)⟩) := by
  unfold k0_pay13
  have hq : (y 1).val / 128 < 16 := by have := (y 1).isLt; change _ < 2048 at this; omega
  refine (Idealize.ShloMosaic.concatenate_ofFn_apply (1 : Fin S1980x2048.rank)
    (fun q : Fin 16 => (shapeCast S1980x128 ((![w0, w1, w2, w3, w4, w5, w6, w7, w8, w9, w10, w11, w12, w13, w14, w15] : Fin 16 → Vec Ideal S1x1980x128 .f32) q) shapeCasts_S1x1980x128_S1980x128 : FVec Ideal S1980x128 .f32))
    concatenates_S1980x128_S1980x128_S1980x128_S1980x128_S1980x128_S1980x128_S1980x128_S1980x128_S1980x128_S1980x128_S1980x128_S1980x128_S1980x128_S1980x128_S1980x128_S1980x128_S1980x2048_d1 rfl 128 rfl y
    ⟨(y 1).val / 128, hq⟩ rfl (ix2 (y 0) ⟨(y 1).val % 128, Nat.mod_lt _ (by decide)⟩) rfl ?_).trans ?_
  · intro b hb
    fin_cases b
    · rfl
    · exact absurd rfl hb
  · pointwise

section Gate

variable (v3 v5 v7 v9 v11 v13 v15 v17 v19 v21 v23 : FVec Ideal S1980x128 .f32) (v24 v26 v28 v30 v32 : Vec Ideal S1x1980x128 .f32) (z : Vec Ideal S1980x2048 .f32)

theorem gate_apply (y : S1980x2048.Idx) :
    k0_pay15 (F := Ideal) v3 v5 v7 v9 v11 v13 v15 v17 v19 v21 v23 v24 v26 v28 v30 v32 z y = k0_pay13 (F := Ideal) v3 v5 v7 v9 v11 v13 v15 v17 v19 v21 v23 v24 v26 v28 v30 v32 y * silu (z y) := by
  rw [← silu_eq]
  rfl

/-- One channel of a group over the group's root mean square. -/
def normed (u : FVec Ideal S1980x2048 .f32) (g : Fin 2) : FVec Ideal S1980x1024 .f32 := fun y =>
  Ideal.div (u (ix2 (y 0) ⟨1024 * g.val + (y 1).val, by have := (y 1).isLt; change _ < 1024 at this; omega⟩))
    (rms (Ideal.ofBits FTy.f32 1149239296#32) fun k : Fin 1024 => u (ix2 (y 0) ⟨1024 * g.val + k.val, by omega⟩))

theorem slice_apply (y : S1980x1024.Idx) : k0_pay16 (F := Ideal) v3 v5 v7 v9 v11 v13 v15 v17 v19 v21 v23 v24 v26 v28 v30 v32 z y
    = k0_pay15 (F := Ideal) v3 v5 v7 v9 v11 v13 v15 v17 v19 v21 v23 v24 v26 v28 v30 v32 z (ix2 (y 0) ⟨1024 + (y 1).val, by have := (y 1).isLt; change _ < 1024 at this; omega⟩) := by
  unfold k0_pay16
  generalize k0_pay15 (F := Ideal) v3 v5 v7 v9 v11 v13 v15 v17 v19 v21 v23 v24 v26 v28 v30 v32 z = u
  show u _ = u _
  congr 1
  funext a
  fin_cases a <;> refine Fin.ext ?_ <;> simp

theorem first_apply : k0_pay17 (F := Ideal) v3 v5 v7 v9 v11 v13 v15 v17 v19 v21 v23 v24 v26 v28 v30 v32 z = normed (k0_pay15 (F := Ideal) v3 v5 v7 v9 v11 v13 v15 v17 v19 v21 v23 v24 v26 v28 v30 v32 z) 0 := by
  unfold k0_pay17
  generalize k0_pay15 (F := Ideal) v3 v5 v7 v9 v11 v13 v15 v17 v19 v21 v23 v24 v26 v28 v30 v32 z = u
  have e : ∀ y : S1980x1024.Idx, extractStridedSlice S1980x1024 ![0, 0] u slices_S1980x2048_o0_0_S1980x1024 y
      = u (ix2 (y 0) ⟨(y 1).val, by have := (y 1).isLt; change _ < 1024 at this; omega⟩) := fun y => by
    show u _ = u _
    congr 1
    funext a
    fin_cases a <;> refine Fin.ext ?_ <;> simp
  generalize extractStridedSlice S1980x1024 ![0, 0] u slices_S1980x2048_o0_0_S1980x1024 = w at e
  funext y
  unfold normed rms
  refine Eq.trans (b := Ideal.div (w y) (Ideal.sqrt (Ideal.div (∑ k : Fin 1024, w (ix2 (y 0) k) * w (ix2 (y 0) k)) (Ideal.ofBits FTy.f32 1149239296#32) + Ideal.ofBits FTy.f32 925353388#32))) ?_ ?_
  · pointwise
  · have h0 : ∀ (r : Fin 1980) (k : Fin 1024), u (ix2 r ⟨1024 * (0 : Fin 2).val + k.val, by have := k.isLt; change 1024 * 0 + k.val < 2048; omega⟩)
        = u (ix2 r ⟨k.val, by omega⟩) := fun r k => congrArg (fun q => u (ix2 r q)) (Fin.ext (Nat.zero_add _))
    have h1 := fun k => h0 (y 0) k
    refine Eq.symm (Eq.trans (congrArg₂ Ideal.div (h0 (y 0) (y 1)) rfl) ?_)
    simp only [h1, e]
    rfl

theorem mean_apply (y : S1980x1.Idx) : k0_pay18 (F := Ideal) v3 v5 v7 v9 v11 v13 v15 v17 v19 v21 v23 v24 v26 v28 v30 v32 z y
    = Ideal.div (∑ k : Fin 1024, k0_pay16 (F := Ideal) v3 v5 v7 v9 v11 v13 v15 v17 v19 v21 v23 v24 v26 v28 v30 v32 z (ix2 (y 0) k) * k0_pay16 (F := Ideal) v3 v5 v7 v9 v11 v13 v15 v17 v19 v21 v23 v24 v26 v28 v30 v32 z (ix2 (y 0) k)) (Ideal.ofBits FTy.f32 1149239296#32) := by
  unfold k0_pay18
  generalize k0_pay16 (F := Ideal) v3 v5 v7 v9 v11 v13 v15 v17 v19 v21 v23 v24 v26 v28 v30 v32 z = w
  pointwise

/-- The codes of the gate from its two normed halves. -/
theorem halves_apply (s : Elt Ideal .f32) (v42 v52 : FVec Ideal S1980x1024 .f32) (v57 : FVec Ideal S1980x1 .f32) (gw : Vec Ideal S1x2048 .f32)
    (u : FVec Ideal S1980x2048 .f32) (h0 : v52 = normed u 0)
    (h1 : ∀ y : S1980x1024.Idx, Ideal.div (v42 y) (Ideal.sqrt (v57 (ix2 (y 0) 0) + Ideal.ofBits FTy.f32 925353388#32)) = normed u 1 y) (y : S1980x2048.Idx) :
    k0_pay20 (F := Ideal) s v42 v52 v57 (k0_pay19 (F := Ideal)) gw y
      = clip8 (Ideal.div (normed u ⟨(y 1).val / 1024, by have := (y 1).isLt; change _ < 2048 at this; omega⟩
          (ix2 (y 0) ⟨(y 1).val % 1024, Nat.mod_lt _ (by decide)⟩) * gw (ix2 0 (y 1))) s) := by
  subst h0
  have hq : (y 1).val / 1024 < 2 := by have := (y 1).isLt; change _ < 2048 at this; omega
  have e : divf v42 (broadcastTo S1980x1024 (sqrt (addf v57 (k0_pay19 (F := Ideal)))) broadcasts_S1980x1_S1980x1024) = normed u 1 := by
    funext y
    rw [← h1]
    unfold k0_pay19
    pointwise
  unfold k0_pay20
  dsimp only
  rw [e]
  have hc := Idealize.ShloMosaic.concatenate_ofFn_apply (1 : Fin S1980x2048.rank) (fun q : Fin 2 => (normed u q : FVec Ideal S1980x1024 .f32))
    concatenates_S1980x1024_S1980x1024_S1980x2048_d1 rfl 1024 rfl y ⟨(y 1).val / 1024, hq⟩ rfl (ix2 (y 0) ⟨(y 1).val % 1024, Nat.mod_lt _ (by decide)⟩) rfl (by
      intro b hb
      fin_cases b
      · rfl
      · exact absurd rfl hb)
  rw [← hc]
  show _ = clip8 (Ideal.div (concatenate S1980x2048 1 [⟨S1980x1024, normed u 0⟩, ⟨S1980x1024, normed u 1⟩] concatenates_S1980x1024_S1980x1024_S1980x2048_d1 y * gw (ix2 0 (y 1))) s)
  generalize concatenate S1980x2048 1 [⟨S1980x1024, normed u 0⟩, ⟨S1980x1024, normed u 1⟩] concatenates_S1980x1024_S1980x1024_S1980x2048_d1 = n
  unfold clip8
  pointwise

/-- The codes of the gate. -/
theorem codes_apply (s : Elt Ideal .f32) (gw : Vec Ideal S1x2048 .f32) (y : S1980x2048.Idx) :
    k0_pay20 (F := Ideal) s (k0_pay16 (F := Ideal) v3 v5 v7 v9 v11 v13 v15 v17 v19 v21 v23 v24 v26 v28 v30 v32 z) (k0_pay17 (F := Ideal) v3 v5 v7 v9 v11 v13 v15 v17 v19 v21 v23 v24 v26 v28 v30 v32 z) (k0_pay18 (F := Ideal) v3 v5 v7 v9 v11 v13 v15 v17 v19 v21 v23 v24 v26 v28 v30 v32 z) (k0_pay19 (F := Ideal)) gw y
      = gcode (fun k => k0_pay13 (F := Ideal) v3 v5 v7 v9 v11 v13 v15 v17 v19 v21 v23 v24 v26 v28 v30 v32 (ix2 (y 0) k)) (fun k => z (ix2 (y 0) k)) (fun k => gw (ix2 0 k)) s (y 1) := by
  rw [halves_apply s _ _ _ gw (k0_pay15 (F := Ideal) v3 v5 v7 v9 v11 v13 v15 v17 v19 v21 v23 v24 v26 v28 v30 v32 z) (first_apply ..) (fun y => by
    rw [mean_apply]
    simp only [slice_apply]
    rfl) y]
  unfold gcode ncode normed rms
  simp only [gate_apply]
  have hm : (⟨1024 * ((y 1).val / 1024) + (y 1).val % 1024, by have := (y 1).isLt; change _ < 2048 at this; omega⟩ : Fin 2048) = y 1 :=
    Fin.ext (Nat.div_add_mod _ _)
  rfl

end Gate

/-- The residual, from the codes. -/
theorem resid_apply (s : Elt Ideal .f32) (v42 v52 : FVec Ideal S1980x1024 .f32) (v57 v58 : FVec Ideal S1980x1 .f32) (gw : Vec Ideal S1x2048 .f32)
    (x : Vec Ideal S1980x4096 .bf16) (w : Vec Ideal S2048x4096 .fp8e4m3) (ws : Vec Ideal S1x4096 .f32) (y : S1980x4096.Idx) :
    k0_pay21 (F := Ideal) s v42 v52 v57 v58 gw x w ws y
      = hrow (x y) (fun k => k0_pay20 (F := Ideal) s v42 v52 v57 v58 gw (ix2 (y 0) k)) (fun k => w (ix2 k (y 1))) s (ws (ix2 0 (y 1))) := by
  unfold k0_pay21 hrow
  pointwise

/-- The residual's codes, from the residual. -/
theorem rcodes_apply (s sf : Elt Ideal .f32) (v42 v52 : FVec Ideal S1980x1024 .f32) (v57 v58 : FVec Ideal S1980x1 .f32) (gw : Vec Ideal S1x2048 .f32)
    (x : Vec Ideal S1980x4096 .bf16) (w : Vec Ideal S2048x4096 .fp8e4m3) (ws nw : Vec Ideal S1x4096 .f32) (y : S1980x4096.Idx) :
    k0_pay1 (F := Ideal) sf (k0_pay22 (F := Ideal) s v42 v52 v57 v58 gw x w ws) nw y
      = fcode (fun k => k0_pay21 (F := Ideal) s v42 v52 v57 v58 gw x w ws (ix2 (y 0) k)) (fun k => nw (ix2 0 k)) sf (y 1) := by
  unfold k0_pay1 k0_pay22 fcode ncode rms clip8
  generalize k0_pay21 (F := Ideal) s v42 v52 v57 v58 gw x w ws = h
  pointwise

end Cert.OutProjRefIdeal.Gen

end
-- ==== Proof.Out.RefValue.lean ====
module

public import proofs.«01_k».proof.Proof.Gen.OutProjRefIdeal.Frame
public import proofs.«01_k».proof.Proof.Out.RefTile
public import Idealize.ShloMosaic.Lib.Pipeline.ReadBack
public import Idealize.ShloMosaic.Lib.Ring
public import Idealize.ShloMosaic.Lib.Writes
public import Idealize.ShloMosaic.Lib.WholeRead

/-!
  What the four result arrays of the plain program hold after the run: the formulas of `Spec.lean` of the arguments.
-/

@[expose] public section

set_option maxRecDepth 16384

noncomputable section

namespace Cert.OutProjRefIdeal.Gen

open Idealize.ShloMosaic Idealize.ShloMosaic.TcCoe Idealize.ShloMosaic.Tactic
open Idealize.SL Idealize.SL.Sem
open Idealize.ShloMosaic.Pipeline (Dat Cfg Window)
open Cert.OutRows
open scoped BigOperators

variable (m : (ℓ : Loc nD τ sig) → Buf (Elt Ideal) ℓ) (ρ : Dev nD → PrngReg)

/-- A load of a whole array reads it. -/
theorem readAt_all {sp : Space} {s : Shape} {e : EltTy} {m : Memref sig .tc sp s e} (h : m.IsWhole) (x : Vec Ideal s e)
    (off : Fin s.rank → ℕ) (hoff : ∀ a, off a = 0) (hin : ∀ a, off a + s.size a ≤ s.size a) :
    View.readAt (Elt Ideal) m.view (Rect.unit (s := s) off s.size hin).toLoadRect (h.unread x) = x := by
  funext y
  rw [h.readAt_unread]
  congr 1
  funext a
  refine Fin.ext ?_
  simp [LoadRect.idx, Rect.unit, hoff]

/-- A function stored as one whole piece is that function. -/
theorem whole_piece {s : Shape} {α : Type} {X Y : s.Idx → α} (h : X = Y) (off : Fin s.rank → ℕ) (hoff : ∀ a, off a = 0)
    (hin : ∀ a, off a + s.size a ≤ s.size a) (y : s.Idx) : X y = Y ((Rect.unit (s := s) off s.size hin).emb y) := by
  rw [h]
  congr 1
  funext a
  refine Fin.ext ?_
  simp [Rect.emb, LoadRect.idx, Rect.unit, hoff]

theorem zero2 (a : Fin 2) : (![0, 0] : Fin 2 → ℕ) a = 0 := by fin_cases a <;> rfl

/-- The word a scalar load reads. -/
abbrev word {m : Memref sig .tc .smem S1 .f32} (h : m.IsWhole) (x : Vec Ideal S1 .f32) : Elt Ideal .f32 :=
  View.readAt (Elt Ideal) m.view (Rect.unit (s := S1) ![0] S1.size inb_S1_S1_0).toLoadRect (h.unread x) (Shape.Idx.first (by decide))

theorem word_eq {m : Memref sig .tc .smem S1 .f32} (h : m.IsWhole) (x : Vec Ideal S1 .f32) : word h x = x (ix1 0) := by
  unfold word
  rw [readAt_all h x _ (by intro a; fin_cases a; rfl)]
  congr 1
  funext a; fin_cases a; rfl

/-! ## The whole arrays -/

/-- The four results from the arrays of the inputs: `y`, -/
def yw (x2 : Vec Ideal S16x2176x128 .f32) : Vec Ideal S1980x2048 .bf16 := fun j => yOut (fun p r q => x2 (ix3 p r q)) (j 0) (j 1)
/-- the codes of the gate, -/
def gw (x0 : Vec Ideal S1 .f32) (x2 : Vec Ideal S16x2176x128 .f32) (x3 : Vec Ideal S1980x2048 .f32) (x5 : Vec Ideal S1x2048 .f32) :
    Vec Ideal S1980x2048 .fp8e4m3 := fun j =>
  gOut (fun p r q => x2 (ix3 p r q)) (fun r k => x3 (ix2 r k)) (fun q => x5 (ix2 0 q)) (x0 (ix1 0)) (j 0) (j 1)
/-- the residual, -/
def hw (x0 : Vec Ideal S1 .f32) (x2 : Vec Ideal S16x2176x128 .f32) (x3 : Vec Ideal S1980x2048 .f32) (x4 : Vec Ideal S1980x4096 .bf16)
    (x5 : Vec Ideal S1x2048 .f32) (x6 : Vec Ideal S2048x4096 .fp8e4m3) (x7 : Vec Ideal S1x4096 .f32) : Vec Ideal S1980x4096 .f32 := fun j =>
  hOut (fun p r q => x2 (ix3 p r q)) (fun r k => x3 (ix2 r k)) (fun r k => x4 (ix2 r k)) (fun q => x5 (ix2 0 q)) (x0 (ix1 0))
    (fun k q => x6 (ix2 k q)) (fun q => x7 (ix2 0 q)) (j 0) (j 1)
/-- and its codes. -/
def fw (x0 x1 : Vec Ideal S1 .f32) (x2 : Vec Ideal S16x2176x128 .f32) (x3 : Vec Ideal S1980x2048 .f32) (x4 : Vec Ideal S1980x4096 .bf16)
    (x5 : Vec Ideal S1x2048 .f32) (x6 : Vec Ideal S2048x4096 .fp8e4m3) (x7 x8 : Vec Ideal S1x4096 .f32) : Vec Ideal S1980x4096 .fp8e4m3 := fun j =>
  fOut (fun p r q => x2 (ix3 p r q)) (fun r k => x3 (ix2 r k)) (fun r k => x4 (ix2 r k)) (fun q => x5 (ix2 0 q)) (x0 (ix1 0))
    (fun k q => x6 (ix2 k q)) (fun q => x7 (ix2 0 q)) (fun q => x8 (ix2 0 q)) (x1 (ix1 0)) (j 0) (j 1)

section Loads

variable {arg0 : Memref sig .tc .smem S1 .f32} (harg0 : arg0.IsWhole)
  {arg1 : Memref sig .tc .smem S1 .f32} (harg1 : arg1.IsWhole)
  {arg2 : Memref sig .tc .vmem S16x2176x128 .f32} (harg2 : arg2.IsWhole)
  {arg3 : Memref sig .tc .vmem S1980x2048 .f32} (harg3 : arg3.IsWhole)
  {arg4 : Memref sig .tc .vmem S1980x4096 .bf16} (harg4 : arg4.IsWhole)
  {arg5 : Memref sig .tc .vmem S1x2048 .f32} (harg5 : arg5.IsWhole)
  {arg6 : Memref sig .tc .vmem S2048x4096 .fp8e4m3} (harg6 : arg6.IsWhole)
  {arg7 : Memref sig .tc .vmem S1x4096 .f32} (harg7 : arg7.IsWhole)
  {arg8 : Memref sig .tc .vmem S1x4096 .f32} (harg8 : arg8.IsWhole)
  (x0 : Vec Ideal S1 .f32) (x1 : Vec Ideal S1 .f32) (x2 : Vec Ideal S16x2176x128 .f32) (x3 : Vec Ideal S1980x2048 .f32) (x4 : Vec Ideal S1980x4096 .bf16) (x5 : Vec Ideal S1x2048 .f32) (x6 : Vec Ideal S2048x4096 .fp8e4m3) (x7 : Vec Ideal S1x4096 .f32) (x8 : Vec Ideal S1x4096 .f32)

/-- The rows of plane `p` that are not padding. -/
abbrev plane (p : ℕ) (h : ∀ a, (![p, 0, 0] : Fin 3 → ℕ) a + S1x1980x128.size a ≤ S16x2176x128.size a) : Vec Ideal S1x1980x128 .f32 :=
  View.readAt (Elt Ideal) arg2.view (Rect.unit (s := S16x2176x128) ![p, 0, 0] S1x1980x128.size h).toLoadRect (harg2.unread x2)

theorem plane_apply (p : ℕ) (h : ∀ a, (![p, 0, 0] : Fin 3 → ℕ) a + S1x1980x128.size a ≤ S16x2176x128.size a) (r : Fin 1980) (q : Fin 128)
    (p' : Fin 16) (r' : Fin 2176) (hp : p'.val = p) (hr : r'.val = r.val) :
    plane harg2 x2 p h (ix3 (0 : Fin 1) r q) = x2 (ix3 p' r' q) := by
  unfold plane
  rw [harg2.readAt_unread]
  congr 1
  funext d
  fin_cases d <;> refine Fin.ext ?_ <;> simp [LoadRect.idx, Rect.unit, hp, hr]

/-- What the program stores: `y`, -/
abbrev ystore : FVec Ideal S1980x2048 .f32 := k0_pay13 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0)
/-- the codes of the gate, -/
abbrev gstore : FVec Ideal S1980x2048 .fp8e4m3 := k0_pay20 (F := Ideal) (word harg0 x0) (k0_pay16 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay17 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay18 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay19 (F := Ideal)) (View.readAt (Elt Ideal) arg5.view (Rect.unit (s := S1x2048) ![0, 0] S1x2048.size inb_S1x2048_S1x2048_0_0).toLoadRect (harg5.unread x5))
/-- the residual, -/
abbrev hstore : FVec Ideal S1980x4096 .f32 := k0_pay21 (F := Ideal) (word harg0 x0) (k0_pay16 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay17 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay18 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay19 (F := Ideal)) (View.readAt (Elt Ideal) arg5.view (Rect.unit (s := S1x2048) ![0, 0] S1x2048.size inb_S1x2048_S1x2048_0_0).toLoadRect (harg5.unread x5)) (View.readAt (Elt Ideal) arg4.view (Rect.unit (s := S1980x4096) ![0, 0] S1980x4096.size inb_S1980x4096_S1980x4096_0_0).toLoadRect (harg4.unread x4)) (View.readAt (Elt Ideal) arg6.view (Rect.unit (s := S2048x4096) ![0, 0] S2048x4096.size inb_S2048x4096_S2048x4096_0_0).toLoadRect (harg6.unread x6)) (View.readAt (Elt Ideal) arg7.view (Rect.unit (s := S1x4096) ![0, 0] S1x4096.size inb_S1x4096_S1x4096_0_0).toLoadRect (harg7.unread x7))
/-- and its codes. -/
abbrev fstore : FVec Ideal S1980x4096 .fp8e4m3 := k0_pay1 (F := Ideal) (word harg1 x1)
  (k0_pay22 (F := Ideal) (word harg0 x0) (k0_pay16 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay17 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay18 (F := Ideal) (k0_pay2 (F := Ideal) (plane harg2 x2 0 inb_S16x2176x128_S1x1980x128_0_0_0)) (k0_pay3 (F := Ideal) (plane harg2 x2 1 inb_S16x2176x128_S1x1980x128_1_0_0)) (k0_pay4 (F := Ideal) (plane harg2 x2 2 inb_S16x2176x128_S1x1980x128_2_0_0)) (k0_pay5 (F := Ideal) (plane harg2 x2 3 inb_S16x2176x128_S1x1980x128_3_0_0)) (k0_pay6 (F := Ideal) (plane harg2 x2 4 inb_S16x2176x128_S1x1980x128_4_0_0)) (k0_pay7 (F := Ideal) (plane harg2 x2 5 inb_S16x2176x128_S1x1980x128_5_0_0)) (k0_pay8 (F := Ideal) (plane harg2 x2 6 inb_S16x2176x128_S1x1980x128_6_0_0)) (k0_pay9 (F := Ideal) (plane harg2 x2 7 inb_S16x2176x128_S1x1980x128_7_0_0)) (k0_pay10 (F := Ideal) (plane harg2 x2 8 inb_S16x2176x128_S1x1980x128_8_0_0)) (k0_pay11 (F := Ideal) (plane harg2 x2 9 inb_S16x2176x128_S1x1980x128_9_0_0)) (k0_pay12 (F := Ideal) (plane harg2 x2 10 inb_S16x2176x128_S1x1980x128_10_0_0)) (plane harg2 x2 11 inb_S16x2176x128_S1x1980x128_11_0_0) (plane harg2 x2 12 inb_S16x2176x128_S1x1980x128_12_0_0) (plane harg2 x2 13 inb_S16x2176x128_S1x1980x128_13_0_0) (plane harg2 x2 14 inb_S16x2176x128_S1x1980x128_14_0_0) (plane harg2 x2 15 inb_S16x2176x128_S1x1980x128_15_0_0) (View.readAt (Elt Ideal) arg3.view (Rect.unit (s := S1980x2048) ![0, 0] S1980x2048.size inb_S1980x2048_S1980x2048_0_0).toLoadRect (harg3.unread x3))) (k0_pay19 (F := Ideal)) (View.readAt (Elt Ideal) arg5.view (Rect.unit (s := S1x2048) ![0, 0] S1x2048.size inb_S1x2048_S1x2048_0_0).toLoadRect (harg5.unread x5)) (View.readAt (Elt Ideal) arg4.view (Rect.unit (s := S1980x4096) ![0, 0] S1980x4096.size inb_S1980x4096_S1980x4096_0_0).toLoadRect (harg4.unread x4)) (View.readAt (Elt Ideal) arg6.view (Rect.unit (s := S2048x4096) ![0, 0] S2048x4096.size inb_S2048x4096_S2048x4096_0_0).toLoadRect (harg6.unread x6)) (View.readAt (Elt Ideal) arg7.view (Rect.unit (s := S1x4096) ![0, 0] S1x4096.size inb_S1x4096_S1x4096_0_0).toLoadRect (harg7.unread x7))) (View.readAt (Elt Ideal) arg8.view (Rect.unit (s := S1x4096) ![0, 0] S1x4096.size inb_S1x4096_S1x4096_0_0).toLoadRect (harg8.unread x8))

/-- What holds of each of sixteen entries holds of the vector of them. -/
theorem vec16 {α : Type} (P : Fin 16 → α → Prop) (w0 w1 w2 w3 w4 w5 w6 w7 w8 w9 w10 w11 w12 w13 w14 w15 : α) (h0 : P 0 w0) (h1 : P 1 w1) (h2 : P 2 w2) (h3 : P 3 w3) (h4 : P 4 w4) (h5 : P 5 w5) (h6 : P 6 w6) (h7 : P 7 w7) (h8 : P 8 w8) (h9 : P 9 w9) (h10 : P 10 w10) (h11 : P 11 w11) (h12 : P 12 w12) (h13 : P 13 w13) (h14 : P 14 w14) (h15 : P 15 w15) (q : Fin 16) :
    P q ((![w0, w1, w2, w3, w4, w5, w6, w7, w8, w9, w10, w11, w12, w13, w14, w15] : Fin 16 → α) q) := by
  fin_cases q <;> assumption

theorem ystore_eq : ystore harg2 x2 = yw x2 := by
  funext y
  unfold ystore
  rw [planes_apply]
  unfold yw yOut
  have h1 : (y 1).val < 2048 := (y 1).isLt
  have h0 : (y 0).val < 1980 := (y 0).isLt
  exact vec16 (fun q (w : Vec Ideal S1x1980x128 .f32) => w (ix3 (0 : Fin 1) (y 0) ⟨(y 1).val % 128, Nat.mod_lt _ (by decide)⟩)
      = x2 (ix3 q ⟨(y 0).val, by omega⟩ ⟨(y 1).val % 128, Nat.mod_lt _ (by decide)⟩))
    _ _ _ _ _ _ _ _ _ _ _ _ _ _ _ _
    (plane_apply harg2 x2 _ _ _ _ _ _ rfl rfl) (plane_apply harg2 x2 _ _ _ _ _ _ rfl rfl) (plane_apply harg2 x2 _ _ _ _ _ _ rfl rfl) (plane_apply harg2 x2 _ _ _ _ _ _ rfl rfl)
    (plane_apply harg2 x2 _ _ _ _ _ _ rfl rfl) (plane_apply harg2 x2 _ _ _ _ _ _ rfl rfl) (plane_apply harg2 x2 _ _ _ _ _ _ rfl rfl) (plane_apply harg2 x2 _ _ _ _ _ _ rfl rfl)
    (plane_apply harg2 x2 _ _ _ _ _ _ rfl rfl) (plane_apply harg2 x2 _ _ _ _ _ _ rfl rfl) (plane_apply harg2 x2 _ _ _ _ _ _ rfl rfl) (plane_apply harg2 x2 _ _ _ _ _ _ rfl rfl)
    (plane_apply harg2 x2 _ _ _ _ _ _ rfl rfl) (plane_apply harg2 x2 _ _ _ _ _ _ rfl rfl) (plane_apply harg2 x2 _ _ _ _ _ _ rfl rfl) (plane_apply harg2 x2 _ _ _ _ _ _ rfl rfl) ⟨(y 1).val / 128, by omega⟩

theorem gstore_eq : gstore harg0 harg2 harg3 harg5 x0 x2 x3 x5 = gw x0 x2 x3 x5 := by
  funext y
  unfold gstore
  rw [codes_apply, word_eq, readAt_all _ _ _ zero2, readAt_all _ _ _ zero2]
  have e := ystore_eq harg2 x2
  unfold ystore at e
  rw [e]
  rfl

theorem hstore_eq : hstore harg0 harg2 harg3 harg4 harg5 harg6 harg7 x0 x2 x3 x4 x5 x6 x7 = hw x0 x2 x3 x4 x5 x6 x7 := by
  funext y
  unfold hstore
  rw [resid_apply]
  have e := gstore_eq harg0 harg2 harg3 harg5 x0 x2 x3 x5
  unfold gstore at e
  rw [e, word_eq, readAt_all harg4 _ _ zero2, readAt_all harg6 _ _ zero2, readAt_all harg7 _ _ zero2]
  unfold hw hOut
  congr 1
  congr 1
  funext a
  fin_cases a <;> rfl

theorem fstore_eq : fstore harg0 harg1 harg2 harg3 harg4 harg5 harg6 harg7 harg8 x0 x1 x2 x3 x4 x5 x6 x7 x8 = fw x0 x1 x2 x3 x4 x5 x6 x7 x8 := by
  funext y
  unfold fstore
  rw [rcodes_apply]
  have e := hstore_eq harg0 harg2 harg3 harg4 harg5 harg6 harg7 x0 x2 x3 x4 x5 x6 x7
  unfold hstore at e
  rw [e, word_eq harg1, readAt_all harg8 _ _ zero2]
  rfl

end Loads

section Outs

variable (c : Dev nD) (t : Fin cfg0.N) (x0 : Vec Ideal S1 .f32) (x1 : Vec Ideal S1 .f32) (x2 : Vec Ideal S16x2176x128 .f32) (x3 : Vec Ideal S1980x2048 .f32) (x4 : Vec Ideal S1980x4096 .bf16) (x5 : Vec Ideal S1x2048 .f32) (x6 : Vec Ideal S2048x4096 .fp8e4m3) (x7 : Vec Ideal S1x4096 .f32) (x8 : Vec Ideal S1x4096 .f32)

theorem out9_eq : out0_A_9 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) x0 x1 x2 x3 x4 x5 x6 x7 x8 = yw x2 := by
  unfold out0_A_9
  funext y
  refine View.read_writes_apply_of_pieces _ _ (yw x2) _ (fun p hp => View.PiecesOf.mem ?_ p hp) y (cover0_A_9 c _ _ _ _ _ _ _ _ _ _ _ _ _ _ _ _ _ _ _ _ _ _ _ _ _ _ _ _ _ _ _ _ _ _ _ y)
  refine ⟨fun y => ?_, trivial⟩
  refine Eq.trans (b := ystore (hs0_2 t) x2 y) rfl ?_
  exact whole_piece (s := S1980x2048) (α := EReal) (ystore_eq (hs0_2 t) x2) ![0, 0] zero2 inb_S1980x2048_S1980x2048_0_0 y

theorem out10_eq : out0_A_10 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) x0 x1 x2 x3 x4 x5 x6 x7 x8 = gw x0 x2 x3 x5 := by
  unfold out0_A_10
  funext y
  refine View.read_writes_apply_of_pieces _ _ (gw x0 x2 x3 x5) _ (fun p hp => View.PiecesOf.mem ?_ p hp) y (cover0_A_10 c _ _ _ _ _ _ _ _ _ _ _ _ _ _ _ _ _ _ _ _ _ _ _ _ _ _ _ _ _ _ _ _ _ _ _ y)
  refine ⟨fun y => ?_, trivial⟩
  refine Eq.trans (b := gstore (hs0_0 t) (hs0_2 t) (hs0_3 t) (hs0_5 t) x0 x2 x3 x5 y) rfl ?_
  exact whole_piece (s := S1980x2048) (α := EReal) (gstore_eq (hs0_0 t) (hs0_2 t) (hs0_3 t) (hs0_5 t) x0 x2 x3 x5) ![0, 0] zero2 inb_S1980x2048_S1980x2048_0_0 y

theorem out11_eq : out0_A_11 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) x0 x1 x2 x3 x4 x5 x6 x7 x8 = hw x0 x2 x3 x4 x5 x6 x7 := by
  unfold out0_A_11
  funext y
  refine View.read_writes_apply_of_pieces _ _ (hw x0 x2 x3 x4 x5 x6 x7) _ (fun p hp => View.PiecesOf.mem ?_ p hp) y (cover0_A_11 c _ _ _ _ _ _ _ _ _ _ _ _ _ _ _ _ _ _ _ _ _ _ _ _ _ _ _ _ _ _ _ _ _ _ _ y)
  refine ⟨fun y => ?_, trivial⟩
  refine Eq.trans (b := hstore (hs0_0 t) (hs0_2 t) (hs0_3 t) (hs0_4 t) (hs0_5 t) (hs0_6 t) (hs0_7 t) x0 x2 x3 x4 x5 x6 x7 y) rfl ?_
  exact whole_piece (s := S1980x4096) (α := EReal) (hstore_eq (hs0_0 t) (hs0_2 t) (hs0_3 t) (hs0_4 t) (hs0_5 t) (hs0_6 t) (hs0_7 t) x0 x2 x3 x4 x5 x6 x7) ![0, 0] zero2 inb_S1980x4096_S1980x4096_0_0 y

theorem out12_eq : out0_A_12 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) x0 x1 x2 x3 x4 x5 x6 x7 x8 = fw x0 x1 x2 x3 x4 x5 x6 x7 x8 := by
  unfold out0_A_12
  funext y
  refine View.read_writes_apply_of_pieces _ _ (fw x0 x1 x2 x3 x4 x5 x6 x7 x8) _ (fun p hp => View.PiecesOf.mem ?_ p hp) y (cover0_A_12 c _ _ _ _ _ _ _ _ _ _ _ _ _ _ _ _ _ _ _ _ _ _ _ _ _ _ _ _ _ _ _ _ _ _ _ y)
  refine ⟨fun y => ?_, trivial⟩
  refine Eq.trans (b := fstore (hs0_0 t) (hs0_1 t) (hs0_2 t) (hs0_3 t) (hs0_4 t) (hs0_5 t) (hs0_6 t) (hs0_7 t) (hs0_8 t) x0 x1 x2 x3 x4 x5 x6 x7 x8 y) rfl ?_
  exact whole_piece (s := S1980x4096) (α := EReal) (fstore_eq (hs0_0 t) (hs0_1 t) (hs0_2 t) (hs0_3 t) (hs0_4 t) (hs0_5 t) (hs0_6 t) (hs0_7 t) (hs0_8 t) x0 x1 x2 x3 x4 x5 x6 x7 x8) ![0, 0] zero2 inb_S1980x4096_S1980x4096_0_0 y

end Outs

/-! ## The host's three reshapes -/

theorem V_main_v0 (c : Dev nD) (q : Fin 2048) : V m c main_v0 (ix2 0 q) = m ((c : Thread nD τ).loc main_arg3) (ix1 q) := by
  unfold_abbrev_sides
  after_results
  show shapeCast S1x2048 (m ((c : Thread nD τ).loc main_arg3) : S2048.Idx → EReal) shapeCasts_S2048_S1x2048 (ix2 0 q) = _
  simp only [pointwise]

theorem V_main_v1 (c : Dev nD) (q : Fin 4096) : V m c main_v1 (ix2 0 q) = m ((c : Thread nD τ).loc main_arg6) (ix1 q) := by
  unfold_abbrev_sides
  after_results
  show shapeCast S1x4096 (m ((c : Thread nD τ).loc main_arg6) : S4096.Idx → EReal) shapeCasts_S4096_S1x4096 (ix2 0 q) = _
  simp only [pointwise]

theorem V_main_v2 (c : Dev nD) (q : Fin 4096) : V m c main_v2 (ix2 0 q) = m ((c : Thread nD τ).loc main_arg7) (ix1 q) := by
  unfold_abbrev_sides
  after_results
  show shapeCast S1x4096 (m ((c : Thread nD τ).loc main_arg7) : S4096.Idx → EReal) shapeCasts_S4096_S1x4096 (ix2 0 q) = _
  simp only [pointwise]

/-! ## The inputs' blocks are the whole arrays -/

theorem iblk0_eq (c : Dev nD) (t : Fin cfg0.N) : iblk m c 0 t = V m c main_arg4 := by
  obtain rfl := fin_N0 t
  funext j
  show V m c main_arg4 (((cfg0.win 0).blk t0_0).view.emb j) = V m c main_arg4 j
  congr 1
  have h0 : ∀ a, win0_0.index t0_0 a = 0 := by decide +kernel
  funext a
  refine Fin.ext ?_
  show win0_0.index t0_0 a * win0_0.size a + 1 * (j a).val = (j a).val
  rw [h0]
  omega

theorem iblk1_eq (c : Dev nD) (t : Fin cfg0.N) : iblk m c 1 t = V m c main_arg8 := by
  obtain rfl := fin_N0 t
  funext j
  show V m c main_arg8 (((cfg0.win 1).blk t0_0).view.emb j) = V m c main_arg8 j
  congr 1
  have h0 : ∀ a, win0_1.index t0_0 a = 0 := by decide +kernel
  funext a
  refine Fin.ext ?_
  show win0_1.index t0_0 a * win0_1.size a + 1 * (j a).val = (j a).val
  rw [h0]
  omega

theorem iblk2_eq (c : Dev nD) (t : Fin cfg0.N) : iblk m c 2 t = V m c main_arg0 := by
  obtain rfl := fin_N0 t
  funext j
  show V m c main_arg0 (((cfg0.win 2).blk t0_0).view.emb j) = V m c main_arg0 j
  congr 1
  have h0 : ∀ a, win0_2.index t0_0 a = 0 := by decide +kernel
  funext a
  refine Fin.ext ?_
  show win0_2.index t0_0 a * win0_2.size a + 1 * (j a).val = (j a).val
  rw [h0]
  omega

theorem iblk3_eq (c : Dev nD) (t : Fin cfg0.N) : iblk m c 3 t = V m c main_arg1 := by
  obtain rfl := fin_N0 t
  funext j
  show V m c main_arg1 (((cfg0.win 3).blk t0_0).view.emb j) = V m c main_arg1 j
  congr 1
  have h0 : ∀ a, win0_3.index t0_0 a = 0 := by decide +kernel
  funext a
  refine Fin.ext ?_
  show win0_3.index t0_0 a * win0_3.size a + 1 * (j a).val = (j a).val
  rw [h0]
  omega

theorem iblk4_eq (c : Dev nD) (t : Fin cfg0.N) : iblk m c 4 t = V m c main_arg2 := by
  obtain rfl := fin_N0 t
  funext j
  show V m c main_arg2 (((cfg0.win 4).blk t0_0).view.emb j) = V m c main_arg2 j
  congr 1
  have h0 : ∀ a, win0_4.index t0_0 a = 0 := by decide +kernel
  funext a
  refine Fin.ext ?_
  show win0_4.index t0_0 a * win0_4.size a + 1 * (j a).val = (j a).val
  rw [h0]
  omega

theorem iblk5_eq (c : Dev nD) (t : Fin cfg0.N) : iblk m c 5 t = V m c main_v0 := by
  obtain rfl := fin_N0 t
  funext j
  show V m c main_v0 (((cfg0.win 5).blk t0_0).view.emb j) = V m c main_v0 j
  congr 1
  have h0 : ∀ a, win0_5.index t0_0 a = 0 := by decide +kernel
  funext a
  refine Fin.ext ?_
  show win0_5.index t0_0 a * win0_5.size a + 1 * (j a).val = (j a).val
  rw [h0]
  omega

theorem iblk6_eq (c : Dev nD) (t : Fin cfg0.N) : iblk m c 6 t = V m c main_arg5 := by
  obtain rfl := fin_N0 t
  funext j
  show V m c main_arg5 (((cfg0.win 6).blk t0_0).view.emb j) = V m c main_arg5 j
  congr 1
  have h0 : ∀ a, win0_6.index t0_0 a = 0 := by decide +kernel
  funext a
  refine Fin.ext ?_
  show win0_6.index t0_0 a * win0_6.size a + 1 * (j a).val = (j a).val
  rw [h0]
  omega

theorem iblk7_eq (c : Dev nD) (t : Fin cfg0.N) : iblk m c 7 t = V m c main_v1 := by
  obtain rfl := fin_N0 t
  funext j
  show V m c main_v1 (((cfg0.win 7).blk t0_0).view.emb j) = V m c main_v1 j
  congr 1
  have h0 : ∀ a, win0_7.index t0_0 a = 0 := by decide +kernel
  funext a
  refine Fin.ext ?_
  show win0_7.index t0_0 a * win0_7.size a + 1 * (j a).val = (j a).val
  rw [h0]
  omega

theorem iblk8_eq (c : Dev nD) (t : Fin cfg0.N) : iblk m c 8 t = V m c main_v2 := by
  obtain rfl := fin_N0 t
  funext j
  show V m c main_v2 (((cfg0.win 8).blk t0_0).view.emb j) = V m c main_v2 j
  congr 1
  have h0 : ∀ a, win0_8.index t0_0 a = 0 := by decide +kernel
  funext a
  refine Fin.ext ?_
  show win0_8.index t0_0 a * win0_8.size a + 1 * (j a).val = (j a).val
  rw [h0]
  omega

/-! ## The four results -/

/-- The results as formulas of the arguments: `y`, -/
def yOf (c : Dev nD) : Vec Ideal S1980x2048 .bf16 := fun j => yOut (fun p r q => m ((c : Thread nD τ).loc main_arg0) (ix3 p r q)) (j 0) (j 1)
/-- the codes of the gate, -/
def gOf (c : Dev nD) : Vec Ideal S1980x2048 .fp8e4m3 := fun j =>
  gOut (fun p r q => m ((c : Thread nD τ).loc main_arg0) (ix3 p r q)) (fun r k => m ((c : Thread nD τ).loc main_arg1) (ix2 r k))
    (fun q => m ((c : Thread nD τ).loc main_arg3) (ix1 q)) (m ((c : Thread nD τ).loc main_arg4) (ix1 0)) (j 0) (j 1)
/-- the residual, -/
def hOf (c : Dev nD) : Vec Ideal S1980x4096 .f32 := fun j =>
  hOut (fun p r q => m ((c : Thread nD τ).loc main_arg0) (ix3 p r q)) (fun r k => m ((c : Thread nD τ).loc main_arg1) (ix2 r k)) (fun r k => m ((c : Thread nD τ).loc main_arg2) (ix2 r k))
    (fun q => m ((c : Thread nD τ).loc main_arg3) (ix1 q)) (m ((c : Thread nD τ).loc main_arg4) (ix1 0)) (fun r k => m ((c : Thread nD τ).loc main_arg5) (ix2 r k)) (fun q => m ((c : Thread nD τ).loc main_arg6) (ix1 q)) (j 0) (j 1)
/-- and its codes. -/
def fOf (c : Dev nD) : Vec Ideal S1980x4096 .fp8e4m3 := fun j =>
  fOut (fun p r q => m ((c : Thread nD τ).loc main_arg0) (ix3 p r q)) (fun r k => m ((c : Thread nD τ).loc main_arg1) (ix2 r k)) (fun r k => m ((c : Thread nD τ).loc main_arg2) (ix2 r k))
    (fun q => m ((c : Thread nD τ).loc main_arg3) (ix1 q)) (m ((c : Thread nD τ).loc main_arg4) (ix1 0)) (fun r k => m ((c : Thread nD τ).loc main_arg5) (ix2 r k)) (fun q => m ((c : Thread nD τ).loc main_arg6) (ix1 q)) (fun q => m ((c : Thread nD τ).loc main_arg7) (ix1 q)) (m ((c : Thread nD τ).loc main_arg8) (ix1 0)) (j 0) (j 1)

theorem outs9 (c : Dev nD) (t : Fin cfg0.N) : (outsAt0 m c t).1 = yOf m c := by
  simp only [outsAt0]
  rw [out9_eq, iblk2_eq, V_main_arg0]
  unfold yw yOf
  rfl

theorem emb9 (t : Fin cfg0.N) (j : ((cfg0.win 9).xblock (cfg0.grid.coords t)).Idx) (a) : ((((cfg0.win 9).blk t).view.emb j) a).val = (j a).val := by
  obtain rfl := fin_N0 t
  have h0 : ∀ a, win0_9.index t0_0 a = 0 := by decide +kernel
  show win0_9.index t0_0 a * win0_9.size a + 1 * (j a).val = (j a).val
  rw [h0]
  omega

theorem final9 (c : Dev nD) : (dats m 0 c).arrAt 9 cfg0.N = yOf m c := by
  refine (dats m 0 c).arrAt_eq_of_cover 9 (yOf m c) (fun t _ => ?_) fun i => ?_
  · show (cfg0.win 9).cut (grid0.coords t) ((dats m 0 c).after 9 t) = _
    rw [after0_9, outs9]
    funext j
    show yOf m c _ = yOf m c (((cfg0.win 9).blk t).view.emb j)
    congr 1
    funext a
    exact Fin.ext (emb9 t j a).symm
  · refine ⟨t0_0, flush0_9 _, ?_⟩
    have e : ((cfg0.win 9).blk t0_0).view.emb i = i := funext fun a => Fin.ext (emb9 t0_0 i a)
    have h := View.emb_mem_set ((cfg0.win 9).blk t0_0).view i
    rwa [e] at h

theorem outs10 (c : Dev nD) (t : Fin cfg0.N) : (outsAt0 m c t).2.1 = gOf m c := by
  simp only [outsAt0]
  rw [out10_eq, iblk0_eq, iblk2_eq, iblk3_eq, iblk5_eq, V_main_arg4, V_main_arg0, V_main_arg1]
  have h5 : (fun q : Fin 2048 => V m c main_v0 (ix2 0 q)) = fun q => m ((c : Thread nD τ).loc main_arg3) (ix1 q) := funext fun q => V_main_v0 m c q
  unfold gw gOf
  rw [h5]

theorem emb10 (t : Fin cfg0.N) (j : ((cfg0.win 10).xblock (cfg0.grid.coords t)).Idx) (a) : ((((cfg0.win 10).blk t).view.emb j) a).val = (j a).val := by
  obtain rfl := fin_N0 t
  have h0 : ∀ a, win0_10.index t0_0 a = 0 := by decide +kernel
  show win0_10.index t0_0 a * win0_10.size a + 1 * (j a).val = (j a).val
  rw [h0]
  omega

theorem final10 (c : Dev nD) : (dats m 0 c).arrAt 10 cfg0.N = gOf m c := by
  refine (dats m 0 c).arrAt_eq_of_cover 10 (gOf m c) (fun t _ => ?_) fun i => ?_
  · show (cfg0.win 10).cut (grid0.coords t) ((dats m 0 c).after 10 t) = _
    rw [after0_10, outs10]
    funext j
    show gOf m c _ = gOf m c (((cfg0.win 10).blk t).view.emb j)
    congr 1
    funext a
    exact Fin.ext (emb10 t j a).symm
  · refine ⟨t0_0, flush0_10 _, ?_⟩
    have e : ((cfg0.win 10).blk t0_0).view.emb i = i := funext fun a => Fin.ext (emb10 t0_0 i a)
    have h := View.emb_mem_set ((cfg0.win 10).blk t0_0).view i
    rwa [e] at h

theorem outs11 (c : Dev nD) (t : Fin cfg0.N) : (outsAt0 m c t).2.2.1 = hOf m c := by
  simp only [outsAt0]
  rw [out11_eq, iblk0_eq, iblk2_eq, iblk3_eq, iblk4_eq, iblk5_eq, iblk6_eq, iblk7_eq, V_main_arg4, V_main_arg0, V_main_arg1, V_main_arg2, V_main_arg5]
  have h5 : (fun q : Fin 2048 => V m c main_v0 (ix2 0 q)) = fun q => m ((c : Thread nD τ).loc main_arg3) (ix1 q) := funext fun q => V_main_v0 m c q
  have h7 : (fun q : Fin 4096 => V m c main_v1 (ix2 0 q)) = fun q => m ((c : Thread nD τ).loc main_arg6) (ix1 q) := funext fun q => V_main_v1 m c q
  unfold hw hOf
  rw [h5, h7]

theorem emb11 (t : Fin cfg0.N) (j : ((cfg0.win 11).xblock (cfg0.grid.coords t)).Idx) (a) : ((((cfg0.win 11).blk t).view.emb j) a).val = (j a).val := by
  obtain rfl := fin_N0 t
  have h0 : ∀ a, win0_11.index t0_0 a = 0 := by decide +kernel
  show win0_11.index t0_0 a * win0_11.size a + 1 * (j a).val = (j a).val
  rw [h0]
  omega

theorem final11 (c : Dev nD) : (dats m 0 c).arrAt 11 cfg0.N = hOf m c := by
  refine (dats m 0 c).arrAt_eq_of_cover 11 (hOf m c) (fun t _ => ?_) fun i => ?_
  · show (cfg0.win 11).cut (grid0.coords t) ((dats m 0 c).after 11 t) = _
    rw [after0_11, outs11]
    funext j
    show hOf m c _ = hOf m c (((cfg0.win 11).blk t).view.emb j)
    congr 1
    funext a
    exact Fin.ext (emb11 t j a).symm
  · refine ⟨t0_0, flush0_11 _, ?_⟩
    have e : ((cfg0.win 11).blk t0_0).view.emb i = i := funext fun a => Fin.ext (emb11 t0_0 i a)
    have h := View.emb_mem_set ((cfg0.win 11).blk t0_0).view i
    rwa [e] at h

theorem outs12 (c : Dev nD) (t : Fin cfg0.N) : (outsAt0 m c t).2.2.2 = fOf m c := by
  simp only [outsAt0]
  rw [out12_eq, iblk0_eq, iblk1_eq, iblk2_eq, iblk3_eq, iblk4_eq, iblk5_eq, iblk6_eq, iblk7_eq, iblk8_eq, V_main_arg4, V_main_arg8, V_main_arg0, V_main_arg1, V_main_arg2, V_main_arg5]
  have h5 : (fun q : Fin 2048 => V m c main_v0 (ix2 0 q)) = fun q => m ((c : Thread nD τ).loc main_arg3) (ix1 q) := funext fun q => V_main_v0 m c q
  have h7 : (fun q : Fin 4096 => V m c main_v1 (ix2 0 q)) = fun q => m ((c : Thread nD τ).loc main_arg6) (ix1 q) := funext fun q => V_main_v1 m c q
  have h8 : (fun q : Fin 4096 => V m c main_v2 (ix2 0 q)) = fun q => m ((c : Thread nD τ).loc main_arg7) (ix1 q) := funext fun q => V_main_v2 m c q
  unfold fw fOf
  rw [h5, h7, h8]

theorem emb12 (t : Fin cfg0.N) (j : ((cfg0.win 12).xblock (cfg0.grid.coords t)).Idx) (a) : ((((cfg0.win 12).blk t).view.emb j) a).val = (j a).val := by
  obtain rfl := fin_N0 t
  have h0 : ∀ a, win0_12.index t0_0 a = 0 := by decide +kernel
  show win0_12.index t0_0 a * win0_12.size a + 1 * (j a).val = (j a).val
  rw [h0]
  omega

theorem final12 (c : Dev nD) : (dats m 0 c).arrAt 12 cfg0.N = fOf m c := by
  refine (dats m 0 c).arrAt_eq_of_cover 12 (fOf m c) (fun t _ => ?_) fun i => ?_
  · show (cfg0.win 12).cut (grid0.coords t) ((dats m 0 c).after 12 t) = _
    rw [after0_12, outs12]
    funext j
    show fOf m c _ = fOf m c (((cfg0.win 12).blk t).view.emb j)
    congr 1
    funext a
    exact Fin.ext (emb12 t j a).symm
  · refine ⟨t0_0, flush0_12 _, ?_⟩
    have e : ((cfg0.win 12).blk t0_0).view.emb i = i := funext fun a => Fin.ext (emb12 t0_0 i a)
    have h := View.emb_mem_set ((cfg0.win 12).blk t0_0).view i
    rwa [e] at h

/-- The run, read. -/
theorem run : θ_run defs (onTc (τ := τ) (main (F := Ideal))) ⟨m, fun _ => 0, ρ⟩ fun r => ∀ c : Dev nD,
      r.2.mem ((c : Thread nD τ).loc main_v3_0) = yOf m c ∧ r.2.mem ((c : Thread nD τ).loc main_v3_1) = gOf m c
      ∧ r.2.mem ((c : Thread nD τ).loc main_v3_2) = hOf m c ∧ r.2.mem ((c : Thread nD τ).loc main_v3_3) = fOf m c :=
  (θ_run defs _ _).mono (fun _ h c => ⟨((h c).1 9).trans (final9 m c), ((h c).1 10).trans (final10 m c),
    ((h c).1 11).trans (final11 m c), ((h c).1 12).trans (final12 m c)⟩) (run_main m ρ)

end Cert.OutProjRefIdeal.Gen

end
-- ==== Proof.Out.Claim.lean ====
module

public import proofs.«01_k».proof.Defs
public import proofs.«01_k».proof.Proof.Out.Value
public import proofs.«01_k».proof.Proof.Out.RefValue

/-!
  The value claim of the output projection: the tiled program and the plain one end with the same four results, which are the
  formulas of `Spec.lean` of the arguments.
-/

@[expose] public section

set_option maxRecDepth 16384

noncomputable section

namespace Cert.OutClaim

open Idealize.ShloMosaic Idealize.ShloMosaic.TcCoe Idealize.SL.Sem

attribute [local instance] Cert.OutProjIdeal.Gen.facts Cert.OutProjRefIdeal.Gen.facts

theorem algebraic : Cert.algebraic_OutProjIdeal_OutProjRefIdeal := by
  intro m g m' g' _ hm
  refine ⟨fun c => Cert.OutProjIdeal.Gen.yOf m c, fun c => Cert.OutProjIdeal.Gen.gOf m c,
    fun c => Cert.OutProjIdeal.Gen.hOf m c, fun c => Cert.OutProjIdeal.Gen.fOf m c, ?_, ?_⟩
  · refine (θ_run _ _ _).mono (fun r h c => ⟨(h.1 c).1, (h.1 c).2.1, (h.1 c).2.2.1, (h.1 c).2.2.2, h.2 c⟩)
      (θ_run_and (Cert.OutProjIdeal.Gen.run m g) (Cert.OutProjIdeal.Gen.unchanged m g))
  · have key : ∀ c, Cert.OutProjRefIdeal.Gen.yOf m' c = Cert.OutProjIdeal.Gen.yOf m c
        ∧ Cert.OutProjRefIdeal.Gen.gOf m' c = Cert.OutProjIdeal.Gen.gOf m c
        ∧ Cert.OutProjRefIdeal.Gen.hOf m' c = Cert.OutProjIdeal.Gen.hOf m c
        ∧ Cert.OutProjRefIdeal.Gen.fOf m' c = Cert.OutProjIdeal.Gen.fOf m c := by
      intro c
      obtain ⟨h0, h1, h2, h3, h4, h5, h6, h7, h8⟩ := hm c
      unfold Cert.OutProjRefIdeal.Gen.yOf Cert.OutProjRefIdeal.Gen.gOf Cert.OutProjRefIdeal.Gen.hOf Cert.OutProjRefIdeal.Gen.fOf
      rw [h0, h1, h2, h3, h4, h5, h6, h7, h8]
      exact ⟨rfl, rfl, rfl, rfl⟩
    refine (θ_run _ _ _).mono (fun r h c => ⟨(h.1 c).1.trans (key c).1, (h.1 c).2.1.trans (key c).2.1,
        (h.1 c).2.2.1.trans (key c).2.2.1, (h.1 c).2.2.2.trans (key c).2.2.2, h.2 c⟩)
      (θ_run_and (Cert.OutProjRefIdeal.Gen.run m' g') (Cert.OutProjRefIdeal.Gen.unchanged m' g'))

end Cert.OutClaim

end
-- ==== Proof.Dec.Ok.lean ====
module

public import proofs.«01_k».proof.Defs
public import proofs.«01_k».proof.Proof.Gen.DecIdeal.Frame.Runs

/-!
  The decode step reads the state of sequence `b` at the slot its table names. A table whose words lie in the range of the state's
  slots has every block inside the state: the condition under which the run is framed.
-/

@[expose] public section

set_option maxRecDepth 16384

noncomputable section

namespace Cert.DecIdeal.Gen

open Idealize.ShloMosaic Idealize.ShloMosaic.TcCoe Idealize.SL.Sem

variable {F : FTy → Type} [FloatOps F]

/-- Every word of the table, read as a natural number, names one of the 86 slots. -/
def Named (w : IVec S67 32) : Prop := ∀ x, (w x).toNat < 86

/-- What the precondition says of a word. -/
theorem word_lt (x : BitVec 32) (h : IntOp.andi (IntOp.cmpi .sge x 0#32) (IntOp.cmpi .slt x 86#32) = 1#1) : x.toNat < 86 := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  have h86 : (86#32 : BitVec 32).toInt = 86 := by decide
  have := x.isLt
  rw [h0, h86, BitVec.toInt_eq_toNat_cond] at h
  split at h <;> omega

/-- The predicate all ones of a table: its words are named. -/
theorem named_of_pre [Cert.Pre_slots_in_range.Facts] (w : IVec S67 32) (a1 a2 a3 a4 a5 a6 a7 a8 a9)
    (h : Cert.Pre_slots_in_range.fn (F := F) w a1 a2 a3 a4 a5 a6 a7 a8 a9 = fun _ => 1#1) : Named w := fun x => by
  have e := congrFun h x
  simp only [Cert.Pre_slots_in_range.fn, andi, cmpi, broadcastInDim, constantI] at e
  exact word_lt _ e

variable (m : (ℓ : Loc nD τ sig) → Buf (Elt F) ℓ)

/-- A block of the state's slot `o 0`, whole in the other two axes. -/
theorem slot_inb (o size arr : Fin 3 → ℕ) (h0 : o 0 < 86) (h1 : o 1 = 0) (h2 : o 2 = 0) (s0 : size 0 = 1) (a0 : arr 0 = 86)
    (s1 : size 1 = arr 1) (s2 : size 2 = arr 2) : ∀ a, (o a + 1) * size a ≤ arr a := by
  intro a
  match a with
  | 0 => rw [s0, a0]; omega
  | 1 => rw [h1, s1]; omega
  | 2 => rw [h2, s2]; omega

theorem even_word (pf : pre0.Contents (Elt F)) (i : grid0.Coords) (h : Named (pf 0)) : cc0_transform_0 k0_off1_inb numel1_S1 pf i 0 < 86 := h (Rect.emb _ _)
theorem odd_word (pf : pre0.Contents (Elt F)) (i : grid0.Coords) (h : Named (pf 0)) : cc0_transform_1 k0_off1_inb numel1_S1 pf i 0 < 86 := h (Rect.emb _ _)

/-- Named words keep the blocks of the state inside it. -/
theorem ok_of_named (h : Named (m (((0 : Dev nD) : Thread nD τ).loc main_arg0))) : Ok m :=
  have e := fun i => even_word (tbl m) i h
  have o := fun i => odd_word (tbl m) i h
  ⟨fun i => ⟨slot_inb _ _ _ (e i) rfl rfl rfl rfl rfl rfl, .inr (Affine.block_words_dvd (of_decide_eq_true rfl) (by decide))⟩,
    fun i => ⟨slot_inb _ _ _ (o i) rfl rfl rfl rfl rfl rfl, .inr (Affine.block_words_dvd (of_decide_eq_true rfl) (by decide))⟩,
    fun i => ⟨slot_inb _ _ _ (e i) rfl rfl rfl rfl rfl rfl, .inl rfl⟩,
    fun i => ⟨slot_inb _ _ _ (o i) rfl rfl rfl rfl rfl rfl, .inl rfl⟩,
    fun i => ⟨slot_inb _ _ _ (e i) rfl rfl rfl rfl rfl rfl, .inr (Affine.block_words_rows (of_decide_eq_true rfl) (by decide))⟩,
    fun i => ⟨slot_inb _ _ _ (o i) rfl rfl rfl rfl rfl rfl, .inr (Affine.block_words_rows (of_decide_eq_true rfl) (by decide))⟩⟩

end Cert.DecIdeal.Gen

end
-- ==== Proof.Dec.Bits.lean ====
module

public import proofs.«01_k».proof.Defs
public import proofs.«01_k».proof.Proof.Gen.Dec
public import proofs.«01_k».proof.Proof.Gen.DecIdeal.Frame
public import proofs.«01_k».proof.Proof.Dec.Ok

/-!
  The frame of the decode step's program: the ideal program's, which holds of any float values, read over the bits.
-/

@[expose] public section

set_option maxRecDepth 100000

namespace Cert.DecBits

open Idealize.ShloMosaic Idealize.ShloMosaic.TcCoe Idealize.SL.Sem

attribute [local instance] Cert.Dec.Gen.facts

/-- The frame of the ideal program's text, read over the bits. -/
def QBits [Cert.Pre_slots_in_range.Facts] : Prop :=
  ∀ (m : (ℓ : Loc DecIdeal.nD DecIdeal.τ DecIdeal.sig) → Buf (Elt Bits) ℓ) (g : Dev DecIdeal.nD → PrngReg),
    (∀ c : Dev DecIdeal.nD, Cert.Pre_slots_in_range.fn (F := Bits) (m ((c.tc : Thread DecIdeal.nD DecIdeal.τ).loc DecIdeal.main_arg0)) (m ((c.tc : Thread DecIdeal.nD DecIdeal.τ).loc DecIdeal.main_arg1)) (m ((c.tc : Thread DecIdeal.nD DecIdeal.τ).loc DecIdeal.main_arg2)) (m ((c.tc : Thread DecIdeal.nD DecIdeal.τ).loc DecIdeal.main_arg3)) (m ((c.tc : Thread DecIdeal.nD DecIdeal.τ).loc DecIdeal.main_arg4)) (m ((c.tc : Thread DecIdeal.nD DecIdeal.τ).loc DecIdeal.main_arg5)) (m ((c.tc : Thread DecIdeal.nD DecIdeal.τ).loc DecIdeal.main_arg6)) (m ((c.tc : Thread DecIdeal.nD DecIdeal.τ).loc DecIdeal.main_arg7)) (m ((c.tc : Thread DecIdeal.nD DecIdeal.τ).loc DecIdeal.main_arg8)) (m ((c.tc : Thread DecIdeal.nD DecIdeal.τ).loc DecIdeal.main_arg9)) = fun _ => 1#1) →
    θ_run (DecIdeal.defs (F := Bits)) (onTc (τ := DecIdeal.τ) (DecIdeal.main (F := Bits))) ⟨m, fun _ => 0, g⟩ (fun r => (∀ c : Dev DecIdeal.nD,
      r.2.mem ((c.tc : Thread DecIdeal.nD DecIdeal.τ).loc DecIdeal.main_arg0) = m ((c.tc : Thread DecIdeal.nD DecIdeal.τ).loc DecIdeal.main_arg0)
      ∧ r.2.mem ((c.tc : Thread DecIdeal.nD DecIdeal.τ).loc DecIdeal.main_arg1) = m ((c.tc : Thread DecIdeal.nD DecIdeal.τ).loc DecIdeal.main_arg1)
      ∧ r.2.mem ((c.tc : Thread DecIdeal.nD DecIdeal.τ).loc DecIdeal.main_arg2) = m ((c.tc : Thread DecIdeal.nD DecIdeal.τ).loc DecIdeal.main_arg2)
      ∧ r.2.mem ((c.tc : Thread DecIdeal.nD DecIdeal.τ).loc DecIdeal.main_arg3) = m ((c.tc : Thread DecIdeal.nD DecIdeal.τ).loc DecIdeal.main_arg3)
      ∧ r.2.mem ((c.tc : Thread DecIdeal.nD DecIdeal.τ).loc DecIdeal.main_arg4) = m ((c.tc : Thread DecIdeal.nD DecIdeal.τ).loc DecIdeal.main_arg4)
      ∧ r.2.mem ((c.tc : Thread DecIdeal.nD DecIdeal.τ).loc DecIdeal.main_arg5) = m ((c.tc : Thread DecIdeal.nD DecIdeal.τ).loc DecIdeal.main_arg5)
      ∧ r.2.mem ((c.tc : Thread DecIdeal.nD DecIdeal.τ).loc DecIdeal.main_arg6) = m ((c.tc : Thread DecIdeal.nD DecIdeal.τ).loc DecIdeal.main_arg6)
      ∧ r.2.mem ((c.tc : Thread DecIdeal.nD DecIdeal.τ).loc DecIdeal.main_arg7) = m ((c.tc : Thread DecIdeal.nD DecIdeal.τ).loc DecIdeal.main_arg7)
      ∧ r.2.mem ((c.tc : Thread DecIdeal.nD DecIdeal.τ).loc DecIdeal.main_arg8) = m ((c.tc : Thread DecIdeal.nD DecIdeal.τ).loc DecIdeal.main_arg8)
      ∧ r.2.mem ((c.tc : Thread DecIdeal.nD DecIdeal.τ).loc DecIdeal.main_arg9) = m ((c.tc : Thread DecIdeal.nD DecIdeal.τ).loc DecIdeal.main_arg9))
      ∧ r.2.sem = fun _ => 0)

theorem qbits [Cert.Pre_slots_in_range.Facts] : QBits := fun m g h =>
  DecIdeal.Gen.frame m g (DecIdeal.Gen.ok_of_named m (DecIdeal.Gen.named_of_pre _ _ _ _ _ _ _ _ _ _ (h 0)))

/-- The two programs have one text, so the two statements are one. -/
theorem same [Cert.Pre_slots_in_range.Facts] : QBits = Cert.quiescent_Dec := by sl_kernel_rfl

/-- The frame of the program over the bits. -/
theorem frame [Cert.Pre_slots_in_range.Facts] : Cert.quiescent_Dec := same ▸ qbits

end Cert.DecBits
-- ==== Proof.Dec.Tile.lean ====
module

public import proofs.«01_k».proof.Proof.Gen.DecIdeal.Skeleton
public import Idealize.ShloMosaic.Lib.Pipeline.Value
public import Idealize.ShloMosaic.Lib.ValueIdx
public import Idealize.ShloMosaic.Lib.Pointwise

/-!
  The rows of the convolution's history that one grid point leaves for one sequence: the two newest rows of the old history, then the
  row of the new token.
-/

@[expose] public section

set_option maxRecDepth 16384

noncomputable section

namespace Cert.DecIdeal.Gen

open Idealize.ShloMosaic

/-- The stored rows as the kernel computes them from the old history and the new row's twenty pieces. -/
def rows (h : Vec Ideal S1x3x2560 .bf16) (w : Fin 20 → Vec Ideal S1x1x128 .f32) : FVec Ideal S1x3x2560 .bf16 :=
  k0_pay70 (F := Ideal) (k0_pay47 h) (k0_pay48 (w 0)) (k0_pay49 (w 1)) (k0_pay50 (w 2)) (k0_pay51 (w 3)) (k0_pay52 (w 4)) (k0_pay53 (w 5))
    (k0_pay54 (w 6)) (k0_pay55 (w 7)) (k0_pay56 (w 8)) (k0_pay57 (w 9)) (k0_pay58 (w 10)) (k0_pay59 (w 11)) (k0_pay60 (w 12))
    (k0_pay61 (w 13)) (k0_pay62 (w 14)) (k0_pay63 (w 15)) (k0_pay64 (w 16)) (k0_pay65 (w 17)) (k0_pay66 (w 18)) (k0_pay67 (w 19))

/-- The same rows, as the kernel spells them for the second sequence of the point. -/
def rows' (h : Vec Ideal S1x3x2560 .bf16) (w : Fin 20 → Vec Ideal S1x1x128 .f32) : FVec Ideal S1x3x2560 .bf16 :=
  k0_pay218 (F := Ideal) (k0_pay217 (k0_pay200 h) (k0_pay201 (w 0)) (k0_pay202 (w 1)) (k0_pay203 (w 2)) (k0_pay204 (w 3)) (k0_pay205 (w 4)) (k0_pay206 (w 5))
    (k0_pay207 (w 6)) (k0_pay208 (w 7)) (k0_pay209 (w 8)) (k0_pay210 (w 9)) (k0_pay211 (w 10)) (k0_pay212 (w 11)) (k0_pay213 (w 12))
    (k0_pay214 (w 13)) (w 14) (w 15) (w 16) (w 17) (w 18) (w 19))

theorem rows'_eq (h : Vec Ideal S1x3x2560 .bf16) (w : Fin 20 → Vec Ideal S1x1x128 .f32) : rows' h w = rows h w := rfl

/-- The new row's pieces, each as one row of lanes. -/
def lanes (w : Fin 20 → Vec Ideal S1x1x128 .f32) (q : Fin 20) : FVec Ideal S1x128 .f32 := shapeCast S1x128 (w q) shapeCasts_S1x1x128_S1x128

/-- The new row. -/
def newRow (w : Fin 20 → Vec Ideal S1x1x128 .f32) : FVec Ideal S1x2560 .f32 :=
  concatenate S1x2560 1 (List.ofFn fun q : Fin 20 => (⟨S1x128, lanes w q⟩ : (s : Shape) × (s.Idx → EReal)))
    concatenates_S1x128_S1x128_S1x128_S1x128_S1x128_S1x128_S1x128_S1x128_S1x128_S1x128_S1x128_S1x128_S1x128_S1x128_S1x128_S1x128_S1x128_S1x128_S1x128_S1x128_S1x2560_d1

theorem newRow_apply (w : Fin 20 → Vec Ideal S1x1x128 .f32) (c : Fin 2560) (q : Fin 20) (l : Fin 128) (hq : c.val / 128 = q.val) (hl : c.val % 128 = l.val) :
    newRow w (ix2 (0 : Fin 1) c) = w q (ix3 (0 : Fin 1) (0 : Fin 1) l) := by
  unfold newRow
  refine (Idealize.ShloMosaic.concatenate_ofFn_apply (1 : Fin S1x2560.rank) (lanes w) _ rfl 128 rfl (ix2 (0 : Fin 1) c) q hq (ix2 (0 : Fin 1) l) hl.symm ?_).trans ?_
  · intro b hb
    fin_cases b
    · rfl
    · exact absurd rfl hb
  · unfold lanes
    simp only [pointwise]

/-- The two newest rows of the old history. -/
def oldRows (h : Vec Ideal S1x3x2560 .bf16) : FVec Ideal S2x2560 .f32 :=
  extractStridedSlice S2x2560 ![1, 0] (extf .f32 (shapeCast S3x2560 h shapeCasts_S1x3x2560_S3x2560 : FVec Ideal S3x2560 .bf16) bitsLt_bf16_f32) slices_S3x2560_o1_0_S2x2560

theorem oldRows_apply (h : Vec Ideal S1x3x2560 .bf16) (k : Fin 2) (c : Fin 2560) (k' : Fin 3) (hk : k'.val = k.val + 1) :
    oldRows h (ix2 k c) = h (ix3 (0 : Fin 1) k' c) := by
  unfold oldRows
  simp only [pointwise]
  congr 1
  funext a
  fin_cases a
  · rfl
  · exact Fin.ext (by show _ = k'.val; rw [hk]; simp; omega)
  · exact Fin.ext (by simp)

theorem rows_unfold (h : Vec Ideal S1x3x2560 .bf16) (w : Fin 20 → Vec Ideal S1x1x128 .f32) :
    rows h w = shapeCast S1x3x2560 (concatenate S3x2560 0 [⟨S2x2560, oldRows h⟩, ⟨S1x2560, newRow w⟩] concatenates_S2x2560_S1x2560_S3x2560_d0 : FVec Ideal S3x2560 .bf16)
      shapeCasts_S3x2560_S1x3x2560 := rfl

theorem rows_old (h : Vec Ideal S1x3x2560 .bf16) (w : Fin 20 → Vec Ideal S1x1x128 .f32) (k : Fin 3) (c : Fin 2560) (hk : k.val < 2) :
    rows h w (ix3 (0 : Fin 1) k c) = h (ix3 (0 : Fin 1) ⟨k.val + 1, by omega⟩ c) := by
  rw [rows_unfold]
  refine Eq.trans (b := concatenate S3x2560 0 [⟨S2x2560, oldRows h⟩, ⟨S1x2560, newRow w⟩] concatenates_S2x2560_S1x2560_S3x2560_d0 (ix2 k c)) ?_ ?_
  · generalize concatenate S3x2560 0 _ _ = z
    simp only [pointwise]
  · refine (concatenate_pair_apply_left (0 : Fin S3x2560.rank) (oldRows h) (newRow w) _ (ix2 k c) rfl (ix2 (⟨k.val, hk⟩ : Fin 2) c) ?_).trans (oldRows_apply h _ c _ rfl)
    intro b
    fin_cases b <;> rfl

theorem rows_new (h : Vec Ideal S1x3x2560 .bf16) (w : Fin 20 → Vec Ideal S1x1x128 .f32) (k : Fin 3) (c : Fin 2560) (hk : k.val = 2)
    (q : Fin 20) (l : Fin 128) (hq : c.val / 128 = q.val) (hl : c.val % 128 = l.val) :
    rows h w (ix3 (0 : Fin 1) k c) = w q (ix3 (0 : Fin 1) (0 : Fin 1) l) := by
  rw [rows_unfold]
  refine Eq.trans (b := concatenate S3x2560 0 [⟨S2x2560, oldRows h⟩, ⟨S1x2560, newRow w⟩] concatenates_S2x2560_S1x2560_S3x2560_d0 (ix2 k c)) ?_ ?_
  · generalize concatenate S3x2560 0 _ _ = z
    simp only [pointwise]
  · refine (concatenate_pair_apply_right (0 : Fin S3x2560.rank) (oldRows h) (newRow w) _ (ix2 k c) rfl rfl (ix2 (0 : Fin 1) c) ?_ ?_).trans (newRow_apply w c q l hq hl)
    · intro b hb
      fin_cases b
      · exact absurd rfl hb
      · rfl
    · show 0 + 2 = k.val
      omega

end Cert.DecIdeal.Gen

end
-- ==== Proof.Dec.Block.lean ====
module

public import proofs.«01_k».proof.Proof.Gen.DecIdeal.Frame
public import proofs.«01_k».proof.Proof.Dec.Tile
public import Idealize.ShloMosaic.Lib.Pipeline.ReadBack
public import Idealize.ShloMosaic.Lib.Ring
public import Idealize.ShloMosaic.Lib.Writes
public import Idealize.ShloMosaic.Lib.WholeRead

/-!
  What one grid point leaves in its block of the new history: for each of its two sequences, the two newest rows of the old history
  and the row of the new token.
-/

@[expose] public section

set_option maxRecDepth 16384

noncomputable section

namespace Cert.DecIdeal.Gen

open Idealize.ShloMosaic Idealize.ShloMosaic.TcCoe Idealize.SL.Sem

/-- Where the new row's pieces start in the planes. -/
def offs (i : grid0.Coords) (r : BitVec 32) : Fin 20 → Fin 3 → ℕ :=
  ![k0_off2 i r, k0_off3 i r, k0_off4 i r, k0_off5 i r, k0_off6 i r, k0_off7 i r, k0_off8 i r, k0_off9 i r, k0_off10 i r, k0_off11 i r, k0_off12 i r, k0_off13 i r, k0_off14 i r, k0_off15 i r, k0_off16 i r, k0_off17 i r, k0_off18 i r, k0_off19 i r, k0_off20 i r, k0_off21 i r]

theorem offs_eq : ∀ (i : grid0.Coords) (r : Fin 2) (q : Fin 20), offs i (BitVec.ofNat 32 r.val) q = ![q.val, 2 * (i 0).val + r.val, 0] := by
  decide +kernel

theorem offs_inb (i : grid0.Coords) (r : Fin 2) (q : Fin 20) (a : Fin 3) : offs i (BitVec.ofNat 32 r.val) q a + S1x1x128.size a ≤ S20x64x128.size a := by
  rw [offs_eq]
  have hi : (i 0).val < 30 := (i 0).isLt
  have := q.isLt
  have := r.isLt
  match a with
  | 0 => show q.val + 1 ≤ 20; omega
  | 1 => show 2 * (i 0).val + r.val + 1 ≤ 64; omega
  | 2 => show 0 + 128 ≤ 128; omega

/-- The row of the planes that sequence `r` of a point reads. -/
def seq (i : grid0.Coords) (r : Fin 2) : Fin 64 := ⟨2 * (i 0).val + r.val, by have hi : (i 0).val < 30 := (i 0).isLt; omega⟩

/-- One sequence's rows from its old history `h` and row `n` of the planes `x`. -/
def step (h : Vec Ideal S1x3x2560 .bf16) (x : Vec Ideal S20x64x128 .f32) (n : Fin 64) (k : Fin 3) (c : Fin 2560) : EReal :=
  if hk : k.val < 2 then h (ix3 (0 : Fin 1) (⟨k.val + 1, by omega⟩ : Fin 3) c)
  else x (ix3 (⟨c.val / 128, by omega⟩ : Fin 20) n (⟨c.val % 128, by omega⟩ : Fin 128))

/-- The block of a point. -/
def block (i : grid0.Coords) (h0 h1 : Vec Ideal S1x3x2560 .bf16) (x : Vec Ideal S20x64x128 .f32) : Vec Ideal S2x3x2560 .bf16 := fun j =>
  step (if (j 0).val = 0 then h0 else h1) x (seq i (j 0)) (j 1) (j 2)

/-- The loads of the new row's pieces. -/
abbrev pieces {m : Memref sig .tc .vmem S20x64x128 .f32} (h : m.IsWhole) (x : Vec Ideal S20x64x128 .f32) (i : grid0.Coords) (r : Fin 2) (q : Fin 20) :
    Vec Ideal S1x1x128 .f32 :=
  View.readAt (Elt Ideal) m.view (Rect.unit (s := S20x64x128) (offs i (BitVec.ofNat 32 r.val) q) S1x1x128.size (offs_inb i r q)).toLoadRect (h.unread x)

/-- The load of the old history. -/
abbrev old {m : Memref sig .tc .vmem S1x3x2560 .bf16} (h : m.IsWhole) (x : Vec Ideal S1x3x2560 .bf16) : Vec Ideal S1x3x2560 .bf16 :=
  View.readAt (Elt Ideal) m.view (Rect.unit (s := S1x3x2560) ![0, 0, 0] S1x3x2560.size inb_S1x3x2560_S1x3x2560_0_0_0).toLoadRect (h.unread x)

theorem old_eq {m : Memref sig .tc .vmem S1x3x2560 .bf16} (h : m.IsWhole) (x : Vec Ideal S1x3x2560 .bf16) : old h x = x := by
  funext y
  unfold old
  rw [h.readAt_unread]
  congr 1
  funext a
  refine Fin.ext ?_
  fin_cases a <;> simp [LoadRect.idx, Rect.unit]

theorem pieces_apply {m : Memref sig .tc .vmem S20x64x128 .f32} (h : m.IsWhole) (x : Vec Ideal S20x64x128 .f32) (i : grid0.Coords) (r : Fin 2) (q : Fin 20)
    (l : Fin 128) : pieces h x i r q (ix3 (0 : Fin 1) (0 : Fin 1) l) = x (ix3 q (seq i r) l) := by
  unfold pieces
  rw [h.readAt_unread]
  congr 1
  have e := offs_eq i r q
  funext a
  refine Fin.ext ?_
  show offs i (BitVec.ofNat 32 r.val) q a + 1 * ((ix3 (0 : Fin 1) (0 : Fin 1) l : S1x1x128.Idx) a).val = _
  rw [e]
  match a with
  | 0 => show q.val + 1 * 0 = q.val; omega
  | 1 => show 2 * (i 0).val + r.val + 1 * 0 = 2 * (i 0).val + r.val; omega
  | 2 => show 0 + 1 * l.val = l.val; omega

/-- The rows the kernel stores for sequence `r` of a point. -/
theorem rows_step {m6 : Memref sig .tc .vmem S1x3x2560 .bf16} (h6 : m6.IsWhole) {m8 : Memref sig .tc .vmem S20x64x128 .f32} (h8 : m8.IsWhole)
    (h : Vec Ideal S1x3x2560 .bf16) (x : Vec Ideal S20x64x128 .f32) (i : grid0.Coords) (r : Fin 2) (y : S1x3x2560.Idx) :
    rows (old h6 h) (pieces h8 x i r) y = step h x (seq i r) (y 1) (y 2) := by
  rw [old_eq]
  suffices e : ∀ (k : Fin 3) (c : Fin 2560), rows h (pieces h8 x i r) (ix3 (0 : Fin 1) k c) = step h x (seq i r) k c by
    have hy : y = ix3 (0 : Fin 1) (y 1) (y 2) := by
      funext a
      match a with
      | 0 => exact Fin.ext (by have : (y 0).val < 1 := (y 0).isLt; show (y 0).val = 0; omega)
      | 1 => rfl
      | 2 => rfl
    exact (congrArg _ hy).trans (e _ _)
  intro k c
  unfold step
  by_cases hk : k.val < 2
  · rw [rows_old _ _ _ _ hk, dif_pos hk]
  · rw [dif_neg hk, rows_new _ _ k c (by omega) ⟨c.val / 128, by omega⟩ ⟨c.val % 128, by omega⟩ rfl rfl, pieces_apply]

/-- Sequence `r`'s rows are the block's plane `r`. -/
theorem piece_block (i : grid0.Coords) (h0 h1 h : Vec Ideal S1x3x2560 .bf16) (x : Vec Ideal S20x64x128 .f32) (r : Fin 2)
    (hr : (if r.val = 0 then h0 else h1) = h) (off : Fin 3 → ℕ) (e0 : off 0 = r.val) (e1 : off 1 = 0) (e2 : off 2 = 0)
    (hin : ∀ a, off a + S1x3x2560.size a ≤ S2x3x2560.size a) (y : S1x3x2560.Idx) :
    step h x (seq i r) (y 1) (y 2) = block i h0 h1 x ((Rect.unit (s := S2x3x2560) off S1x3x2560.size hin).emb y) := by
  have hy : (y 0).val < 1 := (y 0).isLt
  have z0 : ((Rect.unit (s := S2x3x2560) off S1x3x2560.size hin).emb y) 0 = r := Fin.ext (by show off 0 + 1 * (y 0).val = r.val; omega)
  have z1 : ((Rect.unit (s := S2x3x2560) off S1x3x2560.size hin).emb y) 1 = y 1 := Fin.ext (by show off 1 + 1 * (y 1).val = (y 1).val; omega)
  have z2 : ((Rect.unit (s := S2x3x2560) off S1x3x2560.size hin).emb y) 2 = y 2 := Fin.ext (by show off 2 + 1 * (y 2).val = (y 2).val; omega)
  unfold block
  rw [z0, z1, z2, hr]

/-- The block left at a point of case A. -/
theorem out15_A (c : Dev nD) (i : grid0.Coords) (arg2 : Memref sig .tc .vmem S1x2048x128 .i8) (harg2 : arg2.IsWhole) (arg3 : Memref sig .tc .vmem S1x2048x128 .i8) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x3x2560 .bf16) (harg6 : arg6.IsWhole) (arg7 : Memref sig .tc .vmem S1x3x2560 .bf16) (harg7 : arg7.IsWhole) (arg8 : Memref sig .tc .vmem S20x64x128 .f32) (harg8 : arg8.IsWhole) (arg9 : Memref sig .tc .vmem S64x128 .f32) (harg9 : arg9.IsWhole) (arg10 : Memref sig .tc .vmem S4x2560 .f32) (harg10 : arg10.IsWhole) (arg11 : Memref sig .tc .vmem S1x2560 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S2x2048x128 .i8) (harg14 : arg14.IsWhole) (arg15 : Memref sig .tc .vmem S2x1x2048 .f32) (harg15 : arg15.IsWhole) (arg16 : Memref sig .tc .vmem S2x1x2048 .f32) (harg16 : arg16.IsWhole) (arg17 : Memref sig .tc .vmem S2x3x2560 .bf16) (harg17 : arg17.IsWhole) (arg18 : Memref sig .tc .vmem S16x64x128 .f32) (harg18 : arg18.IsWhole) (arg19 : Memref sig .tc .vmem S16x64x128 .f32) (harg19 : arg19.IsWhole) (hc0 : cond0_0 i)
    (x0 : Vec Ideal S1x2048x128 .i8) (x1 : Vec Ideal S1x2048x128 .i8) (x2 : Vec Ideal S1x1x2048 .f32) (x3 : Vec Ideal S1x1x2048 .f32) (x4 : Vec Ideal S1x3x2560 .bf16) (x5 : Vec Ideal S1x3x2560 .bf16) (x6 : Vec Ideal S20x64x128 .f32) (x7 : Vec Ideal S64x128 .f32) (x8 : Vec Ideal S4x2560 .f32) (x9 : Vec Ideal S1x2560 .f32) (x10 : Vec Ideal S1x128 .f32) (x11 : Vec Ideal S1x2048 .f32) (xt0 : TbBuf0 (F := Ideal) c tbM0_0) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xt0 = block i x4 x5 x6 := by
  unfold out0_A_15
  funext y
  refine View.read_writes_apply_of_pieces _ _ (block i x4 x5 x6) _ (fun p hp => View.PiecesOf.mem ?_ p hp) y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xt0 y)
  refine ⟨fun y => ?_, fun y => ?_, trivial⟩
  · refine Eq.trans (b := rows' (old harg7 x5) (pieces harg8 x6 i 1) y) rfl ?_
    rw [rows'_eq, rows_step]
    exact piece_block i x4 x5 x5 x6 1 rfl ![1, 0, 0] rfl rfl rfl inb_S2x3x2560_S1x3x2560_1_0_0 y
  · refine Eq.trans (b := rows (old harg6 x4) (pieces harg8 x6 i 0) y) rfl ?_
    rw [rows_step]
    exact piece_block i x4 x5 x4 x6 0 rfl ![0, 0, 0] rfl rfl rfl inb_S2x3x2560_S1x3x2560_0_0_0 y

/-- The block left at a point of case B. -/
theorem out15_B (c : Dev nD) (i : grid0.Coords) (arg2 : Memref sig .tc .vmem S1x2048x128 .i8) (harg2 : arg2.IsWhole) (arg3 : Memref sig .tc .vmem S1x2048x128 .i8) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x3x2560 .bf16) (harg6 : arg6.IsWhole) (arg7 : Memref sig .tc .vmem S1x3x2560 .bf16) (harg7 : arg7.IsWhole) (arg8 : Memref sig .tc .vmem S20x64x128 .f32) (harg8 : arg8.IsWhole) (arg9 : Memref sig .tc .vmem S64x128 .f32) (harg9 : arg9.IsWhole) (arg10 : Memref sig .tc .vmem S4x2560 .f32) (harg10 : arg10.IsWhole) (arg11 : Memref sig .tc .vmem S1x2560 .f32) (harg11 : arg11.IsWhole) (arg12 : Memref sig .tc .vmem S1x128 .f32) (harg12 : arg12.IsWhole) (arg13 : Memref sig .tc .vmem S1x2048 .f32) (harg13 : arg13.IsWhole) (arg14 : Memref sig .tc .vmem S2x2048x128 .i8) (harg14 : arg14.IsWhole) (arg15 : Memref sig .tc .vmem S2x1x2048 .f32) (harg15 : arg15.IsWhole) (arg16 : Memref sig .tc .vmem S2x1x2048 .f32) (harg16 : arg16.IsWhole) (arg17 : Memref sig .tc .vmem S2x3x2560 .bf16) (harg17 : arg17.IsWhole) (arg18 : Memref sig .tc .vmem S16x64x128 .f32) (harg18 : arg18.IsWhole) (arg19 : Memref sig .tc .vmem S16x64x128 .f32) (harg19 : arg19.IsWhole) (hc0 : ¬cond0_0 i)
    (x0 : Vec Ideal S1x2048x128 .i8) (x1 : Vec Ideal S1x2048x128 .i8) (x2 : Vec Ideal S1x1x2048 .f32) (x3 : Vec Ideal S1x1x2048 .f32) (x4 : Vec Ideal S1x3x2560 .bf16) (x5 : Vec Ideal S1x3x2560 .bf16) (x6 : Vec Ideal S20x64x128 .f32) (x7 : Vec Ideal S64x128 .f32) (x8 : Vec Ideal S4x2560 .f32) (x9 : Vec Ideal S1x2560 .f32) (x10 : Vec Ideal S1x128 .f32) (x11 : Vec Ideal S1x2048 .f32) (xt0 : TbBuf0 (F := Ideal) c tbM0_0) (xs0 : Vec Ideal S16x64x128 .f32) (xs1 : Vec Ideal S16x64x128 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xt0 xs0 xs1 = block i x4 x5 x6 := by
  unfold out0_B_15
  funext y
  refine View.read_writes_apply_of_pieces _ _ (block i x4 x5 x6) _ (fun p hp => View.PiecesOf.mem ?_ p hp) y (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xt0 xs0 xs1 y)
  refine ⟨fun y => ?_, fun y => ?_, trivial⟩
  · refine Eq.trans (b := rows' (old harg7 x5) (pieces harg8 x6 i 1) y) rfl ?_
    rw [rows'_eq, rows_step]
    exact piece_block i x4 x5 x5 x6 1 rfl ![1, 0, 0] rfl rfl rfl inb_S2x3x2560_S1x3x2560_1_0_0 y
  · refine Eq.trans (b := rows (old harg6 x4) (pieces harg8 x6 i 0) y) rfl ?_
    rw [rows_step]
    exact piece_block i x4 x5 x4 x6 0 rfl ![0, 0, 0] rfl rfl rfl inb_S2x3x2560_S1x3x2560_0_0_0 y

end Cert.DecIdeal.Gen

end
-- ==== Proof.Dec.RefValue.lean ====
module

public import proofs.«01_k».proof.Proof.Gen.DecRefIdeal.Run
public import Idealize.ShloMosaic.Lib.Pointwise
public import Idealize.ShloMosaic.Lib.Quiescent
public import Idealize.ShloMosaic.Lib.ValueIdxCore

/-!
  What the result of the plain program holds after the run: the history's last two rows at the slot the table names, then the new
  token's row.
-/

@[expose] public section

set_option maxRecDepth 16384

noncomputable section

namespace Cert.DecRefIdeal.Gen

open Idealize.ShloMosaic Idealize.ShloMosaic.TcCoe Idealize.SL.Sem

/-- The slot a word names: read signed and clamped into the 86 slots. -/
def slot (w : BitVec 32) : Fin 86 := ⟨min w.toInt.toNat 85, by omega⟩

/-- The history after the step, from the table, the old history and the new tokens' planes. -/
def hist (tab : IVec S67 32) (old : FVec Ideal S86x3x2560 .bf16) (new : FVec Ideal S20x2176x128 .f32) : FVec Ideal S60x3x2560 .bf16 := fun j =>
  if h : (j 1).val < 2 then
    old (ix3 (slot (tab (ix1 ⟨(j 0).val, Nat.lt_of_lt_of_le (j 0).isLt (by decide)⟩))) (⟨(j 1).val + 1, by omega⟩ : Fin 3) (j 2))
  else
    new (ix3 (⟨(j 2).val / 128, by have : (j 2).val < 2560 := (j 2).isLt; omega⟩ : Fin 20)
      (⟨(j 0).val, Nat.lt_of_lt_of_le (j 0).isLt (by decide)⟩ : Fin 2176) (⟨(j 2).val % 128, by omega⟩ : Fin 128))

abbrev gd := gather_S86x3x2560_S60x1_S60x3x2560_12_0_n_n_0_1_132560

/-- The gathered history: the old one at the slot named. -/
theorem gather_apply (x : FVec Ideal S86x3x2560 .bf16) (idx : IVec S60x1 32) (b : Fin 60) (k : Fin 3) (c : Fin 2560) :
    Host.gather gd x idx (ix3 b k c) = x (ix3 (slot (idx (ix2 b (0 : Fin 1)))) k c) := by
  unfold Host.gather
  congr 1
  funext a
  refine Fin.ext ?_
  show gd.start (ix3 b k c) idx a + gd.batchCoord (ix3 b k c) a + gd.offCoord (ix3 b k c) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gd.startIndexMap from List.mem_singleton.mpr rfl)]
    have hsi : gd.siIdx (ix3 b k c) ⟨List.idxOf (0 : Fin 3) gd.startIndexMap, List.idxOf_lt_length_iff.2 (List.mem_singleton.mpr rfl)⟩
        = ix2 b (0 : Fin 1) := by
      funext e; refine Fin.ext ?_
      match e with
      | ⟨0, _⟩ => rfl
      | ⟨1, _⟩ => rfl
    rw [hsi]
    rfl
  · have hs : gd.start (ix3 b k c) idx (1 : Fin 3) = 0 := by
      unfold GatherDims.start
      rw [dif_neg (by decide)]
    rw [hs]
    simp only [Nat.zero_add]
    rfl
  · have hs : gd.start (ix3 b k c) idx (2 : Fin 3) = 0 := by
      unfold GatherDims.start
      rw [dif_neg (by decide)]
    rw [hs]
    simp only [Nat.zero_add]
    rfl

/-- The last two rows of the gathered history. -/
def kept (tab : IVec S67 32) (old : FVec Ideal S86x3x2560 .bf16) : FVec Ideal S60x2x2560 .f32 :=
  extractStridedSlice S60x2x2560 ![0, 1, 0] (extf .f32 (Host.gather gd old (broadcastInDim S60x1 ![0] bcast_S60_S60x1_0 (extractStridedSlice S60 ![0] tab slices_S67_S60_0))) bitsLt_bf16_f32) slices_S60x3x2560_S60x2x2560_0_1_0

theorem kept_apply (tab : IVec S67 32) (old : FVec Ideal S86x3x2560 .bf16) (b : Fin 60) (k : Fin 2) (c : Fin 2560) :
    kept tab old (ix3 b k c) = old (ix3 (slot (tab (ix1 ⟨b.val, by omega⟩))) (⟨k.val + 1, by omega⟩ : Fin 3) c) := by
  refine Eq.trans (b := Host.gather gd old (broadcastInDim S60x1 ![0] bcast_S60_S60x1_0 (extractStridedSlice S60 ![0] tab slices_S67_S60_0)) (ix3 b (⟨k.val + 1, by omega⟩ : Fin 3) c)) ?_ ?_
  · unfold kept
    generalize Host.gather gd old _ = z
    simp only [pointwise]
    congr 1
    funext a
    fin_cases a
    · exact Fin.ext (by simp)
    · exact Fin.ext (by simp; omega)
    · exact Fin.ext (by simp)
  · rw [gather_apply]
    congr 2
    simp only [pointwise]
    congr 2
    funext a
    fin_cases a
    exact Fin.ext (by simp)

/-- The new tokens' rows. -/
def fresh (new : FVec Ideal S20x2176x128 .f32) : FVec Ideal S60x1x2560 .f32 :=
  shapeCast _ (transpose S60x20x128 [1, 0, 2] (extractStridedSlice S20x60x128 ![0, 0, 0] new slices_S20x2176x128_S20x60x128_0_0_0) transposes_S20x60x128_S60x20x128_1_0_2) shapeCasts_S60x20x128_S60x1x2560

theorem fresh_apply (new : FVec Ideal S20x2176x128 .f32) (b : Fin 60) (c : Fin 2560) :
    fresh new (ix3 b (0 : Fin 1) c) = new (ix3 (⟨c.val / 128, by omega⟩ : Fin 20) (⟨b.val, by omega⟩ : Fin 2176) (⟨c.val % 128, by omega⟩ : Fin 128)) := by
  unfold fresh
  simp only [pointwise]
  congr 1
  funext a
  fin_cases a
  · exact Fin.ext (by simp)
  · exact Fin.ext (by simp)
  · exact Fin.ext (by simp)

/-- The plain program's result, element by element. -/
theorem hist_eq (tab : IVec S67 32) (old : FVec Ideal S86x3x2560 .bf16) (new : FVec Ideal S20x2176x128 .f32) :
    (truncf .bf16 (concatenate S60x3x2560 1 [⟨S60x2x2560, kept tab old⟩, ⟨S60x1x2560, fresh new⟩] concatenates_S60x2x2560_S60x1x2560_S60x3x2560_d1 : FVec Ideal S60x3x2560 .f32) bitsLt_bf16_f32 : FVec Ideal S60x3x2560 .bf16)
      = hist tab old new := by
  funext j
  suffices h : ∀ (b : Fin 60) (k : Fin 3) (c : Fin 2560),
      concatenate S60x3x2560 1 [⟨S60x2x2560, kept tab old⟩, ⟨S60x1x2560, fresh new⟩] concatenates_S60x2x2560_S60x1x2560_S60x3x2560_d1 (ix3 b k c)
        = hist tab old new (ix3 b k c) by
    have hj : j = ix3 (j 0) (j 1) (j 2) := by funext a; fin_cases a <;> rfl
    rw [hj]
    exact h _ _ _
  intro b k c
  by_cases hk : k.val < 2
  · refine (concatenate_pair_apply_left (1 : Fin S60x3x2560.rank) (kept tab old) (fresh new) _ (ix3 b k c) rfl (ix3 b (⟨k.val, hk⟩ : Fin 2) c) ?_).trans ?_
    · intro a
      fin_cases a <;> rfl
    · rw [kept_apply]
      unfold hist
      rw [dif_pos (show ((ix3 b k c : S60x3x2560.Idx) 1).val < 2 from hk)]
      rfl
  · refine (concatenate_pair_apply_right (1 : Fin S60x3x2560.rank) (kept tab old) (fresh new) _ (ix3 b k c) rfl rfl (ix3 b (0 : Fin 1) c) ?_ ?_).trans ?_
    · intro a ha
      fin_cases a
      · rfl
      · exact absurd rfl ha
      · rfl
    · show 0 + 2 = k.val
      omega
    · rw [fresh_apply]
      unfold hist
      rw [dif_neg (show ¬((ix3 b k c : S60x3x2560.Idx) 1).val < 2 from hk)]
      rfl

variable (m : (ℓ : Loc nD τ sig) → Buf (Elt Ideal) ℓ) (ρ : Dev nD → PrngReg)

/-- The run's result is that history. -/
theorem run : θ_run defs (onTc (τ := τ) (main (F := Ideal))) ⟨m, fun _ => 0, ρ⟩ fun r => ∀ c : Dev nD,
      r.2.mem ((c.tc : Thread nD τ).loc main_v8)
        = hist (m ((c.tc : Thread nD τ).loc main_arg0)) (m ((c.tc : Thread nD τ).loc main_arg3)) (m ((c.tc : Thread nD τ).loc main_arg4)) :=
  (θ_run defs _ _).mono (fun _ h c => (h c).1.trans (hist_eq _ _ _)) (Cert.DecRefIdeal.Value.run m ρ)

/-- The arguments unchanged and, there being no semaphore, every counter zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun r h => ⟨fun c => (h c).2, sem_eq_zero_of_no_sems rfl r.2⟩) (Cert.DecRefIdeal.Value.run m ρ)

end Cert.DecRefIdeal.Gen

end
-- ==== Proof.Dec.Value.lean ====
module

public import proofs.«01_k».proof.Proof.Dec.Block
public import proofs.«01_k».proof.Proof.Dec.Ok
public import proofs.«01_k».proof.Proof.Dec.RefValue
public import Idealize.ShloMosaic.Lib.Pipeline.Value
public import Idealize.ShloMosaic.Lib.Pipeline.ValueKit.Geometry

/-!
  What the decode step's program leaves in the new history: the formula the plain program's result is.
-/

@[expose] public section

set_option maxRecDepth 16384

noncomputable section

namespace Cert.DecIdeal.Gen

open Idealize.ShloMosaic Idealize.ShloMosaic.TcCoe Idealize.ShloMosaic.Tactic
open Idealize.SL Idealize.SL.Sem
open Idealize.ShloMosaic.Pipeline (Dat Cfg Window)
open Cert.DecRefIdeal.Gen (hist slot)

variable (m : (ℓ : Loc nD τ sig) → Buf (Elt Ideal) ℓ) (ρ : Dev nD → PrngReg) (hO : Ok m)

/-- The clamp leaves a named word as it is. -/
theorem slot_of_lt (w : BitVec 32) (h : w.toNat < 86) : (slot w).val = w.toNat := by
  show min w.toInt.toNat 85 = w.toNat
  have := BitVec.toInt_eq_toNat_of_lt (x := w) (by omega)
  rw [this]
  omega

theorem coord_eq : ∀ t : Fin grid0.N, (grid0.coords t 0).val = t.val := by decide +kernel

theorem off1_eq : ∀ (i : grid0.Coords) (r : Fin 2), k0_off1 i (BitVec.ofNat 32 r.val) 0 = 2 * (i 0).val + r.val := by decide +kernel

/-- The table, as the launch finds it. -/
abbrev tab : IVec S67 32 := m (((0 : Dev nD) : Thread nD τ).loc main_arg0)

/-- The word of sequence `r` of a point. -/
theorem word_at (i : grid0.Coords) (r : Fin 2) (b : Fin 67) (hb : b.val = 2 * (i 0).val + r.val) (x : S67.Idx)
    (hx : (x 0).val = k0_off1 i (BitVec.ofNat 32 r.val) 0) : x = ix1 b := by
  funext a
  match a with
  | 0 => exact Fin.ext (by rw [hx, off1_eq]; exact hb.symm)

theorem idx4 (t : Fin (cfgM m hO).N) (b : Fin 67) (hb : b.val = 2 * t.val) :
    cc0_transform_4 k0_off1_inb numel1_S1 (tbl m) (grid0.coords t) 0 = (tab m (ix1 b)).toNat := by
  show (tab m _).toNat = _
  exact congrArg (fun x => (tab m x).toNat) (word_at (grid0.coords t) 0 b (by rw [coord_eq]; exact hb) _ rfl)

theorem idx5 (t : Fin (cfgM m hO).N) (b : Fin 67) (hb : b.val = 2 * t.val + 1) :
    cc0_transform_5 k0_off1_inb numel1_S1 (tbl m) (grid0.coords t) 0 = (tab m (ix1 b)).toNat := by
  show (tab m _).toNat = _
  exact congrArg (fun x => (tab m x).toNat) (word_at (grid0.coords t) 1 b (by rw [coord_eq]; exact hb) _ rfl)

/-- A point's three blocks: the old history of its first sequence, -/
def old4 (c : Dev nD) (t : Fin (cfgM m hO).N) : Vec Ideal S1x3x2560 .bf16 := iblk m hO c 4 t
/-- of its second, -/
def old5 (c : Dev nD) (t : Fin (cfgM m hO).N) : Vec Ideal S1x3x2560 .bf16 := iblk m hO c 5 t
/-- and the planes of the new tokens. -/
def new6 (c : Dev nD) (t : Fin (cfgM m hO).N) : Vec Ideal S20x64x128 .f32 := iblk m hO c 6 t

/-- The first is the state at the slot the table names, -/
theorem iblk4_apply (c : Dev nD) (t : Fin (cfgM m hO).N) (b : Fin 67) (hb : b.val = 2 * t.val) (h : Named (tab m)) (k : Fin 3) (q : Fin 2560) :
    old4 m hO c t (ix3 (0 : Fin 1) k q) = V m c main_arg3 (ix3 (slot (tab m (ix1 b))) k q) := by
  show V m c main_arg3 ((((cfgM m hO).win 4).blk t).view.emb (ix3 (0 : Fin 1) k q)) = _
  have key : ∀ a : Fin 3, cc0_transform_4 k0_off1_inb numel1_S1 (tbl m) (grid0.coords t) a * S1x3x2560.size a + 1 * ((ix3 (0 : Fin 1) k q : S1x3x2560.Idx) a).val
      = ((ix3 (slot (tab m (ix1 b))) k q : S86x3x2560.Idx) a).val
    | 0 => by
      rw [idx4 m hO t b hb]
      show _ * 1 + 1 * 0 = (slot _).val
      rw [slot_of_lt _ (h _)]
      omega
    | 1 => by show 0 * 3 + 1 * k.val = k.val; omega
    | 2 => by show 0 * 2560 + 1 * q.val = q.val; omega
  exact congrArg (V m c main_arg3) (funext fun a => Fin.ext (key a))

/-- so is the second, -/
theorem iblk5_apply (c : Dev nD) (t : Fin (cfgM m hO).N) (b : Fin 67) (hb : b.val = 2 * t.val + 1) (h : Named (tab m)) (k : Fin 3) (q : Fin 2560) :
    old5 m hO c t (ix3 (0 : Fin 1) k q) = V m c main_arg3 (ix3 (slot (tab m (ix1 b))) k q) := by
  show V m c main_arg3 ((((cfgM m hO).win 5).blk t).view.emb (ix3 (0 : Fin 1) k q)) = _
  have key : ∀ a : Fin 3, cc0_transform_5 k0_off1_inb numel1_S1 (tbl m) (grid0.coords t) a * S1x3x2560.size a + 1 * ((ix3 (0 : Fin 1) k q : S1x3x2560.Idx) a).val
      = ((ix3 (slot (tab m (ix1 b))) k q : S86x3x2560.Idx) a).val
    | 0 => by
      rw [idx5 m hO t b hb]
      show _ * 1 + 1 * 0 = (slot _).val
      rw [slot_of_lt _ (h _)]
      omega
    | 1 => by show 0 * 3 + 1 * k.val = k.val; omega
    | 2 => by show 0 * 2560 + 1 * q.val = q.val; omega
  exact congrArg (V m c main_arg3) (funext fun a => Fin.ext (key a))

/-- and the third is the first rows of the planes. -/
theorem iblk6_apply (c : Dev nD) (t : Fin (cfgM m hO).N) (p : Fin 20) (n : Fin 64) (l : Fin 128) (N : Fin 2176) (hN : N.val = n.val) :
    new6 m hO c t (ix3 p n l) = V m c main_arg4 (ix3 p N l) := by
  show V m c main_arg4 ((((cfgM m hO).win 6).blk t).view.emb (ix3 p n l)) = _
  have key : ∀ a : Fin 3, cc0_transform_6 (grid0.coords t) a * S20x64x128.size a + 1 * ((ix3 p n l : S20x64x128.Idx) a).val = ((ix3 p N l : S20x2176x128.Idx) a).val
    | 0 => by show 0 * 20 + 1 * p.val = p.val; omega
    | 1 => by show 0 * 64 + 1 * n.val = N.val; omega
    | 2 => by show 0 * 128 + 1 * l.val = l.val; omega
  exact congrArg (V m c main_arg4) (funext fun a => Fin.ext (key a))

/-- The new history as a formula of the arguments. -/
def histOf (c : Dev nD) : FVec Ideal S60x3x2560 .bf16 :=
  hist (m ((c : Thread nD τ).loc main_arg0)) (m ((c : Thread nD τ).loc main_arg3)) (m ((c : Thread nD τ).loc main_arg4))

/-- What a point leaves, whichever its case. -/
theorem outs15 (c : Dev nD) (t : Fin (cfgM m hO).N) :
    (outsAt0 m hO c t.val t.isLt).2.2.2.1 = block (grid0.coords t) (old4 m hO c t) (old5 m hO c t) (new6 m hO c t) := by
  by_cases h0 : t.val % 30 = 0
  · have e := outsAt0_A m hO c t h0
    generalize outsAt0 m hO c t.val t.isLt = o at e ⊢
    subst e
    dsimp only
    apply out15_A
  · have e := outsAt0_B m hO c t h0
    generalize outsAt0 m hO c t.val t.isLt = o at e ⊢
    subst e
    dsimp only
    apply out15_B

theorem block_hist (c : Dev nD) (t : Fin (cfgM m hO).N) (h : Named (tab m)) (r : Fin 2) (k : Fin 3) (q : Fin 2560) (b : Fin 60) (hb : b.val = 2 * t.val + r.val) :
    block (grid0.coords t) (old4 m hO c t) (old5 m hO c t) (new6 m hO c t) (ix3 r k q) = histOf m c (ix3 b k q) := by
  have hc : c = 0 := Subsingleton.elim _ _
  subst hc
  show step (if r.val = 0 then old4 m hO 0 t else old5 m hO 0 t) (new6 m hO 0 t) (seq (grid0.coords t) r) k q = _
  unfold step histOf hist
  have hN : b.val = (seq (grid0.coords t) r).val := by
    show b.val = 2 * (grid0.coords t 0).val + r.val
    rw [coord_eq]
    exact hb
  by_cases hk : k.val < 2
  · rw [dif_pos hk, dif_pos (show ((ix3 b k q : S60x3x2560.Idx) 1).val < 2 from hk)]
    by_cases hr : r.val = 0
    · rw [if_pos hr]
      exact iblk4_apply m hO 0 t ⟨b.val, by omega⟩ (by show b.val = _; omega) h _ q
    · rw [if_neg hr]
      exact iblk5_apply m hO 0 t ⟨b.val, by omega⟩ (by show b.val = _; omega) h _ q
  · rw [dif_neg hk, dif_neg (show ¬((ix3 b k q : S60x3x2560.Idx) 1).val < 2 from hk)]
    exact iblk6_apply m hO 0 t _ _ _ ⟨b.val, by omega⟩ hN

theorem emb15 (t : Fin (cfgM m hO).N) (y : S2x3x2560.Idx) :
    ((((cfgM m hO).win 15).blk t).view.emb y : S60x3x2560.Idx)
      = ix3 (⟨2 * t.val + (y 0).val, by have h : t.val < 30 := t.isLt; have : (y 0).val < 2 := (y 0).isLt; omega⟩ : Fin 60) (y 1) (y 2) := by
  have key : ∀ a : Fin 3, cc0_transform_15 (grid0.coords t) a * S2x3x2560.size a + 1 * (y a).val
      = ((ix3 (⟨2 * t.val + (y 0).val, by have h : t.val < 30 := t.isLt; have : (y 0).val < 2 := (y 0).isLt; omega⟩ : Fin 60) (y 1) (y 2) : S60x3x2560.Idx) a).val
    | 0 => by
      have e : cc0_transform_15 (grid0.coords t) 0 = t.val := (by decide +kernel : ∀ t : Fin grid0.N, cc0_transform_15 (grid0.coords t) 0 = t.val) t
      rw [e]
      show t.val * 2 + 1 * (y 0).val = 2 * t.val + (y 0).val
      omega
    | 1 => by show 0 * 3 + 1 * (y 1).val = (y 1).val; omega
    | 2 => by show 0 * 2560 + 1 * (y 2).val = (y 2).val; omega
  exact funext fun a => Fin.ext (key a)

/-- Every element lies in a block written back. -/
theorem cover15 (j : S60x3x2560.Idx) : ∃ t : Fin (cfgM m hO).N, ((cfgM m hO).win 15).flush t = true ∧ j ∈ (((cfgM m hO).win 15).blk t).view.set := by
  have h0 : (j 0).val < 60 := (j 0).isLt
  have ht : (j 0).val / 2 < (cfgM m hO).N := by show _ < 30; omega
  refine ⟨⟨(j 0).val / 2, ht⟩, flush0_15 _ _, ?_⟩
  have hm := View.emb_mem_set (((cfgM m hO).win 15).blk ⟨(j 0).val / 2, ht⟩).view (ix3 (⟨(j 0).val % 2, by omega⟩ : Fin 2) (j 1 : Fin 3) (j 2 : Fin 2560))
  have hj : ((((cfgM m hO).win 15).blk ⟨(j 0).val / 2, ht⟩).view.emb (ix3 (⟨(j 0).val % 2, by omega⟩ : Fin 2) (j 1 : Fin 3) (j 2 : Fin 2560)) : S60x3x2560.Idx) = j := by
    rw [emb15]
    funext a
    match a with
    | 0 => exact Fin.ext (by show 2 * ((j 0).val / 2) + (j 0).val % 2 = (j 0).val; omega)
    | 1 => rfl
    | 2 => rfl
  exact (congrArg (fun x : S60x3x2560.Idx => x ∈ (((cfgM m hO).win 15).blk ⟨(j 0).val / 2, ht⟩).view.set) hj).mp hm

/-- A point leaves the history's formula in its block. -/
theorem after15 (c : Dev nD) (h : Named (tab m)) (t : Fin (cfgM m hO).N) (y : S2x3x2560.Idx) :
    (dats m hO 0 c).after 15 t y = histOf m c ((((cfgM m hO).win 15).blk t).view.emb y) := by
  rw [after0_15, outs15]
  have hy : y = ix3 (y 0 : Fin 2) (y 1 : Fin 3) (y 2 : Fin 2560) := by funext a; fin_cases a <;> rfl
  refine (congrArg _ hy).trans ((block_hist m hO c t h (y 0) (y 1) (y 2)
    ⟨2 * t.val + (y 0).val, by have h : t.val < 30 := t.isLt; have : (y 0).val < 2 := (y 0).isLt; omega⟩ rfl).trans ?_)
  exact (congrArg (histOf m c) (emb15 m hO t y)).symm

theorem final15 (c : Dev nD) (h : Named (tab m)) : (dats m hO 0 c).arrAt 15 (cfgM m hO).N = histOf m c :=
  (dats m hO 0 c).arrAt_eq_of_emb 15 (histOf m c) (fun t _ y => after15 m hO c h t y) fun j => cover15 m hO j

/-- The run's fourth result is that history. -/
theorem run (h : Named (tab m)) : θ_run defs (onTc (τ := τ) (main (F := Ideal))) ⟨m, fun _ => 0, ρ⟩ fun r => ∀ c : Dev nD,
      r.2.mem ((c : Thread nD τ).loc main_v0_3) = histOf m c :=
  (θ_run defs _ _).mono (fun _ e c => ((e c).1 15).trans (final15 m (ok_of_named m h) c h)) (run_main m ρ (ok_of_named m h))

end Cert.DecIdeal.Gen

end
-- ==== Proof.Dec.Claim.lean ====
module

public import proofs.«01_k».proof.Defs
public import proofs.«01_k».proof.Proof.Dec.Value
public import proofs.«01_k».proof.Proof.Dec.RefValue

/-!
  The value claim of the decode step: the tiled program and the plain one end with the same new history, which is the formula
  `hist` of the arguments.
-/

@[expose] public section

set_option maxRecDepth 16384

noncomputable section

namespace Cert.DecClaim

open Idealize.ShloMosaic Idealize.ShloMosaic.TcCoe Idealize.SL.Sem

attribute [local instance] Cert.DecIdeal.Gen.facts Cert.DecRefIdeal.Gen.facts

theorem frame [Cert.Pre_slots_in_range.Facts] : Cert.quiescent_DecIdeal := fun m g h =>
  Cert.DecIdeal.Gen.frame m g (Cert.DecIdeal.Gen.ok_of_named m (Cert.DecIdeal.Gen.named_of_pre _ _ _ _ _ _ _ _ _ _ (h 0)))

theorem algebraic [Cert.Pre_slots_in_range.Facts] : Cert.algebraic_DecIdeal_DecRefIdeal := by
  intro m g m' g' hp hm
  have hn : Cert.DecIdeal.Gen.Named (Cert.DecIdeal.Gen.tab m) := Cert.DecIdeal.Gen.named_of_pre _ _ _ _ _ _ _ _ _ _ (hp 0)
  refine ⟨fun c => Cert.DecIdeal.Gen.histOf m c, ?_, ?_⟩
  · exact (θ_run _ _ _).mono (fun r h c => ⟨h.1 c, h.2 c⟩)
      (θ_run_and (Cert.DecIdeal.Gen.run m g hn) (Cert.DecIdeal.Gen.unchanged m g (Cert.DecIdeal.Gen.ok_of_named m hn)))
  · have key : ∀ c : Dev Cert.DecIdeal.nD, Cert.DecRefIdeal.Gen.hist (m' ((c.tc : Thread Cert.DecRefIdeal.nD Cert.DecRefIdeal.τ).loc Cert.DecRefIdeal.main_arg0))
        (m' ((c.tc : Thread Cert.DecRefIdeal.nD Cert.DecRefIdeal.τ).loc Cert.DecRefIdeal.main_arg3))
        (m' ((c.tc : Thread Cert.DecRefIdeal.nD Cert.DecRefIdeal.τ).loc Cert.DecRefIdeal.main_arg4)) = Cert.DecIdeal.Gen.histOf m c := by
      intro c
      obtain ⟨h0, h1, h2, h3, h4, -⟩ := hm c
      rw [h0, h3, h4]
      rfl
    exact (θ_run _ _ _).mono (fun r h c => ⟨(h.1 c).trans (key c), (h.2 c).2⟩)
      (θ_run_and (Cert.DecRefIdeal.Gen.run m' g') (Cert.DecRefIdeal.Value.run m' g'))

end Cert.DecClaim

end
-- ==== Proof.lean ====
module

public import proofs.«01_k».proof.Defs
public import proofs.«01_k».proof.Proof.Ffn.Bits
public import proofs.«01_k».proof.Proof.Ffn.Claim
public import proofs.«01_k».proof.Proof.Out.Bits
public import proofs.«01_k».proof.Proof.Out.Claim
public import proofs.«01_k».proof.Proof.Dec.Bits
public import proofs.«01_k».proof.Proof.Dec.Claim
public import proofs.«01_k».proof.Proof.Gen.Dec
public import proofs.«01_k».proof.Proof.Gen.DecIdeal.Frame
public import proofs.«01_k».proof.Proof.Gen.DecIdeal.Skeleton
public import proofs.«01_k».proof.Proof.Gen.DecRefIdeal.Run
public import proofs.«01_k».proof.Proof.Gen.Pre_slots_in_range
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.OutProj.Gen.facts, Cert.OutProjIdeal.Gen.facts, Cert.OutProjRefIdeal.Gen.facts,
  Cert.Dec.Gen.facts, Cert.DecIdeal.Gen.facts, Cert.DecRefIdeal.Gen.facts, Cert.Pre_slots_in_range.Gen.facts,
  Cert.FfnBits.frame,
  fun m g _ => Cert.FfnIdeal.Gen.frame m g,
  fun m g _ => Cert.FfnRefIdeal.Gen.frame m g,
  Cert.OutBits.frame,
  fun m g _ => Cert.OutProjIdeal.Gen.frame m g,
  fun m g _ => Cert.OutProjRefIdeal.Gen.frame m g,
  letI := Cert.Pre_slots_in_range.Gen.facts; Cert.DecBits.frame,
  letI := Cert.Pre_slots_in_range.Gen.facts; Cert.DecClaim.frame,
  fun m g _ => Cert.DecRefIdeal.Gen.frame m g,
  fun m g _ => Cert.DecRefIdeal.Gen.frame m g,
  trivial,
  Cert.FfnClaim.algebraic,
  trivial,
  Cert.OutClaim.algebraic,
  trivial,
  letI := Cert.Pre_slots_in_range.Gen.facts; Cert.DecClaim.algebraic⟩

end Cert.Proof

end
